-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_finite_mla [hPre_finite_mla : Cert.Pre_finite_mla.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_finite_mla.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4)) (m ((c.tc : Thread Cert.MlaReferenceIdeal.nD Cert.MlaReferenceIdeal.τ).loc Cert.MlaReferenceIdeal.main_arg5)) (m ((c.tc : Thread Cert.MlaReferenceIdeal.nD Cert.MlaReferenceIdeal.τ).loc Cert.MlaReferenceIdeal.main_arg6)) (m ((c.tc : Thread Cert.MlaReferenceIdeal.nD Cert.MlaReferenceIdeal.τ).loc Cert.MlaReferenceIdeal.main_arg7))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7))
      ∧ r.2.sem = fun _ => 0)

def quiescent_MlaReferenceIdeal_pre_finite_mla [hMlaReferenceIdeal : Cert.MlaReferenceIdeal.Facts] [hPre_finite_mla : Cert.Pre_finite_mla.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_finite_mla m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v95) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)
      ∧ m' ((c.tc : Thread Cert.OutReferenceIdeal.nD Cert.OutReferenceIdeal.τ).loc Cert.OutReferenceIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v36) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def preserves_Mla_MlaIdeal : Prop :=
  IdealRules.named_const.Statement Cert.MlaIdeal.κ "scale_mla_log2e" .f32 0x3DD53B95#32 (((Real.sqrt 192)⁻¹ * (Real.log 2)⁻¹ : ℝ) : EReal)

def algebraic_MlaIdeal_MlaReferenceIdeal_pre_finite_mla [hMlaIdeal : Cert.MlaIdeal.Facts] [hMlaReferenceIdeal : Cert.MlaReferenceIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_finite_mla m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)
      ∧ m' ((c.tc : Thread Cert.MlaReferenceIdeal.nD Cert.MlaReferenceIdeal.τ).loc Cert.MlaReferenceIdeal.main_arg4) = m ((c.tc : Thread Cert.MlaIdeal.nD Cert.MlaIdeal.τ).loc Cert.MlaIdeal.main_arg4)
      ∧ m' ((c.tc : Thread Cert.MlaReferenceIdeal.nD Cert.MlaReferenceIdeal.τ).loc Cert.MlaReferenceIdeal.main_arg5) = m ((c.tc : Thread Cert.MlaIdeal.nD Cert.MlaIdeal.τ).loc Cert.MlaIdeal.main_arg5)
      ∧ m' ((c.tc : Thread Cert.MlaReferenceIdeal.nD Cert.MlaReferenceIdeal.τ).loc Cert.MlaReferenceIdeal.main_arg6) = m ((c.tc : Thread Cert.MlaIdeal.nD Cert.MlaIdeal.τ).loc Cert.MlaIdeal.main_arg6)
      ∧ m' ((c.tc : Thread Cert.MlaReferenceIdeal.nD Cert.MlaReferenceIdeal.τ).loc Cert.MlaReferenceIdeal.main_arg7) = m ((c.tc : Thread Cert.MlaIdeal.nD Cert.MlaIdeal.τ).loc Cert.MlaIdeal.main_arg7)) →
    ∃ (v0 : (c : Dev Cert.MlaIdeal.nD) → Buf (Elt Ideal) ((c.tc : Thread Cert.MlaIdeal.nD Cert.MlaIdeal.τ).loc Cert.MlaIdeal.main_v24)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v24) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v23) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v5)) (v1 : (c : Dev Cert.AdaIdeal.nD) → Buf (Elt Ideal) ((c.tc : Thread Cert.AdaIdeal.nD Cert.AdaIdeal.τ).loc Cert.AdaIdeal.main_v7)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v5) = v0 c
          ∧ r.2.mem ((c.tc : Thread Cert.AdaIdeal.nD Cert.AdaIdeal.τ).loc Cert.AdaIdeal.main_v7) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v20) = v0 c
          ∧ r.2.mem ((c.tc : Thread Cert.AdaReferenceIdeal.nD Cert.AdaReferenceIdeal.τ).loc Cert.AdaReferenceIdeal.main_v37) = v1 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v83_0)) (v1 : (c : Dev Cert.ProjIdeal.nD) → Buf (Elt Ideal) ((c.tc : Thread Cert.ProjIdeal.nD Cert.ProjIdeal.τ).loc Cert.ProjIdeal.main_v83_1)) (v2 : (c : Dev Cert.ProjIdeal.nD) → Buf (Elt Ideal) ((c.tc : Thread Cert.ProjIdeal.nD Cert.ProjIdeal.τ).loc Cert.ProjIdeal.main_v83_2)) (v3 : (c : Dev Cert.ProjIdeal.nD) → Buf (Elt Ideal) ((c.tc : Thread Cert.ProjIdeal.nD Cert.ProjIdeal.τ).loc Cert.ProjIdeal.main_v83_5)) (v4 : (c : Dev Cert.ProjIdeal.nD) → Buf (Elt Ideal) ((c.tc : Thread Cert.ProjIdeal.nD Cert.ProjIdeal.τ).loc Cert.ProjIdeal.main_v83_8)) (v5 : (c : Dev Cert.ProjIdeal.nD) → Buf (Elt Ideal) ((c.tc : Thread Cert.ProjIdeal.nD Cert.ProjIdeal.τ).loc Cert.ProjIdeal.main_v83_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v83_0) = v0 c
          ∧ r.2.mem ((c.tc : Thread Cert.ProjIdeal.nD Cert.ProjIdeal.τ).loc Cert.ProjIdeal.main_v83_1) = v1 c
          ∧ r.2.mem ((c.tc : Thread Cert.ProjIdeal.nD Cert.ProjIdeal.τ).loc Cert.ProjIdeal.main_v83_2) = v2 c
          ∧ r.2.mem ((c.tc : Thread Cert.ProjIdeal.nD Cert.ProjIdeal.τ).loc Cert.ProjIdeal.main_v83_5) = v3 c
          ∧ r.2.mem ((c.tc : Thread Cert.ProjIdeal.nD Cert.ProjIdeal.τ).loc Cert.ProjIdeal.main_v83_8) = v4 c
          ∧ r.2.mem ((c.tc : Thread Cert.ProjIdeal.nD Cert.ProjIdeal.τ).loc Cert.ProjIdeal.main_v83_11) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v60) = v0 c
          ∧ r.2.mem ((c.tc : Thread Cert.ProjReferenceIdeal.nD Cert.ProjReferenceIdeal.τ).loc Cert.ProjReferenceIdeal.main_v61) = v1 c
          ∧ r.2.mem ((c.tc : Thread Cert.ProjReferenceIdeal.nD Cert.ProjReferenceIdeal.τ).loc Cert.ProjReferenceIdeal.main_v63) = v2 c
          ∧ r.2.mem ((c.tc : Thread Cert.ProjReferenceIdeal.nD Cert.ProjReferenceIdeal.τ).loc Cert.ProjReferenceIdeal.main_v65) = v3 c
          ∧ r.2.mem ((c.tc : Thread Cert.ProjReferenceIdeal.nD Cert.ProjReferenceIdeal.τ).loc Cert.ProjReferenceIdeal.main_v70) = v4 c
          ∧ r.2.mem ((c.tc : Thread Cert.ProjReferenceIdeal.nD Cert.ProjReferenceIdeal.τ).loc Cert.ProjReferenceIdeal.main_v72) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOut : Cert.Out.Facts) (hOutIdeal : Cert.OutIdeal.Facts) (hOutReferenceIdeal : Cert.OutReferenceIdeal.Facts) (hMla : Cert.Mla.Facts) (hMlaIdeal : Cert.MlaIdeal.Facts) (hMlaReferenceIdeal : Cert.MlaReferenceIdeal.Facts) (hAda : Cert.Ada.Facts) (hAdaIdeal : Cert.AdaIdeal.Facts) (hAdaReferenceIdeal : Cert.AdaReferenceIdeal.Facts) (hProj : Cert.Proj.Facts) (hProjIdeal : Cert.ProjIdeal.Facts) (hProjReferenceIdeal : Cert.ProjReferenceIdeal.Facts) (hPre_finite : Cert.Pre_finite.Facts) (hPre_finite_ffn : Cert.Pre_finite_ffn.Facts) (hPre_finite_mla : Cert.Pre_finite_mla.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_Out (hOut := hOut)
    ∧ quiescent_OutIdeal (hOutIdeal := hOutIdeal)
    ∧ quiescent_OutReferenceIdeal (hOutReferenceIdeal := hOutReferenceIdeal)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaReferenceIdeal (hMlaReferenceIdeal := hMlaReferenceIdeal)
    ∧ quiescent_MlaReferenceIdeal_pre_finite_mla (hMlaReferenceIdeal := hMlaReferenceIdeal) (hPre_finite_mla := hPre_finite_mla)
    ∧ quiescent_Ada (hAda := hAda)
    ∧ quiescent_AdaIdeal (hAdaIdeal := hAdaIdeal)
    ∧ quiescent_AdaReferenceIdeal (hAdaReferenceIdeal := hAdaReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_Out_OutIdeal
    ∧ algebraic_OutIdeal_OutReferenceIdeal (hOutIdeal := hOutIdeal) (hOutReferenceIdeal := hOutReferenceIdeal)
    ∧ preserves_Mla_MlaIdeal
    ∧ algebraic_MlaIdeal_MlaReferenceIdeal_pre_finite_mla (hMlaIdeal := hMlaIdeal) (hMlaReferenceIdeal := hMlaReferenceIdeal) (hPre_finite_mla := hPre_finite_mla)
    ∧ preserves_Ada_AdaIdeal
    ∧ algebraic_AdaIdeal_AdaReferenceIdeal (hAdaIdeal := hAdaIdeal) (hAdaReferenceIdeal := hAdaReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S4x4x4096x128 : Shape := ⟨4, ![4, 4, 4096, 128]⟩
abbrev S4x2x4096x128 : Shape := ⟨4, ![4, 2, 4096, 128]⟩
abbrev S4x2x256x128 : Shape := ⟨4, ![4, 2, 256, 128]⟩
abbrev S_ : Shape := ⟨0, ![]⟩

class Facts : Prop where
  bcast_S_S4x4x4096x128 : S_.BroadcastsInDim S4x4x4096x128 (![] : Fin 0 → Fin S4x4x4096x128.rank)
  reducesTo_S4x4x4096x128_S_d0_1_2_3 : S4x4x4096x128.ReducesTo [0, 1, 2, 3] S_
  h_S_ : 0 < S_.numel
  bcast_S_S4x2x4096x128 : S_.BroadcastsInDim S4x2x4096x128 (![] : Fin 0 → Fin S4x2x4096x128.rank)
  reducesTo_S4x2x4096x128_S_d0_1_2_3 : S4x2x4096x128.ReducesTo [0, 1, 2, 3] S_
  bcast_S_S4x2x256x128 : S_.BroadcastsInDim S4x2x256x128 (![] : Fin 0 → Fin S4x2x256x128.rank)
  reducesTo_S4x2x256x128_S_d0_1_2_3 : S4x2x256x128.ReducesTo [0, 1, 2, 3] S_

variable [Facts]

def fn {F : FTy → Type} [FloatOps F] (main_arg0 : FVec F S4x4x4096x128 .f32) (main_arg1 : FVec F S4x2x4096x128 .f32) (main_arg2 : FVec F S4x2x4096x128 .f32) (main_arg3 : FVec F S4x2x256x128 .f32) (main_arg4 : FVec F S4x2x256x128 .f32) : IVec S_ 1 :=
  let main_v0 : FVec F S4x4x4096x128 .f32 := Host.absf main_arg0
  let main_cst : FVec F S_ .f32 := constant S_ .f32 0x7F800000#32
  let main_v1 : FVec F S4x4x4096x128 .f32 := broadcastInDim S4x4x4096x128 ![] bcast_S_S4x4x4096x128 main_cst
  let main_v2 : IVec S4x4x4096x128 1 := cmpf .olt main_v0 main_v1
  let main_c : IVec S_ 1 := constantI S_ 1 1#1
  let main_v3 : IVec S_ 1 := (fun x v => Host.reduce IntOp.andi x v reducesTo_S4x4x4096x128_S_d0_1_2_3 h_S_) main_v2 main_c
  let main_v4 : FVec F S4x2x4096x128 .f32 := Host.absf main_arg1
  let main_cst_0 : FVec F S_ .f32 := constant S_ .f32 0x7F800000#32
  let main_v5 : FVec F S4x2x4096x128 .f32 := broadcastInDim S4x2x4096x128 ![] bcast_S_S4x2x4096x128 main_cst_0
  let main_v6 : IVec S4x2x4096x128 1 := cmpf .olt main_v4 main_v5
  let main_c_1 : IVec S_ 1 := constantI S_ 1 1#1
  let main_v7 : IVec S_ 1 := (fun x v => Host.reduce IntOp.andi x v reducesTo_S4x2x4096x128_S_d0_1_2_3 h_S_) main_v6 main_c_1
  let main_v8 : IVec S_ 1 := andi main_v3 main_v7
  let main_v9 : FVec F S4x2x256x128 .f32 := Host.absf main_arg3
  let main_cst_2 : FVec F S_ .f32 := constant S_ .f32 0x7F800000#32
  let main_v10 : FVec F S4x2x256x128 .f32 := broadcastInDim S4x2x256x128 ![] bcast_S_S4x2x256x128 main_cst_2
  let main_v11 : IVec S4x2x256x128 1 := cmpf .olt main_v9 main_v10
  let main_c_3 : IVec S_ 1 := constantI S_ 1 1#1
  let main_v12 : IVec S_ 1 := (fun x v => Host.reduce IntOp.andi x v reducesTo_S4x2x256x128_S_d0_1_2_3 h_S_) main_v11 main_c_3
  let main_v13 : IVec S_ 1 := andi main_v8 main_v12
  main_v13
-- ==== Pre_finite_ffn.lean ====
abbrev S4x4096x2048 : Shape := ⟨3, ![4, 4096, 2048]⟩
abbrev S4x1x2048 : Shape := ⟨3, ![4, 1, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2x2048 : Shape := ⟨2, ![2, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x1x2048 : S_.BroadcastsInDim S4x1x2048 (![] : Fin 0 → Fin S4x1x2048.rank)
  reducesTo_S4x1x2048_S_d0_1_2 : S4x1x2048.ReducesTo [0, 1, 2] S_
  bcast_S_S2x2048x5632 : S_.BroadcastsInDim S2x2048x5632 (![] : Fin 0 → Fin S2x2048x5632.rank)
  reducesTo_S2x2048x5632_S_d0_1_2 : S2x2048x5632.ReducesTo [0, 1, 2] S_
  bcast_S_S2x3x5632 : S_.BroadcastsInDim S2x3x5632 (![] : Fin 0 → Fin S2x3x5632.rank)
  reducesTo_S2x3x5632_S_d0_1_2 : S2x3x5632.ReducesTo [0, 1, 2] S_
  bcast_S_S2x5632 : S_.BroadcastsInDim S2x5632 (![] : Fin 0 → Fin S2x5632.rank)
  reducesTo_S2x5632_S_d0_1 : S2x5632.ReducesTo [0, 1] S_
  bcast_S_S2x5632x2048 : S_.BroadcastsInDim S2x5632x2048 (![] : Fin 0 → Fin S2x5632x2048.rank)
  reducesTo_S2x5632x2048_S_d0_1_2 : S2x5632x2048.ReducesTo [0, 1, 2] S_

variable [Facts]

def fn_part2 {F : FTy → Type} [FloatOps F] (main_arg7 : FVec F S2x5632 .f32) (main_arg8 : FVec F S2x5632x2048 .f32) (main_v33 : IVec S_ 1) : IVec S_ 1 :=
  let main_v34 : FVec F S2x5632 .f32 := Host.absf main_arg7
  let main_cst_12 : FVec F S_ .f32 := constant S_ .f32 0x7F800000#32
  let main_v35 : FVec F S2x5632 .f32 := broadcastInDim S2x5632 ![] bcast_S_S2x5632 main_cst_12
  let main_v36 : IVec S2x5632 1 := cmpf .olt main_v34 main_v35
  let main_c_13 : IVec S_ 1 := constantI S_ 1 1#1
  let main_v37 : IVec S_ 1 := (fun x v => Host.reduce IntOp.andi x v reducesTo_S2x5632_S_d0_1 h_S_) main_v36 main_c_13
  let main_v38 : IVec S_ 1 := andi main_v33 main_v37
  let main_v39 : FVec F S2x5632x2048 .f32 := Host.absf main_arg8
  let main_cst_14 : FVec F S_ .f32 := constant S_ .f32 0x7F800000#32
  let main_v40 : FVec F S2x5632x2048 .f32 := broadcastInDim S2x5632x2048 ![] bcast_S_S2x5632x2048 main_cst_14
  let main_v41 : IVec S2x5632x2048 1 := cmpf .olt main_v39 main_v40
  let main_c_15 : IVec S_ 1 := constantI S_ 1 1#1
  let main_v42 : IVec S_ 1 := (fun x v => Host.reduce IntOp.andi x v reducesTo_S2x5632x2048_S_d0_1_2 h_S_) main_v41 main_c_15
  let main_v43 : IVec S_ 1 := andi main_v38 main_v42
  main_v43

def fn_part1 {F : FTy → Type} [FloatOps F] (main_arg4 : FVec F S2x2048x5632 .f32) (main_arg5 : FVec F S2x2048x5632 .f32) (main_arg6 : FVec F S2x3x5632 .f32) (main_arg7 : FVec F S2x5632 .f32) (main_arg8 : FVec F S2x5632x2048 .f32) (main_v13 : IVec S_ 1) (main_v16 : IVec S4x1x2048 1) : IVec S_ 1 :=
  let main_c_5 : IVec S_ 1 := constantI S_ 1 1#1
  let main_v17 : IVec S_ 1 := (fun x v => Host.reduce IntOp.andi x v reducesTo_S4x1x2048_S_d0_1_2 h_S_) main_v16 main_c_5
  let main_v18 : IVec S_ 1 := andi main_v13 main_v17
  let main_v19 : FVec F S2x2048x5632 .f32 := Host.absf main_arg4
  let main_cst_6 : FVec F S_ .f32 := constant S_ .f32 0x7F800000#32
  let main_v20 : FVec F S2x2048x5632 .f32 := broadcastInDim S2x2048x5632 ![] bcast_S_S2x2048x5632 main_cst_6
  let main_v21 : IVec S2x2048x5632 1 := cmpf .olt main_v19 main_v20
  let main_c_7 : IVec S_ 1 := constantI S_ 1 1#1
  let main_v22 : IVec S_ 1 := (fun x v => Host.reduce IntOp.andi x v reducesTo_S2x2048x5632_S_d0_1_2 h_S_) main_v21 main_c_7
  let main_v23 : IVec S_ 1 := andi main_v18 main_v22
  let main_v24 : FVec F S2x2048x5632 .f32 := Host.absf main_arg5
  let main_cst_8 : FVec F S_ .f32 := constant S_ .f32 0x7F800000#32
  let main_v25 : FVec F S2x2048x5632 .f32 := broadcastInDim S2x2048x5632 ![] bcast_S_S2x2048x5632 main_cst_8
  let main_v26 : IVec S2x2048x5632 1 := cmpf .olt main_v24 main_v25
  let main_c_9 : IVec S_ 1 := constantI S_ 1 1#1
  let main_v27 : IVec S_ 1 := (fun x v => Host.reduce IntOp.andi x v reducesTo_S2x2048x5632_S_d0_1_2 h_S_) main_v26 main_c_9
  let main_v28 : IVec S_ 1 := andi main_v23 main_v27
  let main_v29 : FVec F S2x3x5632 .f32 := Host.absf main_arg6
  let main_cst_10 : FVec F S_ .f32 := constant S_ .f32 0x7F800000#32
  let main_v30 : FVec F S2x3x5632 .f32 := broadcastInDim S2x3x5632 ![] bcast_S_S2x3x5632 main_cst_10
  let main_v31 : IVec S2x3x5632 1 := cmpf .olt main_v29 main_v30
  let main_c_11 : IVec S_ 1 := constantI S_ 1 1#1
  let main_v32 : IVec S_ 1 := (fun x v => Host.reduce IntOp.andi x v reducesTo_S2x3x5632_S_d0_1_2 h_S_) main_v31 main_c_11
  let main_v33 : IVec S_ 1 := andi main_v28 main_v32
  fn_part2 (F := F) main_arg7 main_arg8 main_v33

def fn {F : FTy → Type} [FloatOps F] (main_arg0 : FVec F S4x4096x2048 .f32) (main_arg1 : FVec F S4x1x2048 .f32) (main_arg2 : FVec F S4x1x2048 .f32) (main_arg3 : FVec F S4x1x2048 .f32) (main_arg4 : FVec F S2x2048x5632 .f32) (main_arg5 : FVec F S2x2048x5632 .f32) (main_arg6 : FVec F S2x3x5632 .f32) (main_arg7 : FVec F S2x5632 .f32) (main_arg8 : FVec F S2x5632x2048 .f32) (main_arg9 : FVec F S2x2048 .f32) (main_arg10 : FVec F S2x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x1x2048 .f32 := Host.absf main_arg1
  let main_cst_0 : FVec F S_ .f32 := constant S_ .f32 0x7F800000#32
  let main_v5 : FVec F S4x1x2048 .f32 := broadcastInDim S4x1x2048 ![] bcast_S_S4x1x2048 main_cst_0
  let main_v6 : IVec S4x1x2048 1 := cmpf .olt main_v4 main_v5
  let main_c_1 : IVec S_ 1 := constantI S_ 1 1#1
  let main_v7 : IVec S_ 1 := (fun x v => Host.reduce IntOp.andi x v reducesTo_S4x1x2048_S_d0_1_2 h_S_) main_v6 main_c_1
  let main_v8 : IVec S_ 1 := andi main_v3 main_v7
  let main_v9 : FVec F S4x1x2048 .f32 := Host.absf main_arg2
  let main_cst_2 : FVec F S_ .f32 := constant S_ .f32 0x7F800000#32
  let main_v10 : FVec F S4x1x2048 .f32 := broadcastInDim S4x1x2048 ![] bcast_S_S4x1x2048 main_cst_2
  let main_v11 : IVec S4x1x2048 1 := cmpf .olt main_v9 main_v10
  let main_c_3 : IVec S_ 1 := constantI S_ 1 1#1
  let main_v12 : IVec S_ 1 := (fun x v => Host.reduce IntOp.andi x v reducesTo_S4x1x2048_S_d0_1_2 h_S_) main_v11 main_c_3
  let main_v13 : IVec S_ 1 := andi main_v8 main_v12
  let main_v14 : FVec F S4x1x2048 .f32 := Host.absf main_arg3
  let main_cst_4 : FVec F S_ .f32 := constant S_ .f32 0x7F800000#32
  let main_v15 : FVec F S4x1x2048 .f32 := broadcastInDim S4x1x2048 ![] bcast_S_S4x1x2048 main_cst_4
  let main_v16 : IVec S4x1x2048 1 := cmpf .olt main_v14 main_v15
  fn_part1 (F := F) main_arg4 main_arg5 main_arg6 main_arg7 main_arg8 main_v13 main_v16
-- ==== Pre_finite_mla.lean ====
abbrev S4x4x4096x128 : Shape := ⟨4, ![4, 4, 4096, 128]⟩
abbrev S4x4x4096x64 : Shape := ⟨4, ![4, 4, 4096, 64]⟩
abbrev S4x4096x64 : Shape := ⟨3, ![4, 4096, 64]⟩
abbrev S4x4x256x128 : Shape := ⟨4, ![4, 4, 256, 128]⟩
abbrev S4x256x64 : Shape := ⟨3, ![4, 256, 64]⟩
abbrev S_ : Shape := ⟨0, ![]⟩

class Facts : Prop where
  bcast_S_S4x4x4096x128 : S_.BroadcastsInDim S4x4x4096x128 (![] : Fin 0 → Fin S4x4x4096x128.rank)
  reducesTo_S4x4x4096x128_S_d0_1_2_3 : S4x4x4096x128.ReducesTo [0, 1, 2, 3] S_
  h_S_ : 0 < S_.numel
  bcast_S_S4x4x4096x64 : S_.BroadcastsInDim S4x4x4096x64 (![] : Fin 0 → Fin S4x4x4096x64.rank)
  reducesTo_S4x4x4096x64_S_d0_1_2_3 : S4x4x4096x64.ReducesTo [0, 1, 2, 3] S_
  bcast_S_S4x4096x64 : S_.BroadcastsInDim S4x4096x64 (![] : Fin 0 → Fin S4x4096x64.rank)
  reducesTo_S4x4096x64_S_d0_1_2 : S4x4096x64.ReducesTo [0, 1, 2] S_
  bcast_S_S4x4x256x128 : S_.BroadcastsInDim S4x4x256x128 (![] : Fin 0 → Fin S4x4x256x128.rank)
  reducesTo_S4x4x256x128_S_d0_1_2_3 : S4x4x256x128.ReducesTo [0, 1, 2, 3] S_
  bcast_S_S4x256x64 : S_.BroadcastsInDim S4x256x64 (![] : Fin 0 → Fin S4x256x64.rank)
  reducesTo_S4x256x64_S_d0_1_2 : S4x256x64.ReducesTo [0, 1, 2] S_

variable [Facts]

def fn_part1 {F : FTy → Type} [FloatOps F] (main_arg5 : FVec F S4x4x256x128 .f32) (main_arg6 : FVec F S4x256x64 .f32) (main_v13 : IVec S_ 1) (main_v16 : IVec S4x4096x64 1) : IVec S_ 1 :=
  let main_c_5 : IVec S_ 1 := constantI S_ 1 1#1
  let main_v17 : IVec S_ 1 := (fun x v => Host.reduce IntOp.andi x v reducesTo_S4x4096x64_S_d0_1_2 h_S_) main_v16 main_c_5
  let main_v18 : IVec S_ 1 := andi main_v13 main_v17
  let main_v19 : FVec F S4x4x256x128 .f32 := Host.absf main_arg5
  let main_cst_6 : FVec F S_ .f32 := constant S_ .f32 0x7F800000#32
  let main_v20 : FVec F S4x4x256x128 .f32 := broadcastInDim S4x4x256x128 ![] bcast_S_S4x4x256x128 main_cst_6
  let main_v21 : IVec S4x4x256x128 1 := cmpf .olt main_v19 main_v20
  let main_c_7 : IVec S_ 1 := constantI S_ 1 1#1
  let main_v22 : IVec S_ 1 := (fun x v => Host.reduce IntOp.andi x v reducesTo_S4x4x256x128_S_d0_1_2_3 h_S_) main_v21 main_c_7
  let main_v23 : IVec S_ 1 := andi main_v18 main_v22
  let main_v24 : FVec F S4x256x64 .f32 := Host.absf main_arg6
  let main_cst_8 : FVec F S_ .f32 := constant S_ .f32 0x7F800000#32
  let main_v25 : FVec F S4x256x64 .f32 := broadcastInDim S4x256x64 ![] bcast_S_S4x256x64 main_cst_8
  let main_v26 : IVec S4x256x64 1 := cmpf .olt main_v24 main_v25
  let main_c_9 : IVec S_ 1 := constantI S_ 1 1#1
  let main_v27 : IVec S_ 1 := (fun x v => Host.reduce IntOp.andi x v reducesTo_S4x256x64_S_d0_1_2 h_S_) main_v26 main_c_9
  let main_v28 : IVec S_ 1 := andi main_v23 main_v27
  main_v28

def fn {F : FTy → Type} [FloatOps F] (main_arg0 : FVec F S4x4x4096x128 .f32) (main_arg1 : FVec F S4x4x4096x64 .f32) (main_arg2 : FVec F S4x4x4096x128 .f32) (main_arg3 : FVec F S4x4096x64 .f32) (main_arg4 : FVec F S4x4x4096x128 .f32) (main_arg5 : FVec F S4x4x256x128 .f32) (main_arg6 : FVec F S4x256x64 .f32) (main_arg7 : FVec F S4x4x256x128 .f32) : IVec S_ 1 :=
  let main_v0 : FVec F S4x4x4096x128 .f32 := Host.absf main_arg0
  let main_cst : FVec F S_ .f32 := constant S_ .f32 0x7F800000#32
  let main_v1 : FVec F S4x4x4096x128 .f32 := broadcastInDim S4x4x4096x128 ![] bcast_S_S4x4x4096x128 main_cst
  let main_v2 : IVec S4x4x4096x128 1 := cmpf .olt main_v0 main_v1
  let main_c : IVec S_ 1 := constantI S_ 1 1#1
  let main_v3 : IVec S_ 1 := (fun x v => Host.reduce IntOp.andi x v reducesTo_S4x4x4096x128_S_d0_1_2_3 h_S_) main_v2 main_c
  let main_v4 : FVec F S4x4x4096x64 .f32 := Host.absf main_arg1
  let main_cst_0 : FVec F S_ .f32 := constant S_ .f32 0x7F800000#32
  let main_v5 : FVec F S4x4x4096x64 .f32 := broadcastInDim S4x4x4096x64 ![] bcast_S_S4x4x4096x64 main_cst_0
  let main_v6 : IVec S4x4x4096x64 1 := cmpf .olt main_v4 main_v5
  let main_c_1 : IVec S_ 1 := constantI S_ 1 1#1
  let main_v7 : IVec S_ 1 := (fun x v => Host.reduce IntOp.andi x v reducesTo_S4x4x4096x64_S_d0_1_2_3 h_S_) main_v6 main_c_1
  let main_v8 : IVec S_ 1 := andi main_v3 main_v7
  let main_v9 : FVec F S4x4x4096x128 .f32 := Host.absf main_arg2
  let main_cst_2 : FVec F S_ .f32 := constant S_ .f32 0x7F800000#32
  let main_v10 : FVec F S4x4x4096x128 .f32 := broadcastInDim S4x4x4096x128 ![] bcast_S_S4x4x4096x128 main_cst_2
  let main_v11 : IVec S4x4x4096x128 1 := cmpf .olt main_v9 main_v10
  let main_c_3 : IVec S_ 1 := constantI S_ 1 1#1
  let main_v12 : IVec S_ 1 := (fun x v => Host.reduce IntOp.andi x v reducesTo_S4x4x4096x128_S_d0_1_2_3 h_S_) main_v11 main_c_3
  let main_v13 : IVec S_ 1 := andi main_v8 main_v12
  let main_v14 : FVec F S4x4096x64 .f32 := Host.absf main_arg3
  let main_cst_4 : FVec F S_ .f32 := constant S_ .f32 0x7F800000#32
  let main_v15 : FVec F S4x4096x64 .f32 := broadcastInDim S4x4096x64 ![] bcast_S_S4x4096x64 main_cst_4
  let main_v16 : IVec S4x4096x64 1 := cmpf .olt main_v14 main_v15
  fn_part1 (F := F) main_arg5 main_arg6 main_v13 main_v16
-- ==== Kernel.lean ====
abbrev S4x4x4096x128 : Shape := ⟨4, ![4, 4, 4096, 128]⟩
abbrev S4x2x4096x128 : Shape := ⟨4, ![4, 2, 4096, 128]⟩
abbrev S4x2x256x128 : Shape := ⟨4, ![4, 2, 256, 128]⟩
abbrev S4x4x128x4096 : Shape := ⟨4, ![4, 4, 128, 4096]⟩
abbrev S4x512x4096 : Shape := ⟨3, ![4, 512, 4096]⟩
abbrev S4x4096x2x128 : Shape := ⟨4, ![4, 4096, 2, 128]⟩
abbrev S4x4096x256 : Shape := ⟨3, ![4, 4096, 256]⟩
abbrev S4x2x128x4096 : Shape := ⟨4, ![4, 2, 128, 4096]⟩
abbrev S4x256x4096 : Shape := ⟨3, ![4, 256, 4096]⟩
abbrev S4x256x2x128 : Shape := ⟨4, ![4, 256, 2, 128]⟩
abbrev S4x256x256 : Shape := ⟨3, ![4, 256, 256]⟩
abbrev S4x2x128x256 : Shape := ⟨4, ![4, 2, 128, 256]⟩
abbrev S4x4096x512 : Shape := ⟨3, ![4, 4096, 512]⟩
abbrev S1x128x1024 : Shape := ⟨3, ![1, 128, 1024]⟩
abbrev S1x4096x128 : Shape := ⟨3, ![1, 4096, 128]⟩
abbrev S1x128x4096 : Shape := ⟨3, ![1, 128, 4096]⟩
abbrev S1x256x128 : Shape := ⟨3, ![1, 256, 128]⟩
abbrev S1x128x256 : Shape := ⟨3, ![1, 128, 256]⟩
abbrev S1x1024x128 : Shape := ⟨3, ![1, 1024, 128]⟩
abbrev S128x1024 : Shape := ⟨2, ![128, 1024]⟩
abbrev S1x1024 : Shape := ⟨2, ![1, 1024]⟩
abbrev S144x1024 : Shape := ⟨2, ![144, 1024]⟩
abbrev S1x512x128 : Shape := ⟨3, ![1, 512, 128]⟩
abbrev S512x128 : Shape := ⟨2, ![512, 128]⟩
abbrev S512x1024 : Shape := ⟨2, ![512, 1024]⟩
abbrev S1024 : Shape := ⟨1, ![1024]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S256x128 : Shape := ⟨2, ![256, 128]⟩
abbrev S256x1024 : Shape := ⟨2, ![256, 1024]⟩
abbrev S128x256 : Shape := ⟨2, ![128, 256]⟩
abbrev S16x256 : Shape := ⟨2, ![16, 256]⟩
abbrev S144x256 : Shape := ⟨2, ![144, 256]⟩
abbrev S1024x128 : Shape := ⟨2, ![1024, 128]⟩

abbrev nBuf : Space → Nat
  | .hbm => 20
  | .vmem => 12
  | .smem => 0
  | _ => 0

abbrev bufTy : (tb : Table) → Fin (tcTables nBuf tb) → BufTy
  | .hbm, ⟨0, _⟩ => ⟨S4x4x4096x128, .f32⟩
  | .hbm, ⟨1, _⟩ => ⟨S4x2x4096x128, .f32⟩
  | .hbm, ⟨2, _⟩ => ⟨S4x2x4096x128, .f32⟩
  | .hbm, ⟨3, _⟩ => ⟨S4x2x256x128, .f32⟩
  | .hbm, ⟨4, _⟩ => ⟨S4x2x256x128, .f32⟩
  | .hbm, ⟨5, _⟩ => ⟨S4x4x128x4096, .f32⟩
  | .hbm, ⟨6, _⟩ => ⟨S4x512x4096, .f32⟩
  | .hbm, ⟨7, _⟩ => ⟨S4x4096x2x128, .f32⟩
  | .hbm, ⟨8, _⟩ => ⟨S4x4096x256, .f32⟩
  | .hbm, ⟨9, _⟩ => ⟨S4x4096x256, .bf16⟩
  | .hbm, ⟨10, _⟩ => ⟨S4x2x128x4096, .f32⟩
  | .hbm, ⟨11, _⟩ => ⟨S4x256x4096, .f32⟩
  | .hbm, ⟨12, _⟩ => ⟨S4x256x4096, .bf16⟩
  | .hbm, ⟨13, _⟩ => ⟨S4x256x2x128, .f32⟩
  | .hbm, ⟨14, _⟩ => ⟨S4x256x256, .f32⟩
  | .hbm, ⟨15, _⟩ => ⟨S4x256x256, .bf16⟩
  | .hbm, ⟨16, _⟩ => ⟨S4x2x128x256, .f32⟩
  | .hbm, ⟨17, _⟩ => ⟨S4x256x256, .f32⟩
  | .hbm, ⟨18, _⟩ => ⟨S4x256x256, .bf16⟩
  | .hbm, ⟨19, _⟩ => ⟨S4x4096x512, .bf16⟩
  | .local _ .vmem, ⟨0, _⟩ => ⟨S1x128x1024, .f32⟩
  | .local _ .vmem, ⟨1, _⟩ => ⟨S1x128x1024, .f32⟩
  | .local _ .vmem, ⟨2, _⟩ => ⟨S1x4096x128, .bf16⟩
  | .local _ .vmem, ⟨3, _⟩ => ⟨S1x4096x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x256x128, .bf16⟩
  | .local _ .vmem, ⟨7, _⟩ => ⟨S1x256x128, .bf16⟩
  | .local _ .vmem, ⟨8, _⟩ => ⟨S1x128x256, .bf16⟩
  | .local _ .vmem, ⟨9, _⟩ => ⟨S1x128x256, .bf16⟩
  | .local _ .vmem, ⟨10, _⟩ => ⟨S1x1024x128, .bf16⟩
  | .local _ .vmem, ⟨11, _⟩ => ⟨S1x1024x128, .bf16⟩
  | _, _ => ⟨S4x4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S4x4x4096x128 : Shape := ⟨4, ![4, 4, 4096, 128]⟩
abbrev S4x2x4096x128 : Shape := ⟨4, ![4, 2, 4096, 128]⟩
abbrev S4x2x256x128 : Shape := ⟨4, ![4, 2, 256, 128]⟩
abbrev S4x2x4352x128 : Shape := ⟨4, ![4, 2, 4352, 128]⟩
abbrev S4x2x2x4096x128 : Shape := ⟨5, ![4, 2, 2, 4096, 128]⟩
abbrev S4x2x2x4096x4352 : Shape := ⟨5, ![4, 2, 2, 4096, 4352]⟩
abbrev S_ : Shape := ⟨0, ![]⟩
abbrev S4x2x2x4096 : Shape := ⟨4, ![4, 2, 2, 4096]⟩
abbrev S4x2x2x4096x1 : Shape := ⟨5, ![4, 2, 2, 4096, 1]⟩
abbrev S4x4096x4x128 : Shape := ⟨4, ![4, 4096, 4, 128]⟩
abbrev S4x4096x512 : Shape := ⟨3, ![4, 4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x4x4096x128, .f32⟩
  | .hbm, ⟨1, _⟩ => ⟨S4x2x4096x128, .f32⟩
  | .hbm, ⟨2, _⟩ => ⟨S4x2x4096x128, .f32⟩
  | .hbm, ⟨3, _⟩ => ⟨S4x2x256x128, .f32⟩
  | .hbm, ⟨4, _⟩ => ⟨S4x2x256x128, .f32⟩
  | .hbm, ⟨5, _⟩ => ⟨S4x2x4352x128, .f32⟩
  | .hbm, ⟨6, _⟩ => ⟨S4x2x4352x128, .f32⟩
  | .hbm, ⟨7, _⟩ => ⟨S4x2x2x4096x128, .f32⟩
  | .hbm, ⟨8, _⟩ => ⟨S4x2x2x4096x4352, .f32⟩
  | .hbm, ⟨9, _⟩ => ⟨S_, .f32⟩
  | .hbm, ⟨10, _⟩ => ⟨S4x2x2x4096x4352, .f32⟩
  | .hbm, ⟨11, _⟩ => ⟨S4x2x2x4096x4352, .f32⟩
  | .hbm, ⟨12, _⟩ => ⟨S_, .f32⟩
  | .hbm, ⟨13, _⟩ => ⟨S4x2x2x4096, .f32⟩
  | .hbm, ⟨14, _⟩ => ⟨S_, .f32⟩
  | .hbm, ⟨15, _⟩ => ⟨S4x2x2x4096, .f32⟩
  | .hbm, ⟨16, _⟩ => ⟨S4x2x2x4096, .f32⟩
  | .hbm, ⟨17, _⟩ => ⟨S4x2x2x4096x1, .f32⟩
  | .hbm, ⟨18, _⟩ => ⟨S4x2x2x4096x4352, .f32⟩
  | .hbm, ⟨19, _⟩ => ⟨S4x2x2x4096x4352, .f32⟩
  | .hbm, ⟨20, _⟩ => ⟨S4x2x2x4096x4352, .f32⟩
  | .hbm, ⟨21, _⟩ => ⟨S_, .f32⟩
  | .hbm, ⟨22, _⟩ => ⟨S4x2x2x4096, .f32⟩
  | .hbm, ⟨23, _⟩ => ⟨S4x2x2x4096x1, .f32⟩
  | .hbm, ⟨24, _⟩ => ⟨S4x2x2x4096x4352, .f32⟩
  | .hbm, ⟨25, _⟩ => ⟨S4x2x2x4096x4352, .f32⟩
  | .hbm, ⟨26, _⟩ => ⟨S4x2x2x4096x128, .f32⟩
  | .hbm, ⟨27, _⟩ => ⟨S4x4x4096x128, .f32⟩
  | .hbm, ⟨28, _⟩ => ⟨S4x4096x4x128, .f32⟩
  | .hbm, ⟨29, _⟩ => ⟨S4x4096x512, .f32⟩
  | .hbm, ⟨30, _⟩ => ⟨S4x4096x512, .bf16⟩
  | _, _ => ⟨S4x4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Ffn.lean ====
abbrev S4x4096x2048 : Shape := ⟨3, ![4, 4096, 2048]⟩
abbrev S4x1x2048 : Shape := ⟨3, ![4, 1, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2x2048 : Shape := ⟨2, ![2, 2048]⟩
abbrev S2x1x5632 : Shape := ⟨3, ![2, 1, 5632]⟩
abbrev S2x1x2048 : Shape := ⟨3, ![2, 1, 2048]⟩
abbrev S1x16x2048 : Shape := ⟨3, ![1, 16, 2048]⟩
abbrev S1x1x2048 : Shape := ⟨3, ![1, 1, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S1x1024x2048 : Shape := ⟨3, ![1, 1024, 2048]⟩
abbrev S1056x2048 : Shape := ⟨2, ![1056, 2048]⟩
abbrev S1024x2048 : Shape := ⟨2, ![1024, 2048]⟩
abbrev S_ : Shape := ⟨0, ![]⟩
abbrev S16x2048 : Shape := ⟨2, ![16, 2048]⟩
abbrev S16 : Shape := ⟨1, ![16]⟩
abbrev S16x1 : Shape := ⟨2, ![16, 1]⟩
abbrev S1x2048 : Shape := ⟨2, ![1, 2048]⟩
abbrev S1024 : Shape := ⟨1, ![1024]⟩
abbrev S1024x1 : Shape := ⟨2, ![1024, 1]⟩
abbrev S2048x512 : Shape := ⟨2, ![2048, 512]⟩
abbrev S1056x512 : Shape := ⟨2, ![1056, 512]⟩
abbrev S1024x512 : Shape := ⟨2, ![1024, 512]⟩
abbrev S1x512 : Shape := ⟨2, ![1, 512]⟩
abbrev S512x2048 : Shape := ⟨2, ![512, 2048]⟩

abbrev nBuf : Space → Nat
  | .hbm => 18
  | .vmem => 26
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S4x1x2048, .f32⟩
  | .hbm, ⟨4, _⟩ => ⟨S2x2048x5632, .f32⟩
  | .hbm, ⟨5, _⟩ => ⟨S2x2048x5632, .f32⟩
  | .hbm, ⟨6, _⟩ => ⟨S2x3x5632, .f32⟩
  | .hbm, ⟨7, _⟩ => ⟨S2x5632, .f32⟩
  | .hbm, ⟨8, _⟩ => ⟨S2x5632x2048, .f32⟩
  | .hbm, ⟨9, _⟩ => ⟨S2x2048, .f32⟩
  | .hbm, ⟨10, _⟩ => ⟨S2x2048, .f32⟩
  | .hbm, ⟨11, _⟩ => ⟨S2x2048x5632, .bf16⟩
  | .hbm, ⟨12, _⟩ => ⟨S2x2048x5632, .bf16⟩
  | .hbm, ⟨13, _⟩ => ⟨S2x1x5632, .f32⟩
  | .hbm, ⟨14, _⟩ => ⟨S2x5632x2048, .bf16⟩
  | .hbm, ⟨15, _⟩ => ⟨S2x1x2048, .f32⟩
  | .hbm, ⟨16, _⟩ => ⟨S2x1x2048, .f32⟩
  | .hbm, ⟨17, _⟩ => ⟨S4x4096x2048, .f32⟩
  | .local _ .vmem, ⟨0, _⟩ => ⟨S1x16x2048, .f32⟩
  | .local _ .vmem, ⟨1, _⟩ => ⟨S1x16x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x3x512, .f32⟩
  | .local _ .vmem, ⟨15, _⟩ => ⟨S1x3x512, .f32⟩
  | .local _ .vmem, ⟨16, _⟩ => ⟨S1x1x512, .f32⟩
  | .local _ .vmem, ⟨17, _⟩ => ⟨S1x1x512, .f32⟩
  | .local _ .vmem, ⟨18, _⟩ => ⟨S1x512x2048, .bf16⟩
  | .local _ .vmem, ⟨19, _⟩ => ⟨S1x512x2048, .bf16⟩
  | .local _ .vmem, ⟨20, _⟩ => ⟨S1x1x2048, .f32⟩
  | .local _ .vmem, ⟨21, _⟩ => ⟨S1x1x2048, .f32⟩
  | .local _ .vmem, ⟨22, _⟩ => ⟨S1x1024x2048, .f32⟩
  | .local _ .vmem, ⟨23, _⟩ => ⟨S1x1024x2048, .f32⟩
  | .local _ .vmem, ⟨24, _⟩ => ⟨S1056x2048, .bf16⟩
  | .local _ .vmem, ⟨25, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨3, ![4, 4, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_1 : BitVec 32 := 0#32
  let v2 : BitVec 1 := Scalar.cmpi .ne v1 c0_i32_1
  v2

def k0_off1 (i : grid0.Coords) : Fin 3 → Nat :=
  let arg0 : BitVec 32 := BitVec.ofNat 32 (i 0).val
  let arg1 : BitVec 32 := BitVec.ofNat 32 (i 1).val
  let c1024_i32 : BitVec 32 := 1024#32
  let v64 : BitVec 32 := Scalar.muli arg1 c1024_i32
  let c0_i32_42 : BitVec 32 := 0#32
  ![arg0.toNat, v64.toNat, 0]
def k0_cond3 (i : grid0.Coords) : BitVec 1 :=
  let arg2 : BitVec 32 := BitVec.ofNat 32 (i 2).val
  let c1_i32 : BitVec 32 := 1#32
  let v3 : BitVec 1 := Scalar.cmpi .eq arg2 c1_i32
  let arg0 : BitVec 32 := BitVec.ofNat 32 (i 0).val
  let c3_i32 : BitVec 32 := 3#32
  let v4 : BitVec 1 := Scalar.cmpi .slt arg0 c3_i32
  let arg1 : BitVec 32 := BitVec.ofNat 32 (i 1).val
  let c3_i32_2 : BitVec 32 := 3#32
  let v5 : BitVec 1 := Scalar.cmpi .slt arg1 c3_i32_2
  let v6 : BitVec 1 := Scalar.ori v4 v5
  let v7 : BitVec 1 := Scalar.andi v3 v6
  let v8 : BitVec 32 := Scalar.extui v7
  let c0_i32_3 : BitVec 32 := 0#32
  let v9 : BitVec 1 := Scalar.cmpi .ne v8 c0_i32_3
  v9

def k0_off2 (i : grid0.Coords) : Fin 3 → Nat :=
  let arg1 : BitVec 32 := BitVec.ofNat 32 (i 1).val
  let c3_i32_39 : BitVec 32 := 3#32
  let v59 : BitVec 1 := Scalar.cmpi .eq arg1 c3_i32_39
  let arg0 : BitVec 32 := BitVec.ofNat 32 (i 0).val
  let c1_i32_40 : BitVec 32 := 1#32
  let v60 : BitVec 32 := Scalar.addi arg0 c1_i32_40
  let v61 : BitVec 32 := Scalar.select v59 v60 arg0
  let c0_i32_42 : BitVec 32 := 0#32
  let c1_i32_41 : BitVec 32 := 1#32
  let v62 : BitVec 32 := Scalar.addi arg1 c1_i32_41
  let v63 : BitVec 32 := Scalar.select v59 c0_i32_42 v62
  let c1024_i32 : BitVec 32 := 1024#32
  let v64 : BitVec 32 := Scalar.muli v63 c1024_i32
  let c0_i32_43 : BitVec 32 := 0#32
  ![v61.toNat, v64.toNat, 0]
def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x1024x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== FfnReferenceIdeal.lean ====
abbrev S4x4096x2048 : Shape := ⟨3, ![4, 4096, 2048]⟩
abbrev S4x1x2048 : Shape := ⟨3, ![4, 1, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2x2048 : Shape := ⟨2, ![2, 2048]⟩
abbrev S1x2048x5632 : Shape := ⟨3, ![1, 2048, 5632]⟩
abbrev S2048x5632 : Shape := ⟨2, ![2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x5632x2048 : Shape := ⟨3, ![1, 5632, 2048]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S4x4096x5632 : Shape := ⟨3, ![4, 4096, 5632]⟩
abbrev S4x4098x5632 : Shape := ⟨3, ![4, 4098, 5632]⟩
abbrev S1x1x5632 : Shape := ⟨3, ![1, 1, 5632]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 129
  | .vmem => 0
  | .smem => 0
  | _ => 0

abbrev hbmTy0_0 (i : Nat) : BufTy := match i % 128 with
  | 0 => ⟨S4x4096x2048, .f32⟩
  | 1 => ⟨S4x1x2048, .f32⟩
  | 2 => ⟨S4x1x2048, .f32⟩
  | 3 => ⟨S4x1x2048, .f32⟩
  | 4 => ⟨S2x2048x5632, .f32⟩
  | 5 => ⟨S2x2048x5632, .f32⟩
  | 6 => ⟨S2x3x5632, .f32⟩
  | 7 => ⟨S2x5632, .f32⟩
  | 8 => ⟨S2x5632x2048, .f32⟩
  | 9 => ⟨S2x2048, .f32⟩
  | 10 => ⟨S2x2048, .f32⟩
  | 11 => ⟨S1x2048x5632, .f32⟩
  | 12 => ⟨S2048x5632, .f32⟩
  | 13 => ⟨S1x2048x5632, .f32⟩
  | 14 => ⟨S2048x5632, .f32⟩
  | 15 => ⟨S1x3x5632, .f32⟩
  | 16 => ⟨S3x5632, .f32⟩
  | 17 => ⟨S1x5632, .f32⟩
  | 18 => ⟨S5632, .f32⟩
  | 19 => ⟨S1x5632x2048, .f32⟩
  | 20 => ⟨S5632x2048, .f32⟩
  | 21 => ⟨S_, .f32⟩
  | 22 => ⟨S4x4096x2048, .f32⟩
  | 23 => ⟨S4x4096x2048, .f32⟩
  | 24 => ⟨S_, .f32⟩
  | 25 => ⟨S4x4096, .f32⟩
  | 26 => ⟨S4x4096x1, .f32⟩
  | 27 => ⟨S_, .f32⟩
  | 28 => ⟨S4x4096x1, .f32⟩
  | 29 => ⟨S4x4096x1, .f32⟩
  | 30 => ⟨S4x4096x2048, .f32⟩
  | 31 => ⟨S4x4096x2048, .f32⟩
  | 32 => ⟨S4x4096x2048, .f32⟩
  | 33 => ⟨S_, .f32⟩
  | 34 => ⟨S4x4096, .f32⟩
  | 35 => ⟨S4x4096x1, .f32⟩
  | 36 => ⟨S_, .f32⟩
  | 37 => ⟨S4x4096x1, .f32⟩
  | 38 => ⟨S4x4096x1, .f32⟩
  | 39 => ⟨S4x4096x2048, .f32⟩
  | 40 => ⟨S4x4096x2048, .f32⟩
  | 41 => ⟨S_, .f32⟩
  | 42 => ⟨S4x4096x1, .f32⟩
  | 43 => ⟨S4x4096x1, .f32⟩
  | 44 => ⟨S4x4096x1, .f32⟩
  | 45 => ⟨S4x4096x2048, .f32⟩
  | 46 => ⟨S4x4096x2048, .f32⟩
  | 47 => ⟨S_, .f32⟩
  | 48 => ⟨S4x1x2048, .f32⟩
  | 49 => ⟨S4x1x2048, .f32⟩
  | 50 => ⟨S4x4096x2048, .f32⟩
  | 51 => ⟨S4x4096x2048, .f32⟩
  | 52 => ⟨S4x4096x2048, .f32⟩
  | 53 => ⟨S4x4096x2048, .f32⟩
  | 54 => ⟨S4x4096x5632, .f32⟩
  | 55 => ⟨S_, .i32⟩
  | 56 => ⟨S_, .f32⟩
  | 57 => ⟨S4x4098x5632, .f32⟩
  | 58 => ⟨S4x4096x5632, .f32⟩
  | 59 => ⟨S1x5632, .f32⟩
  | 60 => ⟨S5632, .f32⟩
  | 61 => ⟨S1x1x5632, .f32⟩
  | 62 => ⟨S4x4096x5632, .f32⟩
  | 63 => ⟨S4x4096x5632, .f32⟩
  | 64 => ⟨S4x4096x5632, .f32⟩
  | 65 => ⟨S1x5632, .f32⟩
  | 66 => ⟨S5632, .f32⟩
  | 67 => ⟨S1x1x5632, .f32⟩
  | 68 => ⟨S4x4096x5632, .f32⟩
  | 69 => ⟨S4x4096x5632, .f32⟩
  | 70 => ⟨S4x4096x5632, .f32⟩
  | 71 => ⟨S4x4096x5632, .f32⟩
  | 72 => ⟨S1x5632, .f32⟩
  | 73 => ⟨S5632, .f32⟩
  | 74 => ⟨S1x1x5632, .f32⟩
  | 75 => ⟨S4x4096x5632, .f32⟩
  | 76 => ⟨S4x4096x5632, .f32⟩
  | 77 => ⟨S4x4096x5632, .f32⟩
  | 78 => ⟨S1x1x5632, .f32⟩
  | 79 => ⟨S4x4096x5632, .f32⟩
  | 80 => ⟨S4x4096x5632, .f32⟩
  | 81 => ⟨S4x4096x5632, .f32⟩
  | 82 => ⟨S4x4096x5632, .f32⟩
  | 83 => ⟨S_, .f32⟩
  | 84 => ⟨S4x4096x5632, .f32⟩
  | 85 => ⟨S4x4096x5632, .f32⟩
  | 86 => ⟨S_, .f32⟩
  | 87 => ⟨S4x4096x5632, .f32⟩
  | 88 => ⟨S4x4096x5632, .f32⟩
  | 89 => ⟨S4x4096x5632, .f32⟩
  | 90 => ⟨S4x4096x5632, .f32⟩
  | 91 => ⟨S4x4096x5632, .f32⟩
  | 92 => ⟨S4x4096x2048, .f32⟩
  | 93 => ⟨S4x4096x2048, .f32⟩
  | 94 => ⟨S4x4096x2048, .f32⟩
  | 95 => ⟨S4x4096x2048, .f32⟩
  | 96 => ⟨S1x2048, .f32⟩
  | 97 => ⟨S2048, .f32⟩
  | 98 => ⟨S1x2048, .f32⟩
  | 99 => ⟨S2048, .f32⟩
  | 100 => ⟨S_, .f32⟩
  | 101 => ⟨S4x4096, .f32⟩
  | 102 => ⟨S4x4096x1, .f32⟩
  | 103 => ⟨S_, .f32⟩
  | 104 => ⟨S4x4096x1, .f32⟩
  | 105 => ⟨S4x4096x1, .f32⟩
  | 106 => ⟨S4x4096x2048, .f32⟩
  | 107 => ⟨S4x4096x2048, .f32⟩
  | 108 => ⟨S4x4096x2048, .f32⟩
  | 109 => ⟨S_, .f32⟩
  | 110 => ⟨S4x4096, .f32⟩
  | 111 => ⟨S4x4096x1, .f32⟩
  | 112 => ⟨S_, .f32⟩
  | 113 => ⟨S4x4096x1, .f32⟩
  | 114 => ⟨S4x4096x1, .f32⟩
  | 115 => ⟨S4x4096x2048, .f32⟩
  | 116 => ⟨S4x4096x2048, .f32⟩
  | 117 => ⟨S_, .f32⟩
  | 118 => ⟨S4x4096x1, .f32⟩
  | 119 => ⟨S4x4096x1, .f32⟩
  | 120 => ⟨S4x4096x1, .f32⟩
  | 121 => ⟨S4x4096x2048, .f32⟩
  | 122 => ⟨S4x4096x2048, .f32⟩
  | 123 => ⟨S1x1x2048, .f32⟩
  | 124 => ⟨S4x4096x2048, .f32⟩
  | 125 => ⟨S4x4096x2048, .f32⟩
  | 126 => ⟨S1x1x2048, .f32⟩
  | 127 => ⟨S4x4096x2048, .f32⟩
  | _ => ⟨S4x4096x2048, .f32⟩

abbrev hbmTy0_1 (i : Nat) : BufTy := match i % 128 with
  | 0 => ⟨S4x4096x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c : Ref sig .tc := ⟨.hbm, 55, rfl⟩
abbrev main_call0_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_v72 : Ref sig .tc := ⟨.hbm, 101, rfl⟩
abbrev main_v73 : Ref sig .tc := ⟨.hbm, 102, rfl⟩
abbrev main_cst_7 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_8 : Ref sig .tc := ⟨.hbm, 109, rfl⟩
abbrev main_v79 : Ref sig .tc := ⟨.hbm, 110, rfl⟩
abbrev main_v80 : Ref sig .tc := ⟨.hbm, 111, rfl⟩
abbrev main_cst_9 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_10 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Out.lean ====
abbrev S4x4096x512 : Shape := ⟨3, ![4, 4096, 512]⟩
abbrev S4x4096x2048 : Shape := ⟨3, ![4, 4096, 2048]⟩
abbrev S4x1x2048 : Shape := ⟨3, ![4, 1, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S1x512x512 : Shape := ⟨3, ![1, 512, 512]⟩
abbrev S1x2048x2048 : Shape := ⟨3, ![1, 2048, 2048]⟩
abbrev S1x512x2048 : Shape := ⟨3, ![1, 512, 2048]⟩
abbrev S1x1x2048 : Shape := ⟨3, ![1, 1, 2048]⟩
abbrev S1x256x512 : Shape := ⟨3, ![1, 256, 512]⟩
abbrev S256x512 : Shape := ⟨2, ![256, 512]⟩
abbrev S512x2048 : Shape := ⟨2, ![512, 2048]⟩
abbrev S256x2048 : Shape := ⟨2, ![256, 2048]⟩
abbrev S1x256x2048 : Shape := ⟨3, ![1, 256, 2048]⟩
abbrev S1x2048 : Shape := ⟨2, ![1, 2048]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x2048, .f32⟩
  | .hbm, ⟨5, _⟩ => ⟨S4x1x2048, .f32⟩
  | .hbm, ⟨6, _⟩ => ⟨S2x2048x2048, .f32⟩
  | .hbm, ⟨7, _⟩ => ⟨S2x2048, .f32⟩
  | .hbm, ⟨8, _⟩ => ⟨S2x2048, .f32⟩
  | .hbm, ⟨9, _⟩ => ⟨S2x2048x2048, .bf16⟩
  | .hbm, ⟨10, _⟩ => ⟨S2x1x2048, .f32⟩
  | .hbm, ⟨11, _⟩ => ⟨S2x1x2048, .f32⟩
  | .hbm, ⟨12, _⟩ => ⟨S4x4096x512, .bf16⟩
  | .hbm, ⟨13, _⟩ => ⟨S4x4096x512, .bf16⟩
  | .hbm, ⟨14, _⟩ => ⟨S4x4096x512, .bf16⟩
  | .hbm, ⟨15, _⟩ => ⟨S4x4096x512, .bf16⟩
  | .hbm, ⟨16, _⟩ => ⟨S4x4096x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x2048x2048, .bf16⟩
  | .local _ .vmem, ⟨9, _⟩ => ⟨S1x512x2048, .f32⟩
  | .local _ .vmem, ⟨10, _⟩ => ⟨S1x512x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x512x2048, .f32⟩
  | .local _ .vmem, ⟨16, _⟩ => ⟨S1x512x2048, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutReferenceIdeal.lean ====
abbrev S4x4096x512 : Shape := ⟨3, ![4, 4096, 512]⟩
abbrev S4x4096x2048 : Shape := ⟨3, ![4, 4096, 2048]⟩
abbrev S4x1x2048 : Shape := ⟨3, ![4, 1, 2048]⟩
abbrev S2x2048x2048 : Shape := ⟨3, ![2, 2048, 2048]⟩
abbrev S2x2048 : Shape := ⟨2, ![2, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x2048, .f32⟩
  | .hbm, ⟨5, _⟩ => ⟨S4x1x2048, .f32⟩
  | .hbm, ⟨6, _⟩ => ⟨S2x2048x2048, .f32⟩
  | .hbm, ⟨7, _⟩ => ⟨S2x2048, .f32⟩
  | .hbm, ⟨8, _⟩ => ⟨S2x2048, .f32⟩
  | .hbm, ⟨9, _⟩ => ⟨S4x4096x2048, .f32⟩
  | .hbm, ⟨10, _⟩ => ⟨S_, .f32⟩
  | .hbm, ⟨11, _⟩ => ⟨S4x4096x2048, .f32⟩
  | .hbm, ⟨12, _⟩ => ⟨S4x4096x2048, .f32⟩
  | .hbm, ⟨13, _⟩ => ⟨S1x2048x2048, .f32⟩
  | .hbm, ⟨14, _⟩ => ⟨S2048x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x2048, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Mla.lean ====
abbrev S4x4x4096x128 : Shape := ⟨4, ![4, 4, 4096, 128]⟩
abbrev S4x4x4096x64 : Shape := ⟨4, ![4, 4, 4096, 64]⟩
abbrev S4x4096x64 : Shape := ⟨3, ![4, 4096, 64]⟩
abbrev S4x4x256x128 : Shape := ⟨4, ![4, 4, 256, 128]⟩
abbrev S4x256x64 : Shape := ⟨3, ![4, 256, 64]⟩
abbrev S_ : Shape := ⟨0, ![]⟩
abbrev S4x4x4096x256 : Shape := ⟨4, ![4, 4, 4096, 256]⟩
abbrev S4x4x256x4096 : Shape := ⟨4, ![4, 4, 256, 4096]⟩
abbrev S4x1024x4096 : Shape := ⟨3, ![4, 1024, 4096]⟩
abbrev S4x1x4096x64 : Shape := ⟨4, ![4, 1, 4096, 64]⟩
abbrev S4x4096x4x256 : Shape := ⟨4, ![4, 4096, 4, 256]⟩
abbrev S4x4096x1024 : Shape := ⟨3, ![4, 4096, 1024]⟩
abbrev S4x4x128x4096 : Shape := ⟨4, ![4, 4, 128, 4096]⟩
abbrev S4x512x4096 : Shape := ⟨3, ![4, 512, 4096]⟩
abbrev S4x1x256x64 : Shape := ⟨4, ![4, 1, 256, 64]⟩
abbrev S4x4x256x64 : Shape := ⟨4, ![4, 4, 256, 64]⟩
abbrev S4x4x256x256 : Shape := ⟨4, ![4, 4, 256, 256]⟩
abbrev S4x256x4x256 : Shape := ⟨4, ![4, 256, 4, 256]⟩
abbrev S4x256x1024 : Shape := ⟨3, ![4, 256, 1024]⟩
abbrev S4x4x128x256 : Shape := ⟨4, ![4, 4, 128, 256]⟩
abbrev S4x512x256 : Shape := ⟨3, ![4, 512, 256]⟩
abbrev S4x4096x512 : Shape := ⟨3, ![4, 4096, 512]⟩
abbrev S1x256x1024 : Shape := ⟨3, ![1, 256, 1024]⟩
abbrev S1x4096x256 : Shape := ⟨3, ![1, 4096, 256]⟩
abbrev S1x128x4096 : Shape := ⟨3, ![1, 128, 4096]⟩
abbrev S1x256x256 : Shape := ⟨3, ![1, 256, 256]⟩
abbrev S1x128x256 : Shape := ⟨3, ![1, 128, 256]⟩
abbrev S1x1024x128 : Shape := ⟨3, ![1, 1024, 128]⟩
abbrev S256x1024 : Shape := ⟨2, ![256, 1024]⟩
abbrev S1x1024 : Shape := ⟨2, ![1, 1024]⟩
abbrev S144x1024 : Shape := ⟨2, ![144, 1024]⟩
abbrev S1x512x256 : Shape := ⟨3, ![1, 512, 256]⟩
abbrev S512x256 : Shape := ⟨2, ![512, 256]⟩
abbrev S512x1024 : Shape := ⟨2, ![512, 1024]⟩
abbrev S1024 : Shape := ⟨1, ![1024]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S256x256 : Shape := ⟨2, ![256, 256]⟩
abbrev S128x256 : Shape := ⟨2, ![128, 256]⟩
abbrev S16x256 : Shape := ⟨2, ![16, 256]⟩
abbrev S144x256 : Shape := ⟨2, ![144, 256]⟩
abbrev S128x1024 : Shape := ⟨2, ![128, 1024]⟩
abbrev S1024x128 : Shape := ⟨2, ![1024, 128]⟩

abbrev nBuf : Space → Nat
  | .hbm => 36
  | .vmem => 12
  | .smem => 0
  | _ => 0

abbrev bufTy : (tb : Table) → Fin (tcTables nBuf tb) → BufTy
  | .hbm, ⟨0, _⟩ => ⟨S4x4x4096x128, .f32⟩
  | .hbm, ⟨1, _⟩ => ⟨S4x4x4096x64, .f32⟩
  | .hbm, ⟨2, _⟩ => ⟨S4x4x4096x128, .f32⟩
  | .hbm, ⟨3, _⟩ => ⟨S4x4096x64, .f32⟩
  | .hbm, ⟨4, _⟩ => ⟨S4x4x4096x128, .f32⟩
  | .hbm, ⟨5, _⟩ => ⟨S4x4x256x128, .f32⟩
  | .hbm, ⟨6, _⟩ => ⟨S4x256x64, .f32⟩
  | .hbm, ⟨7, _⟩ => ⟨S4x4x256x128, .f32⟩
  | .hbm, ⟨8, _⟩ => ⟨S_, .f32⟩
  | .hbm, ⟨9, _⟩ => ⟨S4x4x4096x64, .f32⟩
  | .hbm, ⟨10, _⟩ => ⟨S4x4x4096x256, .f32⟩
  | .hbm, ⟨11, _⟩ => ⟨S4x4x256x4096, .f32⟩
  | .hbm, ⟨12, _⟩ => ⟨S4x1024x4096, .f32⟩
  | .hbm, ⟨13, _⟩ => ⟨S4x1x4096x64, .f32⟩
  | .hbm, ⟨14, _⟩ => ⟨S4x4x4096x64, .f32⟩
  | .hbm, ⟨15, _⟩ => ⟨S_, .f32⟩
  | .hbm, ⟨16, _⟩ => ⟨S4x4x4096x64, .f32⟩
  | .hbm, ⟨17, _⟩ => ⟨S4x4x4096x256, .f32⟩
  | .hbm, ⟨18, _⟩ => ⟨S4x4096x4x256, .f32⟩
  | .hbm, ⟨19, _⟩ => ⟨S4x4096x1024, .f32⟩
  | .hbm, ⟨20, _⟩ => ⟨S4x4096x1024, .bf16⟩
  | .hbm, ⟨21, _⟩ => ⟨S4x4x128x4096, .f32⟩
  | .hbm, ⟨22, _⟩ => ⟨S4x512x4096, .f32⟩
  | .hbm, ⟨23, _⟩ => ⟨S4x512x4096, .bf16⟩
  | .hbm, ⟨24, _⟩ => ⟨S4x1x256x64, .f32⟩
  | .hbm, ⟨25, _⟩ => ⟨S4x4x256x64, .f32⟩
  | .hbm, ⟨26, _⟩ => ⟨S_, .f32⟩
  | .hbm, ⟨27, _⟩ => ⟨S4x4x256x64, .f32⟩
  | .hbm, ⟨28, _⟩ => ⟨S4x4x256x256, .f32⟩
  | .hbm, ⟨29, _⟩ => ⟨S4x256x4x256, .f32⟩
  | .hbm, ⟨30, _⟩ => ⟨S4x256x1024, .f32⟩
  | .hbm, ⟨31, _⟩ => ⟨S4x256x1024, .bf16⟩
  | .hbm, ⟨32, _⟩ => ⟨S4x4x128x256, .f32⟩
  | .hbm, ⟨33, _⟩ => ⟨S4x512x256, .f32⟩
  | .hbm, ⟨34, _⟩ => ⟨S4x512x256, .bf16⟩
  | .hbm, ⟨35, _⟩ => ⟨S4x4096x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x256x256, .bf16⟩
  | .local _ .vmem, ⟨7, _⟩ => ⟨S1x256x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x1024x128, .bf16⟩
  | .local _ .vmem, ⟨11, _⟩ => ⟨S1x1024x128, .bf16⟩
  | _, _ => ⟨S4x4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, v16.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, v16.toNat, c0_i32_5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlaIdeal.lean ====
variable {F : FTy → Type} [FloatOps F] [Named F]
def κ : String → Option EReal := fun
  | "scale_mla_log2e" => some (((Real.sqrt 192)⁻¹ * (Real.log 2)⁻¹ : ℝ) : EReal)
  | _ => none
-- ==== MlaReferenceIdeal.lean ====
abbrev S4x4x4096x128 : Shape := ⟨4, ![4, 4, 4096, 128]⟩
abbrev S4x4x4096x64 : Shape := ⟨4, ![4, 4, 4096, 64]⟩
abbrev S4x4096x64 : Shape := ⟨3, ![4, 4096, 64]⟩
abbrev S4x4x256x128 : Shape := ⟨4, ![4, 4, 256, 128]⟩
abbrev S4x256x64 : Shape := ⟨3, ![4, 256, 64]⟩
abbrev S4x4x4352x128 : Shape := ⟨4, ![4, 4, 4352, 128]⟩
abbrev S4x4352x64 : Shape := ⟨3, ![4, 4352, 64]⟩
abbrev S_ : Shape := ⟨0, ![]⟩
abbrev S4x4x4096x4352 : Shape := ⟨4, ![4, 4, 4096, 4352]⟩
abbrev S4x4x4096 : Shape := ⟨3, ![4, 4, 4096]⟩
abbrev S4x4x4096x1 : Shape := ⟨4, ![4, 4, 4096, 1]⟩
abbrev S4x4096x4x128 : Shape := ⟨4, ![4, 4096, 4, 128]⟩
abbrev S4x4096x512 : Shape := ⟨3, ![4, 4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S4x4x4096x128, .f32⟩
  | .hbm, ⟨1, _⟩ => ⟨S4x4x4096x64, .f32⟩
  | .hbm, ⟨2, _⟩ => ⟨S4x4x4096x128, .f32⟩
  | .hbm, ⟨3, _⟩ => ⟨S4x4096x64, .f32⟩
  | .hbm, ⟨4, _⟩ => ⟨S4x4x4096x128, .f32⟩
  | .hbm, ⟨5, _⟩ => ⟨S4x4x256x128, .f32⟩
  | .hbm, ⟨6, _⟩ => ⟨S4x256x64, .f32⟩
  | .hbm, ⟨7, _⟩ => ⟨S4x4x256x128, .f32⟩
  | .hbm, ⟨8, _⟩ => ⟨S4x4x4352x128, .f32⟩
  | .hbm, ⟨9, _⟩ => ⟨S4x4352x64, .f32⟩
  | .hbm, ⟨10, _⟩ => ⟨S4x4x4352x128, .f32⟩
  | .hbm, ⟨11, _⟩ => ⟨S_, .f32⟩
  | .hbm, ⟨12, _⟩ => ⟨S_, .f32⟩
  | .hbm, ⟨13, _⟩ => ⟨S4x4x4096x4352, .f32⟩
  | .hbm, ⟨14, _⟩ => ⟨S4x4x4096x4352, .f32⟩
  | .hbm, ⟨15, _⟩ => ⟨S4x4x4096x4352, .f32⟩
  | .hbm, ⟨16, _⟩ => ⟨S4x4x4096x4352, .f32⟩
  | .hbm, ⟨17, _⟩ => ⟨S4x4x4096x4352, .f32⟩
  | .hbm, ⟨18, _⟩ => ⟨S_, .f32⟩
  | .hbm, ⟨19, _⟩ => ⟨S4x4x4096, .f32⟩
  | .hbm, ⟨20, _⟩ => ⟨S_, .f32⟩
  | .hbm, ⟨21, _⟩ => ⟨S4x4x4096, .f32⟩
  | .hbm, ⟨22, _⟩ => ⟨S4x4x4096, .f32⟩
  | .hbm, ⟨23, _⟩ => ⟨S4x4x4096x1, .f32⟩
  | .hbm, ⟨24, _⟩ => ⟨S4x4x4096x4352, .f32⟩
  | .hbm, ⟨25, _⟩ => ⟨S4x4x4096x4352, .f32⟩
  | .hbm, ⟨26, _⟩ => ⟨S4x4x4096x4352, .f32⟩
  | .hbm, ⟨27, _⟩ => ⟨S_, .f32⟩
  | .hbm, ⟨28, _⟩ => ⟨S4x4x4096, .f32⟩
  | .hbm, ⟨29, _⟩ => ⟨S4x4x4096x1, .f32⟩
  | .hbm, ⟨30, _⟩ => ⟨S4x4x4096x4352, .f32⟩
  | .hbm, ⟨31, _⟩ => ⟨S4x4x4096x4352, .f32⟩
  | .hbm, ⟨32, _⟩ => ⟨S4x4x4096x128, .f32⟩
  | .hbm, ⟨33, _⟩ => ⟨S4x4096x4x128, .f32⟩
  | .hbm, ⟨34, _⟩ => ⟨S4x4096x512, .f32⟩
  | .hbm, ⟨35, _⟩ => ⟨S4x4096x512, .bf16⟩
  | _, _ => ⟨S4x4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Ada.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S2x4x12288 : Shape := ⟨3, ![2, 4, 12288]⟩

abbrev nBuf : Space → Nat
  | .hbm => 13
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .hbm, ⟨10, _⟩ => ⟨S2x4x12288, .f32⟩
  | .hbm, ⟨11, _⟩ => ⟨S2x1x12288, .f32⟩
  | .hbm, ⟨12, _⟩ => ⟨S2x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S4x12288 : Shape := ⟨2, ![4, 12288]⟩
abbrev S1x12288 : Shape := ⟨2, ![1, 12288]⟩
abbrev S12288 : Shape := ⟨1, ![12288]⟩
abbrev S1x4x12288 : Shape := ⟨3, ![1, 4, 12288]⟩
abbrev S2x4x12288 : Shape := ⟨3, ![2, 4, 12288]⟩

abbrev nBuf : Space → Nat
  | .hbm => 74
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S1x2048x12288, .f32⟩
  | .hbm, ⟨14, _⟩ => ⟨S2048x12288, .f32⟩
  | .hbm, ⟨15, _⟩ => ⟨S4x12288, .f32⟩
  | .hbm, ⟨16, _⟩ => ⟨S1x12288, .f32⟩
  | .hbm, ⟨17, _⟩ => ⟨S12288, .f32⟩
  | .hbm, ⟨18, _⟩ => ⟨S1x12288, .f32⟩
  | .hbm, ⟨19, _⟩ => ⟨S4x12288, .f32⟩
  | .hbm, ⟨20, _⟩ => ⟨S4x12288, .f32⟩
  | .hbm, ⟨21, _⟩ => ⟨S4x2048, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S1x2048x12288, .f32⟩
  | .hbm, ⟨31, _⟩ => ⟨S2048x12288, .f32⟩
  | .hbm, ⟨32, _⟩ => ⟨S4x12288, .f32⟩
  | .hbm, ⟨33, _⟩ => ⟨S1x12288, .f32⟩
  | .hbm, ⟨34, _⟩ => ⟨S12288, .f32⟩
  | .hbm, ⟨35, _⟩ => ⟨S1x12288, .f32⟩
  | .hbm, ⟨36, _⟩ => ⟨S4x12288, .f32⟩
  | .hbm, ⟨37, _⟩ => ⟨S4x12288, .f32⟩
  | .hbm, ⟨38, _⟩ => ⟨S1x4x12288, .f32⟩
  | .hbm, ⟨39, _⟩ => ⟨S1x4x12288, .f32⟩
  | .hbm, ⟨40, _⟩ => ⟨S2x4x12288, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048, .f32⟩
  | .hbm, ⟨50, _⟩ => ⟨S1x2048x12288, .f32⟩
  | .hbm, ⟨51, _⟩ => ⟨S2048x12288, .f32⟩
  | .hbm, ⟨52, _⟩ => ⟨S12288, .f32⟩
  | .hbm, ⟨53, _⟩ => ⟨S1x12288, .f32⟩
  | .hbm, ⟨54, _⟩ => ⟨S12288, .f32⟩
  | .hbm, ⟨55, _⟩ => ⟨S12288, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S2048, .f32⟩
  | .hbm, ⟨65, _⟩ => ⟨S1x2048x12288, .f32⟩
  | .hbm, ⟨66, _⟩ => ⟨S2048x12288, .f32⟩
  | .hbm, ⟨67, _⟩ => ⟨S12288, .f32⟩
  | .hbm, ⟨68, _⟩ => ⟨S1x12288, .f32⟩
  | .hbm, ⟨69, _⟩ => ⟨S12288, .f32⟩
  | .hbm, ⟨70, _⟩ => ⟨S12288, .f32⟩
  | .hbm, ⟨71, _⟩ => ⟨S1x12288, .f32⟩
  | .hbm, ⟨72, _⟩ => ⟨S1x12288, .f32⟩
  | .hbm, ⟨73, _⟩ => ⟨S2x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩

abbrev nD : Nat := 1
abbrev τ : Topo := Topo.v7x

variable {F : FTy → Type} [FloatOps F]
-- ==== Proj.lean ====
abbrev S4x4096x2048 : Shape := ⟨3, ![4, 4096, 2048]⟩
abbrev S4x1x2048 : Shape := ⟨3, ![4, 1, 2048]⟩
abbrev S2x2048x4160 : Shape := ⟨3, ![2, 2048, 4160]⟩
abbrev S2x384 : Shape := ⟨2, ![2, 384]⟩
abbrev S2x128 : Shape := ⟨2, ![2, 128]⟩
abbrev S2x384x768 : Shape := ⟨3, ![2, 384, 768]⟩
abbrev S2x128x1024 : Shape := ⟨3, ![2, 128, 1024]⟩
abbrev S128 : Shape := ⟨1, ![128]⟩
abbrev S2x2048x3136 : Shape := ⟨3, ![2, 2048, 3136]⟩
abbrev S2x2048x1024 : Shape := ⟨3, ![2, 2048, 1024]⟩
abbrev S2x384x4x192 : Shape := ⟨4, ![2, 384, 4, 192]⟩
abbrev S_ : Shape := ⟨0, ![]⟩
abbrev S2x384x4x64 : Shape := ⟨4, ![2, 384, 4, 64]⟩
abbrev S2x384x4x256 : Shape := ⟨4, ![2, 384, 4, 256]⟩
abbrev S2x384x1024 : Shape := ⟨3, ![2, 384, 1024]⟩
abbrev S2x1x384 : Shape := ⟨3, ![2, 1, 384]⟩
abbrev S2x1x128 : Shape := ⟨3, ![2, 1, 128]⟩
abbrev S4096 : Shape := ⟨1, ![4096]⟩
abbrev S32 : Shape := ⟨1, ![32]⟩
abbrev S1x128 : Shape := ⟨2, ![1, 128]⟩
abbrev S4096x1 : Shape := ⟨2, ![4096, 1]⟩
abbrev S4096x128 : Shape := ⟨2, ![4096, 128]⟩
abbrev S128x1 : Shape := ⟨2, ![128, 1]⟩
abbrev S16 : Shape := ⟨1, ![16]⟩
abbrev S1x4096x128 : Shape := ⟨3, ![1, 4096, 128]⟩
abbrev S6x4096x128 : Shape := ⟨3, ![6, 4096, 128]⟩
abbrev S4x512x4096 : Shape := ⟨3, ![4, 512, 4096]⟩
abbrev S4x4096x512 : Shape := ⟨3, ![4, 4096, 512]⟩
abbrev S4x4096x256 : Shape := ⟨3, ![4, 4096, 256]⟩
abbrev S4x256x4096 : Shape := ⟨3, ![4, 256, 4096]⟩
abbrev S4x1024x4096 : Shape := ⟨3, ![4, 1024, 4096]⟩
abbrev S4x4096x1024 : Shape := ⟨3, ![4, 4096, 1024]⟩
abbrev S1x256x2048 : Shape := ⟨3, ![1, 256, 2048]⟩
abbrev S1x1x2048 : Shape := ⟨3, ![1, 1, 2048]⟩
abbrev S1x2048x3136 : Shape := ⟨3, ![1, 2048, 3136]⟩
abbrev S1x2048x1024 : Shape := ⟨3, ![1, 2048, 1024]⟩
abbrev S6x256x128 : Shape := ⟨3, ![6, 256, 128]⟩
abbrev S1x1x384 : Shape := ⟨3, ![1, 1, 384]⟩
abbrev S1x1x128 : Shape := ⟨3, ![1, 1, 128]⟩
abbrev S1x384x1024 : Shape := ⟨3, ![1, 384, 1024]⟩
abbrev S1x128x1024 : Shape := ⟨3, ![1, 128, 1024]⟩
abbrev S1x512x256 : Shape := ⟨3, ![1, 512, 256]⟩
abbrev S1x256x512 : Shape := ⟨3, ![1, 256, 512]⟩
abbrev S1x256x256 : Shape := ⟨3, ![1, 256, 256]⟩
abbrev S1x1024x256 : Shape := ⟨3, ![1, 1024, 256]⟩
abbrev S1x256x1024 : Shape := ⟨3, ![1, 256, 1024]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S1x256x128 : Shape := ⟨3, ![1, 256, 128]⟩
abbrev S256x128 : Shape := ⟨2, ![256, 128]⟩
abbrev S2048x1024 : Shape := ⟨2, ![2048, 1024]⟩
abbrev S256x1024 : Shape := ⟨2, ![256, 1024]⟩
abbrev S128x256 : Shape := ⟨2, ![128, 256]⟩
abbrev S1x128x256 : Shape := ⟨3, ![1, 128, 256]⟩
abbrev S256x256 : Shape := ⟨2, ![256, 256]⟩
abbrev S1x2048x512 : Shape := ⟨3, ![1, 2048, 512]⟩
abbrev S2048x512 : Shape := ⟨2, ![2048, 512]⟩
abbrev S256x512 : Shape := ⟨2, ![256, 512]⟩
abbrev S256x384 : Shape := ⟨2, ![256, 384]⟩
abbrev S1x384 : Shape := ⟨2, ![1, 384]⟩
abbrev S1x2048x64 : Shape := ⟨3, ![1, 2048, 64]⟩
abbrev S2048x64 : Shape := ⟨2, ![2048, 64]⟩
abbrev S256x64 : Shape := ⟨2, ![256, 64]⟩
abbrev S384x1024 : Shape := ⟨2, ![384, 1024]⟩
abbrev S128x1024 : Shape := ⟨2, ![128, 1024]⟩
abbrev S1x2048x1536 : Shape := ⟨3, ![1, 2048, 1536]⟩
abbrev S2048x1536 : Shape := ⟨2, ![2048, 1536]⟩
abbrev S256x1536 : Shape := ⟨2, ![256, 1536]⟩
abbrev S512x256 : Shape := ⟨2, ![512, 256]⟩

abbrev nBuf : Space → Nat
  | .hbm => 192
  | .vmem => 40
  | .smem => 0
  | _ => 0

abbrev hbmTy0_0 (i : Nat) : BufTy := match i % 128 with
  | 0 => ⟨S4x4096x2048, .f32⟩
  | 1 => ⟨S4x1x2048, .f32⟩
  | 2 => ⟨S4x1x2048, .f32⟩
  | 3 => ⟨S2x2048x4160, .f32⟩
  | 4 => ⟨S2x384, .f32⟩
  | 5 => ⟨S2x128, .f32⟩
  | 6 => ⟨S2x384x768, .f32⟩
  | 7 => ⟨S2x128x1024, .f32⟩
  | 8 => ⟨S2x128, .f32⟩
  | 9 => ⟨S2x128, .f32⟩
  | 10 => ⟨S128, .i1⟩
  | 11 => ⟨S128, .i32⟩
  | 12 => ⟨S128, .i1⟩
  | 13 => ⟨S128, .i1⟩
  | 14 => ⟨S128, .i1⟩
  | 15 => ⟨S128, .i1⟩
  | 16 => ⟨S128, .i32⟩
  | 17 => ⟨S128, .i1⟩
  | 18 => ⟨S128, .i1⟩
  | 19 => ⟨S128, .i1⟩
  | 20 => ⟨S2x2048x4160, .bf16⟩
  | 21 => ⟨S2x2048x3136, .bf16⟩
  | 22 => ⟨S2x2048x1024, .bf16⟩
  | 23 => ⟨S2x384x4x192, .f32⟩
  | 24 => ⟨S_, .f32⟩
  | 25 => ⟨S2x384x4x64, .f32⟩
  | 26 => ⟨S2x384x4x256, .f32⟩
  | 27 => ⟨S2x384x1024, .f32⟩
  | 28 => ⟨S2x384x1024, .bf16⟩
  | 29 => ⟨S2x128x1024, .bf16⟩
  | 30 => ⟨S2x1x384, .f32⟩
  | 31 => ⟨S2x1x128, .f32⟩
  | 32 => ⟨S2x1x128, .f32⟩
  | 33 => ⟨S2x1x128, .f32⟩
  | 34 => ⟨S4096, .i32⟩
  | 35 => ⟨S_, .i32⟩
  | 36 => ⟨S_, .i32⟩
  | 37 => ⟨S4096, .i32⟩
  | 38 => ⟨S4096, .i32⟩
  | 39 => ⟨S4096, .i32⟩
  | 40 => ⟨S_, .i32⟩
  | 41 => ⟨S4096, .i32⟩
  | 42 => ⟨S4096, .i1⟩
  | 43 => ⟨S4096, .i32⟩
  | 44 => ⟨S4096, .i32⟩
  | 45 => ⟨S_, .i32⟩
  | 46 => ⟨S4096, .i32⟩
  | 47 => ⟨S4096, .i1⟩
  | 48 => ⟨S4096, .i1⟩
  | 49 => ⟨S_, .i32⟩
  | 50 => ⟨S4096, .i32⟩
  | 51 => ⟨S4096, .i32⟩
  | 52 => ⟨S4096, .i32⟩
  | 53 => ⟨S4096, .f32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i1⟩
  | 68 => ⟨S_, .i32⟩
  | 69 => ⟨S_, .i1⟩
  | 70 => ⟨S4096, .i1⟩
  | 71 => ⟨S4096, .i1⟩
  | 72 => ⟨S4096, .i1⟩
  | 73 => ⟨S4096, .i32⟩
  | 74 => ⟨S4096, .i32⟩
  | 75 => ⟨S4096, .i32⟩
  | 76 => ⟨S4096, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S1x128, .i1⟩
  | 86 => ⟨S4096x1, .f32⟩
  | 87 => ⟨S4096x1, .f32⟩
  | 88 => ⟨S4096x128, .i1⟩
  | 89 => ⟨S4096x128, .f32⟩
  | 90 => ⟨S4096x128, .f32⟩
  | 91 => ⟨S4096x128, .f32⟩
  | 92 => ⟨S_, .i32⟩
  | 93 => ⟨S128, .i32⟩
  | 94 => ⟨S128, .i1⟩
  | 95 => ⟨S_, .i32⟩
  | 96 => ⟨S128, .i32⟩
  | 97 => ⟨S128, .i32⟩
  | 98 => ⟨S128, .i32⟩
  | 99 => ⟨S128x1, .i32⟩
  | 100 => ⟨S128, .f32⟩
  | 101 => ⟨S1x128, .f32⟩
  | 102 => ⟨S4096x128, .f32⟩
  | 103 => ⟨S4096x128, .f32⟩
  | 104 => ⟨S4096x128, .f32⟩
  | 105 => ⟨S4096x128, .f32⟩
  | 106 => ⟨S1x128, .i1⟩
  | 107 => ⟨S1x128, .i1⟩
  | 108 => ⟨S1x128, .i1⟩
  | 109 => ⟨S_, .f32⟩
  | 110 => ⟨S_, .f32⟩
  | 111 => ⟨S4096x128, .i1⟩
  | 112 => ⟨S4096x128, .f32⟩
  | 113 => ⟨S4096x128, .f32⟩
  | 114 => ⟨S4096x128, .f32⟩
  | 115 => ⟨S_, .f32⟩
  | 116 => ⟨S_, .f32⟩
  | 117 => ⟨S4096x128, .i1⟩
  | 118 => ⟨S4096x128, .f32⟩
  | 119 => ⟨S4096x128, .f32⟩
  | 120 => ⟨S_, .f32⟩
  | 121 => ⟨S_, .f32⟩
  | 122 => ⟨S4096x128, .i1⟩
  | 123 => ⟨S4096x128, .f32⟩
  | 124 => ⟨S4096x128, .f32⟩
  | 125 => ⟨S16, .f32⟩
  | 126 => ⟨S16, .f32⟩
  | 127 => ⟨S_, .f32⟩
  | _ => ⟨S4x4096x2048, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S1x128, .i1⟩
  | 6 => ⟨S4096x1, .f32⟩
  | 7 => ⟨S4096x1, .f32⟩
  | 8 => ⟨S4096x128, .i1⟩
  | 9 => ⟨S4096x128, .f32⟩
  | 10 => ⟨S4096x128, .f32⟩
  | 11 => ⟨S4096x128, .f32⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S128, .f32⟩
  | 21 => ⟨S1x128, .f32⟩
  | 22 => ⟨S4096x128, .f32⟩
  | 23 => ⟨S4096x128, .f32⟩
  | 24 => ⟨S4096x128, .f32⟩
  | 25 => ⟨S4096x128, .f32⟩
  | 26 => ⟨S1x128, .i1⟩
  | 27 => ⟨S1x128, .i1⟩
  | 28 => ⟨S1x128, .i1⟩
  | 29 => ⟨S_, .f32⟩
  | 30 => ⟨S_, .f32⟩
  | 31 => ⟨S4096x128, .i1⟩
  | 32 => ⟨S4096x128, .f32⟩
  | 33 => ⟨S4096x128, .f32⟩
  | 34 => ⟨S4096x128, .f32⟩
  | 35 => ⟨S_, .f32⟩
  | 36 => ⟨S_, .f32⟩
  | 37 => ⟨S4096x128, .i1⟩
  | 38 => ⟨S4096x128, .f32⟩
  | 39 => ⟨S4096x128, .f32⟩
  | 40 => ⟨S_, .f32⟩
  | 41 => ⟨S_, .f32⟩
  | 42 => ⟨S4096x128, .i1⟩
  | 43 => ⟨S4096x128, .f32⟩
  | 44 => ⟨S4096x128, .f32⟩
  | 45 => ⟨S1x4096x128, .f32⟩
  | 46 => ⟨S1x4096x128, .f32⟩
  | 47 => ⟨S1x4096x128, .f32⟩
  | 48 => ⟨S1x4096x128, .f32⟩
  | 49 => ⟨S1x4096x128, .f32⟩
  | 50 => ⟨S1x4096x128, .f32⟩
  | 51 => ⟨S6x4096x128, .f32⟩
  | 52 => ⟨S4x512x4096, .bf16⟩
  | 53 => ⟨S4x4096x512, .bf16⟩
  | 54 => ⟨S4x512x4096, .bf16⟩
  | 55 => ⟨S4x512x4096, .bf16⟩
  | 56 => ⟨S4x4096x256, .bf16⟩
  | 57 => ⟨S4x256x4096, .bf16⟩
  | 58 => ⟨S4x1024x4096, .bf16⟩
  | 59 => ⟨S4x4096x1024, .bf16⟩
  | 60 => ⟨S4x512x4096, .bf16⟩
  | 61 => ⟨S4x512x4096, .bf16⟩
  | 62 => ⟨S4x4096x256, .bf16⟩
  | 63 => ⟨S4x256x4096, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x3136, .bf16⟩
  | .local _ .vmem, ⟨7, _⟩ => ⟨S1x2048x1024, .bf16⟩
  | .local _ .vmem, ⟨8, _⟩ => ⟨S6x256x128, .f32⟩
  | .local _ .vmem, ⟨9, _⟩ => ⟨S6x256x128, .f32⟩
  | .local _ .vmem, ⟨10, _⟩ => ⟨S1x1x384, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x384x1024, .bf16⟩
  | .local _ .vmem, ⟨15, _⟩ => ⟨S1x128x1024, .bf16⟩
  | .local _ .vmem, ⟨16, _⟩ => ⟨S1x512x256, .bf16⟩
  | .local _ .vmem, ⟨17, _⟩ => ⟨S1x512x256, .bf16⟩
  | .local _ .vmem, ⟨18, _⟩ => ⟨S1x256x512, .bf16⟩
  | .local _ .vmem, ⟨19, _⟩ => ⟨S1x256x512, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x256x256, .bf16⟩
  | .local _ .vmem, ⟨25, _⟩ => ⟨S1x256x256, .bf16⟩
  | .local _ .vmem, ⟨26, _⟩ => ⟨S1x256x256, .bf16⟩
  | .local _ .vmem, ⟨27, _⟩ => ⟨S1x256x256, .bf16⟩
  | .local _ .vmem, ⟨28, _⟩ => ⟨S1x1024x256, .bf16⟩
  | .local _ .vmem, ⟨29, _⟩ => ⟨S1x1024x256, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x512x256, .bf16⟩
  | .local _ .vmem, ⟨33, _⟩ => ⟨S1x512x256, .bf16⟩
  | .local _ .vmem, ⟨34, _⟩ => ⟨S1x512x256, .bf16⟩
  | .local _ .vmem, ⟨35, _⟩ => ⟨S1x512x256, .bf16⟩
  | .local _ .vmem, ⟨36, _⟩ => ⟨S1x256x256, .bf16⟩
  | .local _ .vmem, ⟨37, _⟩ => ⟨S1x256x256, .bf16⟩
  | .local _ .vmem, ⟨38, _⟩ => ⟨S1x256x256, .bf16⟩
  | .local _ .vmem, ⟨39, _⟩ => ⟨S1x256x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_c_4 : Ref sig .tc := ⟨.hbm, 15, rfl⟩
abbrev main_c_5 : Ref sig .tc := ⟨.hbm, 16, rfl⟩
abbrev main_c_6 : Ref sig .tc := ⟨.hbm, 17, rfl⟩
abbrev main_c_7 : Ref sig .tc := ⟨.hbm, 18, rfl⟩
abbrev main_c_8 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_9 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v14 : Ref sig .tc := ⟨.hbm, 52, rfl⟩
abbrev main_v15 : Ref sig .tc := ⟨.hbm, 53, rfl⟩
abbrev main_c_10 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_cst_11 : Ref sig .tc := ⟨.hbm, 79, rfl⟩
abbrev main_v20 : Ref sig .tc := ⟨.hbm, 80, rfl⟩
abbrev main_v21 : Ref sig .tc := ⟨.hbm, 81, rfl⟩
abbrev main_cst_12 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v27 : Ref sig .tc := ⟨.hbm, 91, rfl⟩
abbrev main_c_13 : Ref sig .tc := ⟨.hbm, 92, rfl⟩
abbrev main_v28 : Ref sig .tc := ⟨.hbm, 93, rfl⟩
abbrev main_v29 : Ref sig .tc := ⟨.hbm, 94, rfl⟩
abbrev main_c_14 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_cst_15 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v43 : Ref sig .tc := ⟨.hbm, 113, rfl⟩
abbrev main_v44 : Ref sig .tc := ⟨.hbm, 114, rfl⟩
abbrev main_cst_16 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v45 : Ref sig .tc := ⟨.hbm, 119, rfl⟩
abbrev main_cst_17 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_cst_18 : Ref sig .tc := ⟨.hbm, 127, rfl⟩
abbrev main_v49 : Ref sig .tc := ⟨.hbm, 128, rfl⟩
abbrev main_v50 : Ref sig .tc := ⟨.hbm, 129, rfl⟩
abbrev main_cst_19 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_v56 : Ref sig .tc := ⟨.hbm, 139, rfl⟩
abbrev main_c_20 : Ref sig .tc := ⟨.hbm, 140, rfl⟩
abbrev main_v57 : Ref sig .tc := ⟨.hbm, 141, rfl⟩
abbrev main_v58 : Ref sig .tc := ⟨.hbm, 142, rfl⟩
abbrev main_c_21 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_cst_22 : Ref sig .tc := ⟨.hbm, 157, rfl⟩
abbrev main_call7_v0 : Ref sig .tc := ⟨.hbm, 158, rfl⟩
abbrev main_call7_v1 : Ref sig .tc := ⟨.hbm, 159, rfl⟩
abbrev main_call7_v2 : Ref sig .tc := ⟨.hbm, 160, rfl⟩
abbrev main_v72 : Ref sig .tc := ⟨.hbm, 161, rfl⟩
abbrev main_v73 : Ref sig .tc := ⟨.hbm, 162, rfl⟩
abbrev main_cst_23 : Ref sig .tc := ⟨.hbm, 163, rfl⟩
abbrev main_call8_v0 : Ref sig .tc := ⟨.hbm, 164, rfl⟩
abbrev main_call8_v1 : Ref sig .tc := ⟨.hbm, 165, rfl⟩
abbrev main_call8_v2 : Ref sig .tc := ⟨.hbm, 166, rfl⟩
abbrev main_v74 : Ref sig .tc := ⟨.hbm, 167, rfl⟩
abbrev main_cst_24 : Ref sig .tc := ⟨.hbm, 168, rfl⟩
abbrev main_call9_v0 : Ref sig .tc := ⟨.hbm, 169, rfl⟩
abbrev main_call9_v1 : Ref sig .tc := ⟨.hbm, 170, rfl⟩
abbrev main_call9_v2 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83_0 : Ref sig .tc := ⟨.hbm, 180, rfl⟩
abbrev main_v83_1 : Ref sig .tc := ⟨.hbm, 181, rfl⟩
abbrev main_v83_2 : Ref sig .tc := ⟨.hbm, 182, rfl⟩
abbrev main_v83_3 : Ref sig .tc := ⟨.hbm, 183, rfl⟩
abbrev main_v83_4 : Ref sig .tc := ⟨.hbm, 184, rfl⟩
abbrev main_v83_5 : Ref sig .tc := ⟨.hbm, 185, rfl⟩
abbrev main_v83_6 : Ref sig .tc := ⟨.hbm, 186, rfl⟩
abbrev main_v83_7 : Ref sig .tc := ⟨.hbm, 187, rfl⟩
abbrev main_v83_8 : Ref sig .tc := ⟨.hbm, 188, rfl⟩
abbrev main_v83_9 : Ref sig .tc := ⟨.hbm, 189, rfl⟩
abbrev main_v83_10 : Ref sig .tc := ⟨.hbm, 190, rfl⟩
abbrev main_v83_11 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048x3136 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S6x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ProjReferenceIdeal.lean ====
abbrev S4x4096x2048 : Shape := ⟨3, ![4, 4096, 2048]⟩
abbrev S4x1x2048 : Shape := ⟨3, ![4, 1, 2048]⟩
abbrev S2x2048x4160 : Shape := ⟨3, ![2, 2048, 4160]⟩
abbrev S2x384 : Shape := ⟨2, ![2, 384]⟩
abbrev S2x128 : Shape := ⟨2, ![2, 128]⟩
abbrev S2x384x768 : Shape := ⟨3, ![2, 384, 768]⟩
abbrev S2x128x1024 : Shape := ⟨3, ![2, 128, 1024]⟩
abbrev S_ : Shape := ⟨0, ![]⟩
abbrev S4x4096 : Shape := ⟨2, ![4, 4096]⟩
abbrev S4x4096x1 : Shape := ⟨3, ![4, 4096, 1]⟩
abbrev S1x2048x4160 : Shape := ⟨3, ![1, 2048, 4160]⟩
abbrev S2048x4160 : Shape := ⟨2, ![2048, 4160]⟩
abbrev S4x4096x4160 : Shape := ⟨3, ![4, 4096, 4160]⟩
abbrev S4x4096x512 : Shape := ⟨3, ![4, 4096, 512]⟩
abbrev S4x4096x256 : Shape := ⟨3, ![4, 4096, 256]⟩
abbrev S4x4096x384 : Shape := ⟨3, ![4, 4096, 384]⟩
abbrev S4x4096x128 : Shape := ⟨3, ![4, 4096, 128]⟩
abbrev S4x4096x64 : Shape := ⟨3, ![4, 4096, 64]⟩
abbrev S1x128 : Shape := ⟨2, ![1, 128]⟩
abbrev S128 : Shape := ⟨1, ![128]⟩
abbrev S1x1x128 : Shape := ⟨3, ![1, 1, 128]⟩
abbrev S1x128x1024 : Shape := ⟨3, ![1, 128, 1024]⟩
abbrev S128x1024 : Shape := ⟨2, ![128, 1024]⟩
abbrev S4x4096x1024 : Shape := ⟨3, ![4, 4096, 1024]⟩
abbrev S4x4096x4x256 : Shape := ⟨4, ![4, 4096, 4, 256]⟩
abbrev S4x4x4096x256 : Shape := ⟨4, ![4, 4, 4096, 256]⟩
abbrev S4x512x4096 : Shape := ⟨3, ![4, 512, 4096]⟩
abbrev S4x256x4096 : Shape := ⟨3, ![4, 256, 4096]⟩
abbrev S4x4x4096x128 : Shape := ⟨4, ![4, 4, 4096, 128]⟩
abbrev S4x4096x4x128 : Shape := ⟨4, ![4, 4096, 4, 128]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2x2048x4160, .f32⟩
  | .hbm, ⟨4, _⟩ => ⟨S2x384, .f32⟩
  | .hbm, ⟨5, _⟩ => ⟨S2x128, .f32⟩
  | .hbm, ⟨6, _⟩ => ⟨S2x384x768, .f32⟩
  | .hbm, ⟨7, _⟩ => ⟨S2x128x1024, .f32⟩
  | .hbm, ⟨8, _⟩ => ⟨S2x128, .f32⟩
  | .hbm, ⟨9, _⟩ => ⟨S2x128, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S1x2048x4160, .f32⟩
  | .hbm, ⟨41, _⟩ => ⟨S2048x4160, .f32⟩
  | .hbm, ⟨42, _⟩ => ⟨S4x4096x4160, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S4x4096x256, .f32⟩
  | .hbm, ⟨48, _⟩ => ⟨S4x4096x256, .f32⟩
  | .hbm, ⟨49, _⟩ => ⟨S4x4096x384, .f32⟩
  | .hbm, ⟨50, _⟩ => ⟨S4x4096x128, .f32⟩
  | .hbm, ⟨51, _⟩ => ⟨S4x4096x64, .f32⟩
  | .hbm, ⟨52, _⟩ => ⟨S4x4096x512, .f32⟩
  | .hbm, ⟨53, _⟩ => ⟨S4x4096x256, .f32⟩
  | .hbm, ⟨54, _⟩ => ⟨S4x4096x256, .f32⟩
  | .hbm, ⟨55, _⟩ => ⟨S1x128, .f32⟩
  | .hbm, ⟨56, _⟩ => ⟨S128, .f32⟩
  | .hbm, ⟨57, _⟩ => ⟨S4x4096x128, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1, .f32⟩
  | .hbm, ⟨68, _⟩ => ⟨S4x4096x128, .f32⟩
  | .hbm, ⟨69, _⟩ => ⟨S4x4096x128, .f32⟩
  | .hbm, ⟨70, _⟩ => ⟨S1x1x128, .f32⟩
  | .hbm, ⟨71, _⟩ => ⟨S4x4096x128, .f32⟩
  | .hbm, ⟨72, _⟩ => ⟨S4x4096x128, .f32⟩
  | .hbm, ⟨73, _⟩ => ⟨S1x128x1024, .f32⟩
  | .hbm, ⟨74, _⟩ => ⟨S128x1024, .f32⟩
  | .hbm, ⟨75, _⟩ => ⟨S4x4096x1024, .f32⟩
  | .hbm, ⟨76, _⟩ => ⟨S4x4096x4x256, .f32⟩
  | .hbm, ⟨77, _⟩ => ⟨S4x4x4096x256, .f32⟩
  | .hbm, ⟨78, _⟩ => ⟨S4x512x4096, .f32⟩
  | .hbm, ⟨79, _⟩ => ⟨S4x512x4096, .bf16⟩
  | .hbm, ⟨80, _⟩ => ⟨S4x4096x512, .bf16⟩
  | .hbm, ⟨81, _⟩ => ⟨S4x512x4096, .f32⟩
  | .hbm, ⟨82, _⟩ => ⟨S4x512x4096, .bf16⟩
  | .hbm, ⟨83, _⟩ => ⟨S4x256x4096, .f32⟩
  | .hbm, ⟨84, _⟩ => ⟨S4x256x4096, .bf16⟩
  | .hbm, ⟨85, _⟩ => ⟨S4x4x4096x128, .f32⟩
  | .hbm, ⟨86, _⟩ => ⟨S4x4096x4x128, .f32⟩
  | .hbm, ⟨87, _⟩ => ⟨S4x4096x512, .f32⟩
  | .hbm, ⟨88, _⟩ => ⟨S4x512x4096, .f32⟩
  | .hbm, ⟨89, _⟩ => ⟨S4x512x4096, .bf16⟩
  | .hbm, ⟨90, _⟩ => ⟨S4x256x4096, .f32⟩
  | .hbm, ⟨91, _⟩ => ⟨S4x256x4096, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Proof.Flash.lean ====
/- The softmax-weighted sum, taken chunk by chunk with a running maximum, over the extended reals: what the running
   pair (maximum, accumulator) holds after `n` keys, how one more chunk changes it, and the quotient at the end. -/
module

public import Idealize.ShloMosaic.PureOps.Ideal
public import Mathlib.Analysis.SpecialFunctions.Pow.Real
public import Mathlib.Algebra.BigOperators.Fin

@[expose] public section

noncomputable section

namespace Cert.Flash

open Idealize.ShloMosaic Finset

/-! ## Sums of extended reals under a real factor -/

/-- A nonnegative real factor goes into a sum of extended reals. -/
theorem coe_mul_sum {ι : Type} (c : ℝ) (hc : 0 ≤ c) (t : Finset ι) (f : ι → EReal) :
    (c : EReal) * ∑ j ∈ t, f j = ∑ j ∈ t, (c : EReal) * f j := by
  classical
  induction t using Finset.induction_on with
  | empty => simp
  | insert a t ha ih =>
    rw [sum_insert ha, sum_insert ha, ← ih]
    exact EReal.left_distrib_of_nonneg_of_ne_top (by exact_mod_cast hc) (EReal.coe_ne_top c) _ _

/-- The coercion of a sum of reals. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [sum_insert ha, sum_insert ha, EReal.coe_add, ih]

/-- A fold of `max` from `⊥` over a nonempty range of reals is a real. -/
theorem fold_max_coe {ι : Type} (op : EReal → EReal → EReal) [Std.Commutative op] [Std.Associative op]
    (hop : ∀ a b : ℝ, ∃ r : ℝ, op (a : EReal) (b : EReal) = (r : EReal)) (hbot : ∀ a : ℝ, op (a : EReal) ⊥ = (a : EReal))
    (t : Finset ι) (ht : t.Nonempty) (f : ι → ℝ) : ∃ r : ℝ, t.fold op ⊥ (fun j => (f j : EReal)) = (r : EReal) := by
  classical
  induction t using Finset.induction_on with
  | empty => exact absurd ht (by simp)
  | insert a t ha ih =>
    rw [fold_insert ha]
    rcases t.eq_empty_or_nonempty with rfl | hne
    · exact ⟨f a, by rw [fold_empty]; exact hbot _⟩
    · obtain ⟨r, hr⟩ := ih hne
      rw [hr]
      exact hop _ _

/-! ## The running pair -/

/-- After the first `n` keys, with scores `s` (base 2) and values `v`: the running maximum is some real `m` and the
    accumulator is the sum of the values weighted by `2 ^ (s j - m)`. -/
def Upto (s : ℕ → ℝ) (v : ℕ → EReal) (n : ℕ) (M A : EReal) : Prop :=
  ∃ m : ℝ, M = (m : EReal) ∧ A = ∑ j ∈ range n, v j * (((2 : ℝ) ^ (s j - m) : ℝ) : EReal)

theorem exp2_sub (a b : ℝ) : Ideal.exp2 ((a : EReal) - (b : EReal)) = (((2 : ℝ) ^ (a - b) : ℝ) : EReal) := by
  rw [← EReal.coe_sub]; rfl

/-- The first chunk, from the maximum `⊥` and the accumulator 0. -/
theorem Upto.start (s : ℕ → ℝ) (v : ℕ → EReal) (b : ℕ) (M' : EReal) (hM : ∃ m : ℝ, M' = (m : EReal))
    (S W : Fin b → EReal) (hS : ∀ j, S j = (s j.val : EReal)) (hW : ∀ j, W j = v j.val) :
    Upto s v b M' (Ideal.exp2 (⊥ - M') * 0 + ∑ j : Fin b, W j * Ideal.exp2 (S j - M')) := by
  obtain ⟨m, rfl⟩ := hM
  refine ⟨m, rfl, ?_⟩
  rw [mul_zero, zero_add, sum_range]
  exact sum_congr rfl fun j _ => by rw [hS, hW, exp2_sub]

/-- One more chunk: rescale the accumulator to the new maximum and add the chunk's weighted values. -/
theorem Upto.step {s : ℕ → ℝ} {v : ℕ → EReal} {n : ℕ} {M A : EReal} (h : Upto s v n M A) (b : ℕ) (M' : EReal)
    (hM : ∃ m : ℝ, M' = (m : EReal)) (S W : Fin b → EReal) (hS : ∀ j, S j = (s (n + j.val) : EReal))
    (hW : ∀ j, W j = v (n + j.val)) :
    Upto s v (n + b) M' (Ideal.exp2 (M - M') * A + ∑ j : Fin b, W j * Ideal.exp2 (S j - M')) := by
  obtain ⟨m, rfl, rfl⟩ := h
  obtain ⟨m', rfl⟩ := hM
  refine ⟨m', rfl, ?_⟩
  rw [exp2_sub, coe_mul_sum _ (by positivity), sum_range_add]
  congr 1
  · refine sum_congr rfl fun j _ => ?_
    rw [mul_left_comm, ← EReal.coe_mul, ← Real.rpow_add (by norm_num)]
    congr 3; ring
  · rw [sum_range]
    exact sum_congr rfl fun j _ => by rw [hS, hW, exp2_sub]

/-- The quotient of the accumulator by the accumulator of ones: the values weighted by the softmax of the scores, in
    base 2, whatever the maximum was. -/
theorem Upto.quotient {s : ℕ → ℝ} {v o : ℕ → EReal} {n : ℕ} (hn : 0 < n) {M A D : EReal} (h : Upto s v n M A)
    (h1 : Upto s o n M D) (ho : ∀ j, o j = 1) :
    Ideal.div A D = ∑ j ∈ range n, v j * (((2 : ℝ) ^ s j / ∑ k ∈ range n, (2 : ℝ) ^ s k : ℝ) : EReal) := by
  obtain ⟨m, rfl, rfl⟩ := h
  obtain ⟨m', hm, rfl⟩ := h1
  obtain rfl : m = m' := by exact_mod_cast hm
  have hpos : ∀ x : ℝ, 0 < ∑ k ∈ range n, (2 : ℝ) ^ (s k - x) := fun x =>
    sum_pos (fun k _ => by positivity) ⟨0, mem_range.2 hn⟩
  have hD : ∑ j ∈ range n, o j * (((2 : ℝ) ^ (s j - m) : ℝ) : EReal)
      = ((∑ k ∈ range n, (2 : ℝ) ^ (s k - m) : ℝ) : EReal) := by
    rw [coe_sum]; exact sum_congr rfl fun j _ => by rw [ho, one_mul]
  rw [hD, Ideal.div, if_neg (by exact_mod_cast (hpos m).ne'), ← EReal.coe_inv, mul_comm,
    coe_mul_sum _ (inv_nonneg.2 (hpos m).le)]
  refine sum_congr rfl fun j _ => ?_
  rw [mul_left_comm, ← EReal.coe_mul]
  congr 2
  have h2 : ∀ k, (2 : ℝ) ^ (s k - m) = (2 : ℝ) ^ s k * ((2 : ℝ) ^ m)⁻¹ := fun k => by
    rw [Real.rpow_sub (by norm_num), div_eq_mul_inv]
  have hm0 : ((2 : ℝ) ^ m) ≠ 0 := by positivity
  simp_rw [h2]
  rw [← sum_mul]
  have h0 : (∑ k ∈ range n, (2 : ℝ) ^ s k) ≠ 0 := (sum_pos (fun k _ => by positivity) ⟨0, mem_range.2 hn⟩).ne'
  field_simp

/-! ## The softmax as jnp takes it -/

/-- Two to the power `x / log 2` is `exp x`. -/
theorem two_rpow_div_log (x : ℝ) : (2 : ℝ) ^ (x * (Real.log 2)⁻¹) = Real.exp x := by
  rw [Real.rpow_def_of_pos (by norm_num)]
  congr 1
  have : Real.log 2 ≠ 0 := (Real.log_pos (by norm_num)).ne'
  field_simp

/-- `exp (x j - X) / Σ exp (x k - X)` as reals, for any shift `X`. -/
theorem softmax_shift {n : ℕ} (hn : 0 < n) (x : ℕ → ℝ) (X : ℝ) (j : ℕ) :
    Ideal.div (Ideal.exp ((x j : EReal) - (X : EReal))) (∑ k : Fin n, Ideal.exp ((x k.val : EReal) - (X : EReal)))
      = ((Real.exp (x j) / ∑ k ∈ range n, Real.exp (x k) : ℝ) : EReal) := by
  have he : ∀ a : ℝ, Ideal.exp ((a : EReal) - (X : EReal)) = ((Real.exp (a - X) : ℝ) : EReal) := fun a => by
    rw [← EReal.coe_sub]; rfl
  have hpos : ∀ f : ℕ → ℝ, 0 < ∑ k ∈ range n, Real.exp (f k) := fun f =>
    sum_pos (fun k _ => Real.exp_pos _) ⟨0, mem_range.2 hn⟩
  simp_rw [he]
  rw [← coe_sum, ← sum_range (fun k => Real.exp (x k - X)), Ideal.div,
    if_neg (by exact_mod_cast (hpos fun k => x k - X).ne'), ← EReal.coe_inv, ← EReal.coe_mul]
  congr 1
  simp_rw [Real.exp_sub]
  rw [← sum_div]
  have h0 := (hpos x).ne'
  have h1 := (Real.exp_pos X).ne'
  field_simp

end Cert.Flash

end
-- ==== Proof.Chunks.lean ====
/- The attention body's vector values over the extended reals: the two operations a chunk of keys does (the new running
   maximum, the accumulator rescaled and added into), read at one query column and one value row, and the whole chain of
   nine chunks with its closing quotient. -/
module

public import proofs.«01_k».proof.Proof.Gen.KernelIdeal.Frame
public import Idealize.ShloMosaic.Lib.Pipeline.ValueKit
public import proofs.«01_k».proof.Proof.Flash

@[expose] public section

set_option maxRecDepth 16384

noncomputable section

namespace Cert.Chunks

open Idealize.ShloMosaic Idealize.ShloMosaic.TcCoe Idealize.SL.Sem
open Cert.KernelIdeal Cert.KernelIdeal.Gen Cert.Flash

/-- The accumulator after one chunk of 512 keys. -/
def upd (M M' : FVec Ideal S1x1024 .f32) (A : FVec Ideal S144x1024 .f32) (S : FVec Ideal S512x1024 .f32)
    (V : Vec Ideal S1x128x512 .bf16) : FVec Ideal S144x1024 .f32 :=
  addf (mulf (broadcastTo S144x1024 (exp2 (subf M M')) broadcasts_S1x1024_S144x1024) A)
    (matmul dot_S144x512_S512x1024_S144x1024_1_0_0_1_n_n none
      (concatenate S144x512 0 [⟨S128x512, shapeCast S128x512 V shapeCasts_S1x128x512_S128x512⟩,
        ⟨S16x512, broadcast S16x512 (Scalar.ofBits .bf16 0x3F80#16)⟩] concatenates_S128x512_S16x512_S144x512_d0)
      (truncf .bf16 (exp2 (subf S (broadcastTo S512x1024 M' broadcasts_S1x1024_S512x1024))) bitsLt_bf16_f32)
      (constant S144x1024 .f32 0x00000000#32))

/-- The accumulator after the context's chunk of 256 keys. -/
def updCtx (M M' : FVec Ideal S1x1024 .f32) (A : FVec Ideal S144x1024 .f32) (S : FVec Ideal S256x1024 .f32)
    (V : Vec Ideal S1x128x256 .bf16) : FVec Ideal S144x1024 .f32 :=
  addf (mulf (broadcastTo S144x1024 (exp2 (subf M M')) broadcasts_S1x1024_S144x1024) A)
    (matmul dot_S144x256_S256x1024_S144x1024_1_0_0_1_n_n none
      (concatenate S144x256 0 [⟨S128x256, shapeCast S128x256 V shapeCasts_S1x128x256_S128x256⟩,
        ⟨S16x256, broadcast S16x256 (Scalar.ofBits .bf16 0x3F80#16)⟩] concatenates_S128x256_S16x256_S144x256_d0)
      (truncf .bf16 (exp2 (subf S (broadcastTo S256x1024 M' broadcasts_S1x1024_S256x1024))) bitsLt_bf16_f32)
      (constant S144x1024 .f32 0x00000000#32))

/-- The running maximum after the context's chunk. -/
def maxCtx (S : FVec Ideal S256x1024 .f32) (M : FVec Ideal S1x1024 .f32) : FVec Ideal S1x1024 .f32 :=
  maximumf M (shapeCast S1x1024 (multiReduction .maximumf [0] S1024 S 0xFF800000#32 reduces_S256x1024_S1024 (.inl rfl) rfl)
    shapeCasts_S1024_S1x1024)

theorem ofBits_bot : Ideal.ofBits .f32 0xFF800000#32 = ⊥ := by
  simp [Ideal.ofBits, Ideal.ieee]

/-- The maximum of a real, or of `⊥`, and of a nonempty column of reals is a real. -/
theorem max_fold_real {b : ℕ} (hb : 0 < b) (M : EReal) (hM : M = ⊥ ∨ ∃ m : ℝ, M = (m : EReal)) (S : Fin b → EReal)
    (hS : ∀ j, ∃ r : ℝ, S j = (r : EReal)) :
    ∃ r : ℝ, max M (Finset.fold max (Ideal.ofBits .f32 0xFF800000#32) S Finset.univ) = (r : EReal) := by
  choose f hf using hS
  have hmax : ∀ a c : ℝ, ∃ r : ℝ, max (a : EReal) (c : EReal) = (r : EReal) := fun a c =>
    ⟨max a c, (EReal.coe_strictMono.monotone.map_max (a := a) (b := c)).symm⟩
  haveI : Nonempty (Fin b) := ⟨⟨0, hb⟩⟩
  obtain ⟨r, hr⟩ := fold_max_coe max hmax (fun a => max_eq_left bot_le) Finset.univ Finset.univ_nonempty f
  rw [ofBits_bot, funext hf, hr]
  rcases hM with rfl | ⟨m, rfl⟩
  · exact ⟨r, max_eq_right bot_le⟩
  · exact hmax m r

theorem pay9_real {M : FVec Ideal S1x1024 .f32} {S : FVec Ideal S512x1024 .f32} {i : Fin 1024}
    (hM : M (ix2 0 i) = (⊥ : EReal) ∨ ∃ m : ℝ, M (ix2 0 i) = (m : EReal))
    (hS : ∀ j : Fin 512, ∃ r : ℝ, S (ix2 j i) = (r : EReal)) : ∃ r : ℝ, k0_pay9 S M (ix2 0 i) = (r : EReal) := by
  pointwise [k0_pay9]
  exact max_fold_real (by norm_num) _ hM _ hS

theorem maxCtx_real {M : FVec Ideal S1x1024 .f32} {S : FVec Ideal S256x1024 .f32} {i : Fin 1024}
    (hM : M (ix2 0 i) = (⊥ : EReal) ∨ ∃ m : ℝ, M (ix2 0 i) = (m : EReal))
    (hS : ∀ j : Fin 256, ∃ r : ℝ, S (ix2 j i) = (r : EReal)) : ∃ r : ℝ, maxCtx S M (ix2 0 i) = (r : EReal) := by
  pointwise [maxCtx]
  exact max_fold_real (by norm_num) _ hM _ hS

/-- Row `d` of the values of a chunk, with the rows of ones below them. -/
def row {b : ℕ} (V : (⟨3, ![1, 128, b]⟩ : Shape).Idx → EReal) (d : Fin 144) (j : Fin b) : EReal :=
  if h : d.val < 128 then V (ix3 0 ⟨d.val, h⟩ j) else 1

theorem upd_at (M M' : FVec Ideal S1x1024 .f32) (A : FVec Ideal S144x1024 .f32) (S : FVec Ideal S512x1024 .f32)
    (V : Vec Ideal S1x128x512 .bf16) (d : Fin 144) (i : Fin 1024) :
    upd M M' A S V (ix2 d i) = Ideal.exp2 (M (ix2 0 i) - M' (ix2 0 i)) * A (ix2 d i)
      + ∑ j : Fin 512, row V d j * Ideal.exp2 (S (ix2 j i) - M' (ix2 0 i)) := by
  pointwise [upd]
  rfl

theorem updCtx_at (M M' : FVec Ideal S1x1024 .f32) (A : FVec Ideal S144x1024 .f32) (S : FVec Ideal S256x1024 .f32)
    (V : Vec Ideal S1x128x256 .bf16) (d : Fin 144) (i : Fin 1024) :
    updCtx M M' A S V (ix2 d i) = Ideal.exp2 (M (ix2 0 i) - M' (ix2 0 i)) * A (ix2 d i)
      + ∑ j : Fin 256, row V d j * Ideal.exp2 (S (ix2 j i) - M' (ix2 0 i)) := by
  pointwise [updCtx]
  rfl

/-! ## The chain of chunks -/

/-- The running maximum and the accumulator after the first `k` chunks, with score blocks `S` and value blocks `V`. -/
def st (S : ℕ → FVec Ideal S512x1024 .f32) (V : ℕ → Vec Ideal S1x128x512 .bf16) :
    ℕ → FVec Ideal S1x1024 .f32 × FVec Ideal S144x1024 .f32
  | 0 => (k0_pay3 (F := Ideal), broadcast S144x1024 (Scalar.ofBits (F := Ideal) .f32 0x00000000#32))
  | k + 1 => (k0_pay9 (S k) (st S V k).1, upd (st S V k).1 (k0_pay9 (S k) (st S V k).1) (st S V k).2 (S k) (V k))

/-- The accumulator's rows of values divided by its row of ones, transposed. -/
def quot (A : FVec Ideal S144x1024 .f32) : FVec Ideal S1x1024x128 .bf16 :=
  k0_pay1 (truncf .bf16 (transpose S1024x128 [1, 0]
    (divf (extractStridedSlice S128x1024 ![0, 0] A slices_S144x1024_o0_0_S128x1024)
      (broadcastTo S128x1024 (extractStridedSlice S1x1024 ![128, 0] A slices_S144x1024_o128_0_S1x1024)
        broadcasts_S1x1024_S128x1024)) transposes_S128x1024_p1_0_S1024x128) bitsLt_bf16_f32)

/-- Eight chunks of 512 keys, the context's chunk, and the quotient. -/
def attn (S : ℕ → FVec Ideal S512x1024 .f32) (V : ℕ → Vec Ideal S1x128x512 .bf16) (Sc : FVec Ideal S256x1024 .f32)
    (Vc : Vec Ideal S1x128x256 .bf16) : FVec Ideal S1x1024x128 .bf16 :=
  quot (updCtx (st S V 8).1 (maxCtx Sc (st S V 8).1) (st S V 8).2 Sc Vc)

theorem st_upto {S : ℕ → FVec Ideal S512x1024 .f32} {V : ℕ → Vec Ideal S1x128x512 .bf16} {i : Fin 1024} {d : Fin 144}
    {s : ℕ → ℝ} {v : ℕ → EReal} (hS : ∀ k < 8, ∀ j : Fin 512, S k (ix2 j i) = (s (512 * k + j.val) : EReal))
    (hV : ∀ k < 8, ∀ j : Fin 512, row (V k) d j = v (512 * k + j.val)) :
    ∀ k < 8, Upto s v (512 * (k + 1)) ((st S V (k + 1)).1 (ix2 0 i)) ((st S V (k + 1)).2 (ix2 d i)) := by
  intro k
  induction k with
  | zero =>
    intro h
    have hm : ∃ m : ℝ, (st S V 1).1 (ix2 0 i) = (m : EReal) := by
      refine pay9_real (.inl ?_) fun j => ⟨_, hS 0 h j⟩
      show (k0_pay3 (F := Ideal)) (ix2 0 i) = (⊥ : EReal)
      pointwise [k0_pay3]
      exact ofBits_bot
    have := Upto.start s v 512 _ hm (fun j => S 0 (ix2 j i)) (fun j => row (V 0) d j)
      (fun j => by rw [hS 0 h j]; simp) (fun j => by rw [hV 0 h j]; simp)
    refine Eq.mp ?_ this
    congr 1
    refine Eq.trans ?_ (upd_at _ _ _ _ _ d i).symm
    congr 2
    pointwise [st, k0_pay3]
  | succ k ih =>
    intro h
    have hu := ih (by omega)
    have hm : ∃ m : ℝ, (st S V (k + 2)).1 (ix2 0 i) = (m : EReal) :=
      pay9_real (.inr ⟨_, hu.choose_spec.1⟩) fun j => ⟨_, hS (k + 1) h j⟩
    have := hu.step 512 _ hm (fun j => S (k + 1) (ix2 j i)) (fun j => row (V (k + 1)) d j)
      (fun j => hS (k + 1) h j) (fun j => hV (k + 1) h j)
    show Upto s v (512 * (k + 1) + 512) _ (upd _ _ _ _ _ _)
    rw [upd_at]
    exact this

theorem quot_at (A : FVec Ideal S144x1024 .f32) (i : Fin 1024) (d : Fin 128) :
    quot A (ix3 0 i d) = Ideal.div (A (ix2 ⟨d.val, by omega⟩ i)) (A (ix2 ⟨128, by omega⟩ i)) := by
  pointwise [quot, k0_pay1]

/-- The chain's result at query `i` and value column `d`: the values of all keys weighted by the softmax of the scores,
    in base 2. -/
theorem attn_at {S : ℕ → FVec Ideal S512x1024 .f32} {V : ℕ → Vec Ideal S1x128x512 .bf16} {Sc : FVec Ideal S256x1024 .f32}
    {Vc : Vec Ideal S1x128x256 .bf16} {i : Fin 1024} {d : Fin 128} {s : ℕ → ℝ} {v : ℕ → EReal}
    (hS : ∀ k < 8, ∀ j : Fin 512, S k (ix2 j i) = (s (512 * k + j.val) : EReal))
    (hSc : ∀ j : Fin 256, Sc (ix2 j i) = (s (4096 + j.val) : EReal))
    (hV : ∀ k < 8, ∀ j : Fin 512, V k (ix3 0 d j) = v (512 * k + j.val))
    (hVc : ∀ j : Fin 256, Vc (ix3 0 d j) = v (4096 + j.val)) :
    attn S V Sc Vc (ix3 0 i d)
      = ∑ j ∈ Finset.range 4352, v j * (((2 : ℝ) ^ s j / ∑ k ∈ Finset.range 4352, (2 : ℝ) ^ s k : ℝ) : EReal) := by
  have full : ∀ (e : Fin 144) (w : ℕ → EReal) (hV : ∀ k < 8, ∀ j : Fin 512, row (V k) e j = w (512 * k + j.val))
      (hVc : ∀ j : Fin 256, row Vc e j = w (4096 + j.val)),
      Upto s w 4352 (maxCtx Sc (st S V 8).1 (ix2 0 i))
        (updCtx (st S V 8).1 (maxCtx Sc (st S V 8).1) (st S V 8).2 Sc Vc (ix2 e i)) := by
    intro e w hV hVc
    have hu := st_upto hS hV 7 (by omega)
    have hm : ∃ m : ℝ, maxCtx Sc (st S V 8).1 (ix2 0 i) = (m : EReal) :=
      maxCtx_real (.inr ⟨_, hu.choose_spec.1⟩) fun j => ⟨_, hSc j⟩
    have := hu.step 256 _ hm (fun j => Sc (ix2 j i)) (fun j => row Vc e j) hSc hVc
    rw [updCtx_at]
    exact this
  refine (quot_at _ i d).trans ?_
  have hd : ∀ {b : ℕ} (W : (⟨3, ![1, 128, b]⟩ : Shape).Idx → EReal) (j : Fin b),
      row W (⟨d.val, by omega⟩ : Fin 144) j = W (ix3 0 d j) := fun W j => by
    unfold row; rw [dif_pos d.isLt]
  have h1 : ∀ {b : ℕ} (W : (⟨3, ![1, 128, b]⟩ : Shape).Idx → EReal) (j : Fin b),
      row W (⟨128, by omega⟩ : Fin 144) j = 1 := fun W j => by
    unfold row; rw [dif_neg (by norm_num)]
  exact Upto.quotient (by norm_num)
    (full ⟨d.val, by omega⟩ v (fun k hk j => (hd _ j).trans (hV k hk j)) (fun j => (hd _ j).trans (hVc j)))
    (full ⟨128, by omega⟩ (fun _ => 1) (fun k hk j => h1 _ j) (fun j => h1 _ j)) (fun _ => rfl)

end Cert.Chunks

end
-- ==== Proof.Dense.lean ====
/- What the attention body leaves in its output block, read at one query and one value column. -/
module

public import proofs.«01_k».proof.Proof.Gen.KernelIdeal.Frame
public import Idealize.ShloMosaic.Lib.Pipeline.ValueKit
public import proofs.«01_k».proof.Proof.Chunks

@[expose] public section

set_option maxRecDepth 16384

noncomputable section

namespace Cert.Dense

open Idealize.ShloMosaic Idealize.ShloMosaic.TcCoe Idealize.SL.Sem
open Cert.KernelIdeal Cert.KernelIdeal.Gen Cert.Flash Cert.Chunks

/-- The factor the body multiplies the queries with. -/
def kap : EReal := (Named.named κ "scale_log2e" 0x3E0293EE#32 : Ideal .f32)

/-- The scores of the latent's chunk `k`. -/
def score (x0 : Vec Ideal S1x128x1024 .f32) (x1 : Vec Ideal S1x4096x128 .bf16) : ℕ → FVec Ideal S512x1024 .f32
  | 0 => k0_pay4 (View.ld x0 r0_0) (View.ld x1 r0_1)
  | 1 => k0_pay5 (View.ld x0 r0_0) (View.ld x1 r0_2)
  | 2 => k0_pay8 (View.ld x0 r0_0) (View.ld x1 r0_4)
  | 3 => k0_pay10 (k0_pay2 (View.ld x0 r0_0)) (View.ld x1 r0_6)
  | 4 => k0_pay13 (k0_pay2 (View.ld x0 r0_0)) (View.ld x1 r0_8)
  | 5 => k0_pay15 (k0_pay2 (View.ld x0 r0_0)) (View.ld x1 r0_10)
  | 6 => k0_pay18 (k0_pay2 (View.ld x0 r0_0)) (View.ld x1 r0_12)
  | _ => k0_pay20 (k0_pay2 (View.ld x0 r0_0)) (View.ld x1 r0_14)

/-- The values of the latent's chunk `k`. -/
def vals (x2 : Vec Ideal S1x128x4096 .bf16) : ℕ → Vec Ideal S1x128x512 .bf16
  | 0 => View.ld x2 r0_3
  | 1 => View.ld x2 r0_5
  | 2 => View.ld x2 r0_7
  | 3 => View.ld x2 r0_9
  | 4 => View.ld x2 r0_11
  | 5 => View.ld x2 r0_13
  | 6 => View.ld x2 r0_15
  | _ => View.ld x2 r0_17

theorem out_eq (x0 : Vec Ideal S1x128x1024 .f32) (x1 : Vec Ideal S1x4096x128 .bf16) (x2 : Vec Ideal S1x128x4096 .bf16)
    (x3 : Vec Ideal S1x256x128 .bf16) (x4 : Vec Ideal S1x128x256 .bf16) :
    out0_5 x0 x1 x2 x3 x4 = attn (score x0 x1) (vals x2) (k0_pay23 (k0_pay2 (View.ld x0 r0_0)) (View.ld x3 r0_16))
      (View.ld x4 r0_18) := by
  unfold out0_5
  rw [View.canon_unit_zero (by decide)]
  rfl

theorem score_at (x0 : Vec Ideal S1x128x1024 .f32) (x1 : Vec Ideal S1x4096x128 .bf16) (k : ℕ) (hk : k < 8) (j : Fin 512)
    (i : Fin 1024) : score x0 x1 k (ix2 j i) = ∑ x : Fin 128, (x1 (ix3 0 ⟨512 * k + j.val, by omega⟩ x) : EReal)
      * ((x0 (ix3 0 x i) : EReal) * kap) := by
  interval_cases k <;>
    pointwise [score, k0_pay4, k0_pay5, k0_pay8, k0_pay10, k0_pay13, k0_pay15, k0_pay18, k0_pay20, k0_pay2, kap]

theorem scoreCtx_at (x0 : Vec Ideal S1x128x1024 .f32) (x3 : Vec Ideal S1x256x128 .bf16) (j : Fin 256)
    (i : Fin 1024) : k0_pay23 (k0_pay2 (View.ld x0 r0_0)) (View.ld x3 r0_16) (ix2 j i)
      = ∑ x : Fin 128, (x3 (ix3 0 j x) : EReal) * ((x0 (ix3 0 x i) : EReal) * kap) := by
  pointwise [k0_pay23, k0_pay2, kap]

theorem vals_at (x2 : Vec Ideal S1x128x4096 .bf16) (k : ℕ) (hk : k < 8) (d : Fin 128) (j : Fin 512) :
    vals x2 k (ix3 0 d j) = x2 (ix3 0 d ⟨512 * k + j.val, by omega⟩) := by
  interval_cases k <;> pointwise [vals]

/-- The block the body leaves, at a query and a value column: the average of the values under the weights `2 ^ score`. -/
theorem out_at (x0 : Vec Ideal S1x128x1024 .f32) (x1 : Vec Ideal S1x4096x128 .bf16) (x2 : Vec Ideal S1x128x4096 .bf16)
    (x3 : Vec Ideal S1x256x128 .bf16) (x4 : Vec Ideal S1x128x256 .bf16) (i : Fin 1024) (d : Fin 128) (s : ℕ → ℝ)
    (v : ℕ → EReal)
    (hS : ∀ n (h : n < 4096), ∑ x : Fin 128, (x1 (ix3 0 ⟨n, h⟩ x) : EReal) * ((x0 (ix3 0 x i) : EReal) * kap) = (s n : EReal))
    (hSc : ∀ j : Fin 256, ∑ x : Fin 128, (x3 (ix3 0 j x) : EReal) * ((x0 (ix3 0 x i) : EReal) * kap)
      = (s (4096 + j.val) : EReal))
    (hV : ∀ n (h : n < 4096), x2 (ix3 0 d ⟨n, h⟩) = v n) (hVc : ∀ j : Fin 256, x4 (ix3 0 d j) = v (4096 + j.val)) :
    out0_5 x0 x1 x2 x3 x4 (ix3 0 i d) = ∑ j ∈ Finset.range 4352, v j
      * (((2 : ℝ) ^ s j / ∑ k ∈ Finset.range 4352, (2 : ℝ) ^ s k : ℝ) : EReal) := by
  rw [out_eq]
  refine attn_at ?_ ?_ ?_ ?_
  · intro k hk j
    rw [score_at x0 x1 k hk, hS]
  · intro j
    rw [scoreCtx_at, hSc]
  · intro k hk j
    rw [vals_at x2 k hk, hV]
  · intro j
    rw [← hVc]
    pointwise

theorem kap_eq : kap = (((11863283 / 134217728) * (Real.log 2)⁻¹ : ℝ) : EReal) := by
  rfl

end Cert.Dense
-- ==== Proof.Target.lean ====
/- The attention of one query over the latent's keys and the context's keys after them, as a closed form: the scores are
   real numbers, the weights their softmax, the values arbitrary extended reals. -/
module

public import Idealize.ShloMosaic.Lib.Pipeline.ValueKit

@[expose] public section

noncomputable section

namespace Cert.Target

open Idealize.ShloMosaic

/-- Two runs of vectors one after the other: entry `j` of the first `n`, of the second (`c` long) from `n` on. -/
def joined {n c D : ℕ} (k : Fin n → Fin D → EReal) (kc : Fin c → Fin D → EReal) (j : ℕ) (x : Fin D) : EReal :=
  if h : j < n then k ⟨j, h⟩ x else if h' : j - n < c then kc ⟨j - n, h'⟩ x else 0

theorem joined_left {n c D : ℕ} (k : Fin n → Fin D → EReal) (kc : Fin c → Fin D → EReal) (j : ℕ) (h : j < n) (x : Fin D) :
    joined k kc j x = k ⟨j, h⟩ x := by
  simp [joined, h]

theorem joined_right {n c D : ℕ} (k : Fin n → Fin D → EReal) (kc : Fin c → Fin D → EReal) (j : Fin c) (x : Fin D) :
    joined k kc (n + j.val) x = kc j x := by
  simp [joined]

theorem joined_eq {n c D : ℕ} (k : Fin n → Fin D → EReal) (kc : Fin c → Fin D → EReal) (j : Fin (n + c)) (x : Fin D) :
    joined k kc j.val x = if h : j.val < n then k ⟨j.val, h⟩ x else kc ⟨j.val - n, by omega⟩ x := by
  unfold joined
  split_ifs with h1 h2
  · rfl
  · rfl
  · omega

/-- The score of key `j`: the real inner product times the scale. -/
def score {D : ℕ} (c : ℝ) (q : Fin D → EReal) (k : ℕ → Fin D → EReal) (j : ℕ) : ℝ :=
  (∑ x : Fin D, (q x).toReal * (k j x).toReal) * c

/-- The softmax average of the values `v` under the scores `s` of `n` keys. -/
def average (n : ℕ) (s : ℕ → ℝ) (v : ℕ → EReal) : EReal :=
  ∑ j ∈ Finset.range n, v j * ((Real.exp (s j) / ∑ k ∈ Finset.range n, Real.exp (s k) : ℝ) : EReal)

end Cert.Target
-- ==== Proof.DenseRun.lean ====
/- The result array of the attention's run: every block read through the argument arrays, the blocks put together. -/
module

public import proofs.«01_k».proof.Proof.Gen.KernelIdeal.Value
public import proofs.«01_k».proof.Proof.Dense
public import proofs.«01_k».proof.Proof.Target

@[expose] public section

set_option maxRecDepth 16384

noncomputable section

namespace Cert.Dense

open Idealize.ShloMosaic Idealize.ShloMosaic.TcCoe Idealize.SL.Sem
open Cert.KernelIdeal Cert.KernelIdeal.Gen Cert.Flash Cert.Chunks Cert.Target

variable (m : (ℓ : Loc nD τ sig) → Buf (Elt Ideal) ℓ)

/-- The block each window reads or writes at point `t`. -/
theorem idx : ∀ t : Fin cfg0.N, win0_0.index t = ![t.val / 16, t.val / 4 % 4, t.val % 4]
    ∧ win0_1.index t = ![t.val / 16, 0, t.val / 8 % 2] ∧ win0_2.index t = ![t.val / 16, t.val / 8 % 2, 0]
    ∧ win0_3.index t = ![t.val / 16, 0, t.val / 8 % 2] ∧ win0_4.index t = ![t.val / 16, t.val / 8 % 2, 0]
    ∧ win0_5.index t = ![t.val / 16, t.val % 4, t.val / 4 % 4] ∧ t.val < 64 :=
  (by decide +kernel : ∀ t : Fin grid0.N, _)

/-- The batch entry, the query head, the key head and the query tile of point `t`. -/
abbrev bat (t : Fin cfg0.N) : Fin 4 := ⟨t.val / 16, by have := (idx t).2.2.2.2.2.2; omega⟩
abbrev hd (t : Fin cfg0.N) : Fin 4 := ⟨t.val / 4 % 4, by omega⟩
abbrev kv (t : Fin cfg0.N) : Fin 2 := ⟨t.val / 8 % 2, by omega⟩

theorem q_at (c : Dev nD) (t : Fin cfg0.N) (x : Fin 128) (i : Fin 1024) :
    iblk m c 0 t (ix3 0 x i) = (m ((c : Thread nD τ).loc main_arg0) : Vec Ideal S4x4x4096x128 .f32)
      (ix4 (bat t) (hd t) ⟨1024 * (t.val % 4) + i.val, by omega⟩ x) := by
  blk_simp [iblk]
  entry_read
  pointwise
  blk_ext [idx t]

theorem k_at (c : Dev nD) (t : Fin cfg0.N) (j : Fin 4096) (x : Fin 128) :
    iblk m c 1 t (ix3 0 j x) = (m ((c : Thread nD τ).loc main_arg1) : Vec Ideal S4x2x4096x128 .f32)
      (ix4 (bat t) (kv t) j x) := by
  blk_simp [iblk]
  entry_read
  pointwise
  blk_ext [idx t]

theorem v_at (c : Dev nD) (t : Fin cfg0.N) (d : Fin 128) (j : Fin 4096) :
    iblk m c 2 t (ix3 0 d j) = (m ((c : Thread nD τ).loc main_arg2) : Vec Ideal S4x2x4096x128 .f32)
      (ix4 (bat t) (kv t) j d) := by
  blk_simp [iblk]
  entry_read
  pointwise
  blk_ext [idx t]

theorem kc_at (c : Dev nD) (t : Fin cfg0.N) (j : Fin 256) (x : Fin 128) :
    iblk m c 3 t (ix3 0 j x) = (m ((c : Thread nD τ).loc main_arg3) : Vec Ideal S4x2x256x128 .f32)
      (ix4 (bat t) (kv t) j x) := by
  blk_simp [iblk]
  entry_read
  pointwise
  blk_ext [idx t]

theorem vc_at (c : Dev nD) (t : Fin cfg0.N) (d : Fin 128) (j : Fin 256) :
    iblk m c 4 t (ix3 0 d j) = (m ((c : Thread nD τ).loc main_arg4) : Vec Ideal S4x2x256x128 .f32)
      (ix4 (bat t) (kv t) j d) := by
  blk_simp [iblk]
  entry_read
  pointwise
  blk_ext [idx t]

/-- The attention of one query: the softmax average of the value column `d` under head `h`'s scores, key head `g`. -/
def targetAt (q : Vec Ideal S4x4x4096x128 .f32) (k v : Vec Ideal S4x2x4096x128 .f32) (kc vc : Vec Ideal S4x2x256x128 .f32)
    (b h : Fin 4) (g : Fin 2) (i : Fin 4096) (d : Fin 128) : EReal :=
  average 4352
    (Target.score (11863283 / 134217728) (fun x => q (ix4 b h i x))
      (joined (fun j x => k (ix4 b g j x)) (fun j x => kc (ix4 b g j x))))
    (fun j => joined (fun j x => v (ix4 b g j x)) (fun j x => vc (ix4 b g j x)) j d)

/-- The result at batch entry `b`, query `i` and column `n`: head `n / 128`, value column `n % 128`; two neighbouring
    query heads share a key head. -/
def target (q : Vec Ideal S4x4x4096x128 .f32) (k v : Vec Ideal S4x2x4096x128 .f32) (kc vc : Vec Ideal S4x2x256x128 .f32)
    (b : Fin 4) (i : Fin 4096) (n : Fin 512) : EReal :=
  targetAt q k v kc vc b ⟨n.val / 128, by omega⟩ ⟨n.val / 256, by omega⟩ i ⟨n.val % 128, by omega⟩

/-- An inner product of real vectors with the factor on the queries: the score in base 2. -/
theorem dot_real {D : ℕ} (c : ℝ) (q k : Fin D → EReal) (hq : ∀ x, q x = ((q x).toReal : EReal))
    (hk : ∀ x, k x = ((k x).toReal : EReal)) (K : ℝ) :
    ∑ x : Fin D, k x * (q x * ((c * K : ℝ) : EReal))
      = (((∑ x : Fin D, (q x).toReal * (k x).toReal) * c * K : ℝ) : EReal) := by
  have : ∀ x, k x * (q x * ((c * K : ℝ) : EReal)) = (((k x).toReal * ((q x).toReal * (c * K)) : ℝ) : EReal) := by
    intro x
    rw [hq x, hk x]
    simp only [EReal.toReal_coe, EReal.coe_mul]
  simp only [this]
  rw [← Cert.Flash.coe_sum]
  congr 1
  rw [Finset.sum_mul, Finset.sum_mul]
  exact Finset.sum_congr rfl fun x _ => by ring

/-- The block of point `t` at a query and a value column. -/
theorem block (c : Dev nD) (t : Fin cfg0.N) (i : Fin 1024) (d : Fin 128)
    (hq : ∀ i, (m ((c : Thread nD τ).loc main_arg0) : Vec Ideal S4x4x4096x128 .f32) i
      = (((m ((c : Thread nD τ).loc main_arg0) : Vec Ideal S4x4x4096x128 .f32) i).toReal : EReal))
    (hk : ∀ i, (m ((c : Thread nD τ).loc main_arg1) : Vec Ideal S4x2x4096x128 .f32) i
      = (((m ((c : Thread nD τ).loc main_arg1) : Vec Ideal S4x2x4096x128 .f32) i).toReal : EReal))
    (hkc : ∀ i, (m ((c : Thread nD τ).loc main_arg3) : Vec Ideal S4x2x256x128 .f32) i
      = (((m ((c : Thread nD τ).loc main_arg3) : Vec Ideal S4x2x256x128 .f32) i).toReal : EReal)) :
    out0_5 (iblk m c 0 t) (iblk m c 1 t) (iblk m c 2 t) (iblk m c 3 t) (iblk m c 4 t) (ix3 0 i d) = target
      (m ((c : Thread nD τ).loc main_arg0)) (m ((c : Thread nD τ).loc main_arg1)) (m ((c : Thread nD τ).loc main_arg2))
      (m ((c : Thread nD τ).loc main_arg3)) (m ((c : Thread nD τ).loc main_arg4)) (bat t)
      ⟨1024 * (t.val % 4) + i.val, by omega⟩ ⟨128 * (t.val / 4 % 4) + d.val, by omega⟩ := by
  have eh : (⟨(128 * (t.val / 4 % 4) + d.val) / 128, by omega⟩ : Fin 4) = hd t := Fin.ext (by simp only []; omega)
  have eg : (⟨(128 * (t.val / 4 % 4) + d.val) / 256, by omega⟩ : Fin 2) = kv t := Fin.ext (by simp only []; omega)
  have ed : (⟨(128 * (t.val / 4 % 4) + d.val) % 128, by omega⟩ : Fin 128) = d := Fin.ext (by simp only []; omega)
  simp only [target, targetAt, average]
  rw [eh, eg, ed]
  refine (out_at _ _ _ _ _ i d (fun j => Target.score (11863283 / 134217728)
    (fun x => (m ((c : Thread nD τ).loc main_arg0) : Vec Ideal S4x4x4096x128 .f32)
      (ix4 (bat t) (hd t) ⟨1024 * (t.val % 4) + i.val, by omega⟩ x))
    (joined (fun j x => (m ((c : Thread nD τ).loc main_arg1) : Vec Ideal S4x2x4096x128 .f32) (ix4 (bat t) (kv t) j x))
      (fun j x => (m ((c : Thread nD τ).loc main_arg3) : Vec Ideal S4x2x256x128 .f32) (ix4 (bat t) (kv t) j x))) j
      * (Real.log 2)⁻¹)
    (fun j => joined (fun j x => (m ((c : Thread nD τ).loc main_arg2) : Vec Ideal S4x2x4096x128 .f32) (ix4 (bat t) (kv t) j x))
      (fun j x => (m ((c : Thread nD τ).loc main_arg4) : Vec Ideal S4x2x256x128 .f32) (ix4 (bat t) (kv t) j x)) j d)
    ?_ ?_ ?_ ?_).trans ?_
  · intro n h
    simp only [q_at, k_at, kap_eq, Target.score, joined_left _ _ n h]
    exact dot_real _ _ _ (fun x => hq _) (fun x => hk _) _
  · intro j
    simp only [q_at, kc_at, kap_eq, Target.score, joined_right]
    exact dot_real _ _ _ (fun x => hq _) (fun x => hkc _) _
  · intro n h
    rw [v_at, joined_left _ _ n h]
  · intro j
    rw [vc_at, joined_right]
  · simp only [two_rpow_div_log]

/-- The result array after the run, from real queries and keys. -/
theorem final (c : Dev nD)
    (hq : ∀ i, (m ((c : Thread nD τ).loc main_arg0) : Vec Ideal S4x4x4096x128 .f32) i
      = (((m ((c : Thread nD τ).loc main_arg0) : Vec Ideal S4x4x4096x128 .f32) i).toReal : EReal))
    (hk : ∀ i, (m ((c : Thread nD τ).loc main_arg1) : Vec Ideal S4x2x4096x128 .f32) i
      = (((m ((c : Thread nD τ).loc main_arg1) : Vec Ideal S4x2x4096x128 .f32) i).toReal : EReal))
    (hkc : ∀ i, (m ((c : Thread nD τ).loc main_arg3) : Vec Ideal S4x2x256x128 .f32) i
      = (((m ((c : Thread nD τ).loc main_arg3) : Vec Ideal S4x2x256x128 .f32) i).toReal : EReal)) :
    (dats m 0 c).arrAt 5 (cfgs 0).N = fun i : S4x4096x512.Idx => target
      (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) (i 2) := by
  refine (dats m 0 c).arrAt_eq_of_covers 5 _ (by decide +kernel) fun t _ y => ?_
  blk_simp
  rw [after0_5]
  obtain ⟨a, i, d, rfl⟩ : ∃ (a : Fin 1) (i : Fin 1024) (d : Fin 128), y = ix3 a i d := ⟨y 0, y 1, y 2, by blk_ext []⟩
  obtain rfl : a = 0 := Subsingleton.elim _ _
  rw [block m c t i d hq hk hkc]
  congr 1 <;> apply Fin.ext <;> blk_simp [idx t]
  all_goals (simp only [Fin.val_zero, Fin.isValue]; try omega)

end Cert.Dense
-- ==== Proof.DenseRef.lean ====
/- The reference at an index: its scores are real numbers, its maximum a real, its weights the softmax, its result the
   average of the values. -/
module

public import proofs.«01_k».proof.Proof.Gen.ReferenceIdeal.Read
public import proofs.«01_k».proof.Proof.DenseRun

@[expose] public section

set_option maxRecDepth 16384

noncomputable section

namespace Cert.DenseRef

open Idealize.ShloMosaic Idealize.ShloMosaic.TcCoe Idealize.SL.Sem
open Cert.ReferenceIdeal Cert.ReferenceIdeal.Gen Cert.ReferenceIdeal.Read Cert.Flash Cert.Target

variable (q : FVec Ideal S4x4x4096x128 .f32) (k v : FVec Ideal S4x2x4096x128 .f32) (kc vc : FVec Ideal S4x2x256x128 .f32)

/-- The maximum a host reduction takes along one axis of real numbers, from `⊥`, is a real. -/
theorem reduce_real {s t u : Shape} {a : Fin s.rank} (x : s.Idx → EReal) (init : u.Idx → EReal) (h' : s.ReducesTo [a] t)
    (h : s.Reduces [a] t) (hu : 0 < u.numel) (j : t.Idx) (hi : init (Shape.Idx.first hu) = ⊥) (ha : 0 < s.size a)
    (hx : ∀ i, ∃ r : ℝ, x i = (r : EReal)) : ∃ r : ℝ, Host.reduce max x init h' hu j = (r : EReal) := by
  rw [Host.reduce_eq_fold_single max x init h' h hu j, hi]
  choose f hf using hx
  haveI : Nonempty (Fin (s.size a)) := ⟨⟨0, ha⟩⟩
  have e : x ∘ h.lift j = fun k => ((f (h.lift j k) : ℝ) : EReal) := funext fun k => hf _
  rw [e]
  exact fold_max_coe max (fun a c => ⟨max a c, (EReal.coe_strictMono.monotone.map_max (a := a) (b := c)).symm⟩)
    (fun a => max_eq_left bot_le) Finset.univ Finset.univ_nonempty _

/-- The reference's factor. -/
theorem scale_eq : Ideal.ofBits .f32 1035273459#32 = ((11863283 / 134217728 : ℝ) : EReal) := by
  simp [Ideal.ofBits, Ideal.ieee]
  rw [← EReal.coe_mul]
  norm_num

variable {q k kc}

theorem v5_at (hq : ∀ i, q i = ((q i).toReal : EReal)) (hk : ∀ i, k i = ((k i).toReal : EReal))
    (hkc : ∀ i, kc i = ((kc i).toReal : EReal)) (b : Fin 4) (g r : Fin 2) (i : Fin 4096) (j : Fin 4352) :
    val_main_v5 (F := Ideal) q k kc (ix5 b g r i j)
      = ((Target.score (11863283 / 134217728) (fun x => q (ix4 b ⟨g.val * 2 + r.val, by omega⟩ i x))
          (joined (fun j x => k (ix4 b g j x)) (fun j x => kc (ix4 b g j x))) j.val : ℝ) : EReal) := by
  have hj : ∀ x : Fin 128, joined (fun j x => k (ix4 b g j x)) (fun j x => kc (ix4 b g j x)) j.val x
      = ((joined (fun j x => k (ix4 b g j x)) (fun j x => kc (ix4 b g j x)) j.val x).toReal : EReal) := by
    intro x
    unfold joined
    split_ifs
    · exact hk _
    · exact hkc _
    · rfl
  have e : ∀ x : Fin 128, (if h : j.val < 4096 then k (ix4 b g ⟨j.val, h⟩ x) else kc (ix4 b g ⟨j.val - 4096, by omega⟩ x))
      = joined (fun j x => k (ix4 b g j x)) (fun j x => kc (ix4 b g j x)) j.val x := by
    intro x
    unfold joined
    split_ifs with h1 h2
    · rfl
    · rfl
    · omega
  pointwise [val_main_v5, val_main_v4, val_main_v3, val_main_v2, val_main_v0, val_main_cst]
  simp only [e]
  rw [scale_eq, Target.score, EReal.coe_mul, coe_sum]
  congr 1
  refine Finset.sum_congr rfl fun x _ => ?_
  rw [EReal.coe_mul, ← hj x, ← hq]

theorem v8_real (hq : ∀ i, q i = ((q i).toReal : EReal)) (hk : ∀ i, k i = ((k i).toReal : EReal))
    (hkc : ∀ i, kc i = ((kc i).toReal : EReal)) (i : S4x2x2x4096.Idx) :
    ∃ r : ℝ, val_main_v8 (F := Ideal) q k kc i = (r : EReal) := by
  have h6 : ∃ r : ℝ, val_main_v6 (F := Ideal) q k kc i = (r : EReal) := by
    refine reduce_real (val_main_v5 (F := Ideal) q k kc) _ _ (by decide) _ i Cert.Chunks.ofBits_bot (by decide) fun i => ?_
    have hi : i = ix5 (i 0) (i 1) (i 2) (i 3) (i 4) := by blk_ext []
    rw [hi]
    exact ⟨_, v5_at hq hk hkc _ _ _ _ _⟩
  obtain ⟨r, hr⟩ := h6
  refine ⟨r, ?_⟩
  rw [val_main_v8_apply, hr, val_main_v7_apply, val_main_cst_1_apply]
  exact (congrArg (fun z => max z (r : EReal)) Cert.Chunks.ofBits_bot).trans (max_eq_right bot_le)

theorem v16_at (hq : ∀ i, q i = ((q i).toReal : EReal)) (hk : ∀ i, k i = ((k i).toReal : EReal))
    (hkc : ∀ i, kc i = ((kc i).toReal : EReal)) (b : Fin 4) (g r : Fin 2) (i : Fin 4096) (j : Fin 4352) (s : ℕ → ℝ)
    (hs : ∀ j : Fin 4352, val_main_v5 (F := Ideal) q k kc (ix5 b g r i j) = (s j.val : EReal)) :
    val_main_v16 (F := Ideal) q k kc (ix5 b g r i j)
      = ((Real.exp (s j.val) / ∑ k ∈ Finset.range 4352, Real.exp (s k) : ℝ) : EReal) := by
  obtain ⟨X, hX⟩ := v8_real hq hk hkc (ix4 b g r i)
  pointwise [val_main_v16, val_main_v15, val_main_v14, val_main_v13, val_main_v12, val_main_v11, val_main_v10, val_main_v9, val_main_cst_2]
  simp only [hs, hX]
  exact softmax_shift (by norm_num) s X j.val

theorem v1_at (b : Fin 4) (g : Fin 2) (j : Fin 4352) (d : Fin 128) : val_main_v1 (F := Ideal) v vc (ix4 b g j d)
    = joined (fun j x => v (ix4 b g j x)) (fun j x => vc (ix4 b g j x)) j.val d := by
  pointwise [val_main_v1]
  exact (joined_eq (n := 4096) (c := 256) (fun j x => v (ix4 b g j x)) (fun j x => vc (ix4 b g j x)) j d).symm

theorem average_at (hq : ∀ i, q i = ((q i).toReal : EReal)) (hk : ∀ i, k i = ((k i).toReal : EReal))
    (hkc : ∀ i, kc i = ((kc i).toReal : EReal)) (b : Fin 4) (g r : Fin 2) (i : Fin 4096) (d : Fin 128) :
    ∑ x : Fin 4352, (val_main_v16 (F := Ideal) q k kc (ix5 b g r i x) : EReal) * val_main_v1 (F := Ideal) v vc (ix4 b g x d)
      = Cert.Dense.targetAt q k v kc vc b ⟨g.val * 2 + r.val, by omega⟩ g i d := by
  rw [Cert.Dense.targetAt, average, Finset.sum_range]
  refine Finset.sum_congr rfl fun x _ => ?_
  rw [v16_at hq hk hkc b g r i x _ fun j => v5_at hq hk hkc b g r i j, v1_at]
  exact mul_comm _ _

/-- The reference's result at an index, from real queries and keys. -/
theorem result_at (hq : ∀ i, q i = ((q i).toReal : EReal)) (hk : ∀ i, k i = ((k i).toReal : EReal))
    (hkc : ∀ i, kc i = ((kc i).toReal : EReal)) (b : Fin 4) (i : Fin 4096) (n : Fin 512) :
    val_main_v21 (F := Ideal) q k v kc vc (ix3 b i n) = Cert.Dense.target q k v kc vc b i n := by
  pointwise [val_main_v21, val_main_v20, val_main_v19, val_main_v18, val_main_v17]
  refine (average_at v vc hq hk hkc b _ _ i _).trans ?_
  rw [Cert.Dense.target]
  congr 1 <;> apply Fin.ext <;> simp only [] <;> omega

end Cert.DenseRef
-- ==== Proof.Finite.lean ====
/- What the precondition says: every query, key and context key is a real number. -/
module

public import proofs.«01_k».proof.Defs
public import proofs.«01_k».proof.Proof.Gen.Pre_finite
public import Idealize.ShloMosaic.Lib.Pipeline.ValueKit
public import Idealize.ShloMosaic.Lib.ReduceAll

@[expose] public section

set_option maxRecDepth 16384

noncomputable section

namespace Cert.Finite

open Idealize.ShloMosaic Idealize.ShloMosaic.TcCoe Idealize.SL.Sem
open Cert.Pre_finite

/-- Every element of an array below `⊤` in absolute value: every element is a real. -/
theorem real_of_abs {s : Shape} (x c : FVec Ideal s .f32) (hc : ∀ i, c i = Ideal.ofBits .f32 0x7F800000#32)
    (h : ∀ i, cmpf .olt (Host.absf x) c i = 1#1) (i : s.Idx) : x i = ((x i).toReal : EReal) := by
  have e : cmpf .olt (Host.absf x) c i = BitVec.ofBool (decide (max (x i) (-(x i)) < c i)) := rfl
  have top : Ideal.ofBits .f32 0x7F800000#32 = ⊤ := by simp [Ideal.ofBits, Ideal.ieee]
  have hi := h i
  rw [e, hc, top] at hi
  have lt : max (x i) (-(x i)) < ⊤ := by
    by_contra hn
    rw [decide_eq_false hn] at hi
    exact absurd hi (by decide)
  have h1 := (max_lt_iff.1 lt).1
  have h2 := (max_lt_iff.1 lt).2
  refine (EReal.coe_toReal h1.ne fun hb => ?_).symm
  rw [hb] at h2
  exact absurd h2 (by simp)

theorem andi_one {s : Shape} {a b : IVec s 1} {i : s.Idx} (h : andi a b i = 1#1) : a i = 1#1 ∧ b i = 1#1 := by
  have e : andi a b i = a i &&& b i := rfl
  rw [e] at h
  revert h
  generalize a i = u
  generalize b i = w
  revert u w
  decide

/-- The precondition's three arrays hold real numbers. -/
theorem real {q : FVec Ideal S4x4x4096x128 .f32} {k v : FVec Ideal S4x2x4096x128 .f32} {kc vc : FVec Ideal S4x2x256x128 .f32}
    (h : fn (F := Ideal) q k v kc vc = fun _ => 1#1) :
    (∀ i, q i = ((q i).toReal : EReal)) ∧ (∀ i, k i = ((k i).toReal : EReal)) ∧ ∀ i, kc i = ((kc i).toReal : EReal) := by
  have h0 := congrFun h (fun a => a.elim0)
  dsimp only [fn] at h0
  obtain ⟨h1, hkc⟩ := andi_one h0
  obtain ⟨hq, hk⟩ := andi_one h1
  refine ⟨real_of_abs q _ (fun _ => rfl) fun i => ?_, real_of_abs k _ (fun _ => rfl) fun i => ?_,
    real_of_abs kc _ (fun _ => rfl) fun i => ?_⟩
  · exact Host.reduce_andi_all _ _ _ _ _ hq i
  · exact Host.reduce_andi_all _ _ _ _ _ hk i
  · exact Host.reduce_andi_all _ _ _ _ _ hkc i

end Cert.Finite
-- ==== Proof.Algebraic.lean ====
/- The claim that the idealized attention kernel and its reference leave the same array. -/
module

public import proofs.«01_k».proof.Defs
public import proofs.«01_k».proof.Proof.Gen.ReferenceIdeal.Run
public import proofs.«01_k».proof.Proof.DenseRef
public import proofs.«01_k».proof.Proof.Finite
public import Idealize.ShloMosaic.Lib.Claim

@[expose] public section

set_option maxRecDepth 16384

noncomputable section

namespace Cert.Algebraic

open Idealize.ShloMosaic Idealize.ShloMosaic.TcCoe Idealize.SL.Sem

/-- The reference's run, its result named one operation at a time. -/
theorem run_val (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v21)
          = Cert.ReferenceIdeal.Read.val_main_v21 (F := Ideal)
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4)) :=
  (θ_run _ _ _).mono (fun r h c => (h c).1.trans (Cert.ReferenceIdeal.Read.val_main_v21_eq _ _ _ _ _))
    (Cert.ReferenceIdeal.Value.run m ρ)

theorem dense : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run_blocks m g
  · run_from run_val m' g' & Cert.ReferenceIdeal.Value.run m' g'
    obtain ⟨hq, hk, hkc⟩ := Cert.Finite.real (hpre c)
    refine Eq.trans ?_ (Cert.Dense.final m c hq hk hkc).symm
    funext i
    obtain ⟨b, j, n, rfl⟩ : ∃ (b : Fin 4) (j : Fin 4096) (n : Fin 512), i = ix3 b j n := ⟨i 0, i 1, i 2, by blk_ext []⟩
    exact Cert.DenseRef.result_at _ _ hq hk hkc b j n

end Cert.Algebraic
-- ==== Proof.FfnRun.lean ====
/-
  The convolutional feed-forward kernel's body, run once per case of its grid point.
-/
module

public import proofs.«01_k».proof.Proof.Gen.FfnIdeal.Frame
public import proofs.«01_k».proof.Proof.Gen.FfnIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's beside the transfers' counters. -/
local notation "𝕄" => MT nD τ sig Unit (Elt F) ℕ (Pipeline.UD sig nD τ) ℕ

/-- The kernel's own buffers: the modulated rows, the block of `x` its own transfer fills, the whole of `x`. -/
abbrev hM : Memref sig .tc .vmem S1056x2048 .bf16 := Memref.whole cc0_scratch0
abbrev xM : Memref sig .tc .vmem S1024x2048 .f32 := Memref.whole cc0_scratch1
abbrev srcM : Memref sig .tc .hbm S4x4096x2048 .f32 := Memref.whole main_arg0

/-- The last step's condition, as the body spells it. -/
abbrev lastCond (i : grid0.Coords) : BitVec 1 :=
  Scalar.cmpi .ne (Scalar.extui (Scalar.cmpi .eq (BitVec.ofNat 32 (i 2).val) 10#32) : BitVec 32) 0#32

/-- The slab of 1024 rows of `x` at given offsets, as a transfer names it. -/
abbrev slab (off : Fin 3 → ℕ) (h : ∀ a, off a + S1x1024x2048.size a ≤ S4x4096x2048.size a) : Memref sig .tc .hbm S1024x2048 .f32 :=
  (srcM.slice (Rect.unit (s := S4x4096x2048) off S1x1024x2048.size h) (fun _ => rfl)).squeeze S1024x2048 squeezes_S1x1024x2048_S1024x2048

/-- The first point's condition, as the body spells it. -/
abbrev firstCond (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The transfers' counters. -/
abbrev EC : UEmb Counters 𝕄 := countersEmb (U := Pipeline.UD sig nD τ)

/-- A share of the whole of `x`, in HBM. -/
abbrev srcPt (c : Dev nD) (q : PosShare TreeShare) (fs : Buf (Elt F) (srcM.view.loc (c : Thread nD τ))) : sProp 𝕄 :=
  srcM.view.loc (c : Thread nD τ) ↦{q} fs

/-- The rest of that share, while a slab of it is lent to a transfer. -/
abbrev srcRest (c : Dev nD) (q : PosShare TreeShare) (fs : Buf (Elt F) (srcM.view.loc (c : Thread nD τ)))
    (off : Fin 3 → ℕ) (hoff : ∀ a, off a + S1x1024x2048.size a ≤ S4x4096x2048.size a) : sProp 𝕄 :=
  srcM.view.loc (c : Thread nD τ) ↦[Finset.univ \ (slab off hoff).view.set]{q} fs

/-- The slab of `x`. -/
abbrev srcSlab (c : Dev nD) (q : PosShare TreeShare) (fs : Buf (Elt F) (srcM.view.loc (c : Thread nD τ)))
    (off : Fin 3 → ℕ) (hoff : ∀ a, off a + S1x1024x2048.size a ≤ S4x4096x2048.size a) : sProp 𝕄 :=
  srcM.view.loc (c : Thread nD τ) ↦[(slab off hoff).view.set]{q} fs

/-- A slab of `x` on its way into the block buffer: what the wait hands back. -/
abbrev inFlight (c : Dev nD) (q : PosShare TreeShare) (fs : Buf (Elt F) (srcM.view.loc (c : Thread nD τ))) (fx : Buf (Elt F) (xM.view.loc (c : Thread nD τ)))
    (off : Fin 3 → ℕ) (hoff : ∀ a, off a + S1x1024x2048.size a ≤ S4x4096x2048.size a) : sProp 𝕄 :=
  Transfers.Flight EC (c : Thread nD τ) (.dma 24) () xM.view.dmaCredit
    iprop((xM.view.loc (c : Thread nD τ) ↦[xM.view.set]{fullShare} fx) ∗ srcSlab c q fs off hoff)

/-! ## What the body leaves -/

/-- The row number the second mask compares with zero: the next block's first row, modulo the sequence. -/
def nextRow (arg1 : BitVec 32) : BitVec 32 :=
  let v82 : BitVec 32 := Scalar.addi arg1 1#32
  let v83 : BitVec 32 := Scalar.muli v82 1024#32
  let v84 : BitVec 1 := Scalar.cmpi .eq 4096#32 0#32
  let v85 : BitVec 32 := Scalar.select v84 1#32 4096#32
  let v86 : BitVec 32 := Scalar.remsi v83 v85
  let v87 : BitVec 1 := Scalar.cmpi .ne v86 0#32
  let v88 : BitVec 1 := Scalar.cmpi .slt v86 0#32
  let v89 : BitVec 1 := Scalar.cmpi .slt v85 0#32
  let v90 : BitVec 1 := Scalar.xori v88 v89
  let v91 : BitVec 1 := Scalar.andi v90 v87
  let v92 : BitVec 32 := Scalar.addi v86 v85
  Scalar.select v91 v92 v86

/-- The modulated rows of one block: 16 rows before it, its own 1024, 16 after it; the last store first. -/
def hRows (i : grid0.Coords) (x : Vec F S1024x2048 .f32) (x0 x1 : Vec F S1x16x2048 .f32) (x2 x3 : Vec F S1x1x2048 .f32) : List (View.Piece (Elt F) S1056x2048 .bf16) :=
  [⟨Rect.unit ![1040, 0] S16x2048.size inb_S1056x2048_S16x2048_1040_0,
      k0_pay11 (k0_pay4 (nextRow (BitVec.ofNat 32 (i 1).val))) (k0_pay8 x1) (k0_pay9 x1) k0_pay10 x3 x2⟩,
   ⟨Rect.unit ![16, 0] S1024x2048.size inb_S1056x2048_S1024x2048_16_0, k0_pay7 x (k0_pay6 x) (Scalar.ofBits .f32 0x45000000#32) x3 x2⟩,
   ⟨Rect.unit ![0, 0] S16x2048.size inb_S1056x2048_S16x2048_0_0, k0_pay5 (k0_pay3 (BitVec.ofNat 32 (i 1).val)) x0 x3 x2⟩]

def hOf (i : grid0.Coords) (x : Vec F S1024x2048 .f32) (x0 x1 : Vec F S1x16x2048 .f32) (x2 x3 : Vec F S1x1x2048 .f32) : Vec F S1056x2048 .bf16 :=
  View.canon (hRows i x x0 x1 x2 x3)

/-- Three pieces on those rows reach every row. -/
theorem rows_cover (p : Vec F S16x2048 .bf16) (q : Vec F S1024x2048 .bf16) (r : Vec F S16x2048 .bf16) (y : S1056x2048.Idx) :
    ∃ pc ∈ ([⟨Rect.unit ![1040, 0] S16x2048.size inb_S1056x2048_S16x2048_1040_0, p⟩,
      ⟨Rect.unit ![16, 0] S1024x2048.size inb_S1056x2048_S1024x2048_16_0, q⟩,
      ⟨Rect.unit ![0, 0] S16x2048.size inb_S1056x2048_S16x2048_0_0, r⟩] : List (View.Piece (Elt F) S1056x2048 .bf16)), y ∈ pc.1.set := by
  have h0 : (y 0).val < 1056 := (y 0).isLt
  have h1 : (y 1).val < 2048 := (y 1).isLt
  by_cases ha : (y 0).val < 16
  · exact ⟨_, List.mem_cons_of_mem _ (List.mem_cons_of_mem _ List.mem_cons_self), (Rect.mem_set_unit (inb := inb_S1056x2048_S16x2048_0_0)).mpr (Fin.forall_fin_two.mpr ⟨⟨Nat.zero_le _, by simpa using ha⟩, ⟨Nat.zero_le _, by simpa using h1⟩⟩)⟩
  by_cases hb : (y 0).val < 1040
  · exact ⟨_, List.mem_cons_of_mem _ List.mem_cons_self, (Rect.mem_set_unit (inb := inb_S1056x2048_S1024x2048_16_0)).mpr (Fin.forall_fin_two.mpr ⟨⟨by simpa using ha, by simpa using hb⟩, ⟨Nat.zero_le _, by simpa using h1⟩⟩)⟩
  · exact ⟨_, List.mem_cons_self, (Rect.mem_set_unit (inb := inb_S1056x2048_S16x2048_1040_0)).mpr (Fin.forall_fin_two.mpr ⟨⟨by simpa using hb, by simpa using h0⟩, ⟨Nat.zero_le _, by simpa using h1⟩⟩)⟩

/-- The output block after one chunk of the hidden width. -/
def acc (h : Vec F S1056x2048 .bf16) (x4 : Vec F S1x1x2048 .f32) (x5 x6 : Vec F S1x2048x512 .bf16) (x7 : Vec F S1x3x512 .f32) (x8 : Vec F S1x1x512 .f32)
    (x9 : Vec F S1x512x2048 .bf16) (o : Vec F S1x1024x2048 .f32) : Vec F S1x1024x2048 .f32 :=
  k0_pay1 (k0_pay14 (View.ld h (Rect.unit ![16, 0] S1024x2048.size inb_S1056x2048_S1024x2048_16_0)) x6) (k0_pay15 h x5)
    (k0_pay16 h x5 (View.ld x7 (Rect.unit ![0, 0, 0] S1x1x512.size inb_S1x3x512_S1x1x512_0_0_0)))
    (k0_pay17 h x5 (View.ld x7 (Rect.unit ![0, 1, 0] S1x1x512.size inb_S1x3x512_S1x1x512_0_1_0)))
    (View.ld x7 (Rect.unit ![0, 2, 0] S1x1x512.size inb_S1x3x512_S1x1x512_0_2_0)) x8 o x4 x9

/-- What lands of a slab of `x`. -/
abbrev slabOf (c : Dev nD) (fs : Buf (Elt F) (srcM.view.loc (c : Thread nD τ)))
    (off : Fin 3 → ℕ) (hoff : ∀ a, off a + S1x1024x2048.size a ≤ S4x4096x2048.size a) : Vec F S1024x2048 .f32 :=
  (slab off hoff).view.read (Elt F) fs

theorem z3 : (![0, 0, 0] : Fin 3 → ℕ) = fun _ => 0 := by decide
theorem z2 : (![0, 0] : Fin 2 → ℕ) = fun _ => 0 := by decide

/-- A load of the whole reads the contents. -/
theorem readAt_zero {S : Shape} {e : EltTy} {sp : Space} (v : View sig .tc sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

theorem cover_whole (p : Vec F S1x1024x2048 .f32) (L : List (View.Piece (Elt F) S1x1024x2048 .f32)) (y : S1x1024x2048.Idx) :
    ∃ pc ∈ ((⟨Rect.unit ![0, 0, 0] S1x1024x2048.size inb_S1x1024x2048_S1x1024x2048_0_0_0, p⟩ : View.Piece (Elt F) S1x1024x2048 .f32) :: L), y ∈ pc.1.set :=
  ⟨_, List.mem_cons_self, View.mem_set_unit_zero z3 inb_S1x1024x2048_S1x1024x2048_0_0_0 y⟩

/-- A load of what a transfer landed in the whole buffer. -/
theorem land_load (v : View sig .tc .vmem S1024x2048 .f32) (p : Vec F S1024x2048 .f32) :
    v.readCov [(⟨Rect.whole S1024x2048, p⟩ : View.Piece (Elt F) S1024x2048 .f32)] (Rect.unit ![0, 0] S1024x2048.size inb_S1024x2048_S1024x2048_0_0).toLoadRect = p := by
  rw [View.readCov_eq_canon_ld v _ _ fun y => ⟨_, List.mem_singleton_self _, by rw [Rect.set_whole]; exact Finset.mem_univ y⟩]
  exact (View.ld_unit_zero z2 _ _).trans (View.canon_unit_zero (S := S1024x2048) (off := fun _ => 0) rfl (fun a => by simp) _)

theorem acc_eq {h hw hw' hw'' : Vec F S1056x2048 .bf16} {hr : Vec F S1024x2048 .bf16} {x4 a4 : Vec F S1x1x2048 .f32} {x5 x6 a5 a5' a5'' a6 : Vec F S1x2048x512 .bf16} {x7 : Vec F S1x3x512 .f32} {r0 r1 r2 : Vec F S1x1x512 .f32}
    {x8 a8 : Vec F S1x1x512 .f32} {x9 a9 : Vec F S1x512x2048 .bf16} {o ao : Vec F S1x1024x2048 .f32}
    (e0 : hr = View.ld h (Rect.unit ![16, 0] S1024x2048.size inb_S1056x2048_S1024x2048_16_0)) (e1 : hw = h) (e2 : hw' = h) (e3 : hw'' = h)
    (e4 : a4 = x4) (e5 : a5 = x5) (e5' : a5' = x5) (e5'' : a5'' = x5) (e6 : a6 = x6)
    (e70 : r0 = View.ld x7 (Rect.unit ![0, 0, 0] S1x1x512.size inb_S1x3x512_S1x1x512_0_0_0))
    (e71 : r1 = View.ld x7 (Rect.unit ![0, 1, 0] S1x1x512.size inb_S1x3x512_S1x1x512_0_1_0))
    (e72 : r2 = View.ld x7 (Rect.unit ![0, 2, 0] S1x1x512.size inb_S1x3x512_S1x1x512_0_2_0))
    (e8 : a8 = x8) (e9 : a9 = x9) (eo : ao = o) :
    k0_pay1 (F := F) (k0_pay14 hr a6) (k0_pay15 hw a5) (k0_pay16 hw' a5' r0) (k0_pay17 hw'' a5'' r1) r2 a8 ao a4 a9 = acc h x4 x5 x6 x7 x8 x9 o := by
  subst e0 e1 e2 e3 e4 e5 e5' e5'' e6 e70 e71 e72 e8 e9 eo; rfl

theorem hOf_eq {i : grid0.Coords} {x ax ax' : Vec F S1024x2048 .f32} {x0 x1 a0 a1 a1' : Vec F S1x16x2048 .f32} {x2 x3 s s' s'' t t' t'' : Vec F S1x1x2048 .f32}
    (ex : ax = x) (ex' : ax' = x) (e0 : a0 = x0) (e1 : a1 = x1) (e1' : a1' = x1) (e2 : s = x2) (e2' : s' = x2) (e2'' : s'' = x2) (e3 : t = x3) (e3' : t' = x3) (e3'' : t'' = x3) :
    View.canon (Val := Elt F) (s := S1056x2048) (e := .bf16) [⟨Rect.unit ![1040, 0] S16x2048.size inb_S1056x2048_S16x2048_1040_0,
      k0_pay11 (k0_pay4 (nextRow (BitVec.ofNat 32 (i 1).val))) (k0_pay8 a1) (k0_pay9 a1') k0_pay10 t'' s''⟩,
     ⟨Rect.unit ![16, 0] S1024x2048.size inb_S1056x2048_S1024x2048_16_0, k0_pay7 ax (k0_pay6 ax') (Scalar.ofBits .f32 0x45000000#32) t' s'⟩,
     ⟨Rect.unit ![0, 0] S16x2048.size inb_S1056x2048_S16x2048_0_0, k0_pay5 (k0_pay3 (BitVec.ofNat 32 (i 1).val)) a0 t s⟩]
      = hOf i x x0 x1 x2 x3 := by
  subst ex ex' e0 e1 e1' e2 e2' e2'' e3 e3' e3''; rfl

theorem land_read (v : View sig .tc .vmem S1024x2048 .f32) (f : v.ty.Contents (Elt F)) (p : Vec F S1024x2048 .f32) :
    v.read (Elt F) (v.writes (Elt F) f [(⟨Rect.whole S1024x2048, p⟩ : View.Piece (Elt F) S1024x2048 .f32)]) = p := by
  rw [View.read_writes_eq_canon v _ _ fun y => ⟨_, List.mem_singleton_self _, by rw [Rect.set_whole]; exact Finset.mem_univ y⟩]
  exact View.canon_unit_zero (S := S1024x2048) (off := fun _ => 0) rfl (fun a => by simp) _

theorem pay2_eq {o o' : Vec F S1x1024x2048 .f32} {a a' b b' : Vec F S1x1x2048 .f32} (e : o = o') (ea : a = a') (eb : b = b') :
    k0_pay2 o a b = k0_pay2 o' a' b' := by
  subst e ea eb; rfl

/-- A load of the three stored pieces reads what they leave. -/
theorem hM_load {i : grid0.Coords} {x : Vec F S1024x2048 .f32} {x0 x1 : Vec F S1x16x2048 .f32} {x2 x3 : Vec F S1x1x2048 .f32} (v : View sig .tc .vmem S1056x2048 .bf16)
    {L : List (View.Piece (Elt F) S1056x2048 .bf16)} (hc : ∀ y, ∃ pc ∈ L, y ∈ pc.1.set) (e : View.canon L = hOf i x x0 x1 x2 x3) (r : Rect S1056x2048) :
    v.readCov L r.toLoadRect = View.ld (hOf i x x0 x1 x2 x3) r :=
  (View.readCov_eq_canon_ld v L r hc).trans (congrArg (View.ld · r) e)

section Runs
variable (c : Dev nD) (i : grid0.Coords)
  (arg4 : Memref sig .tc .vmem S1x16x2048 .f32) (harg4 : arg4.IsWhole)
  (arg5 : Memref sig .tc .vmem S1x16x2048 .f32) (harg5 : arg5.IsWhole)
  (arg6 : Memref sig .tc .vmem S1x1x2048 .f32) (harg6 : arg6.IsWhole)
  (arg7 : Memref sig .tc .vmem S1x1x2048 .f32) (harg7 : arg7.IsWhole)
  (arg8 : Memref sig .tc .vmem S1x1x2048 .f32) (harg8 : arg8.IsWhole)
  (arg9 : Memref sig .tc .vmem S1x2048x512 .bf16) (harg9 : arg9.IsWhole)
  (arg10 : Memref sig .tc .vmem S1x2048x512 .bf16) (harg10 : arg10.IsWhole)
  (arg11 : Memref sig .tc .vmem S1x3x512 .f32) (harg11 : arg11.IsWhole)
  (arg12 : Memref sig .tc .vmem S1x1x512 .f32) (harg12 : arg12.IsWhole)
  (arg13 : Memref sig .tc .vmem S1x512x2048 .bf16) (harg13 : arg13.IsWhole)
  (arg14 : Memref sig .tc .vmem S1x1x2048 .f32) (harg14 : arg14.IsWhole)
  (arg15 : Memref sig .tc .vmem S1x1x2048 .f32) (harg15 : arg15.IsWhole)
  (arg16 : Memref sig .tc .vmem S1x1024x2048 .f32) (harg16 : arg16.IsWhole)

abbrev body : Prog (TpuEff nD τ sig (Elt F) Λ₀ .tc) PUnit :=
  cc0_conv_ffn (F := F) i srcM (Memref.isWhole_whole _) arg4 harg4 arg5 harg5 arg6 harg6 arg7 harg7 arg8 harg8 arg9 harg9 arg10 harg10 arg11 harg11 arg12 harg12 arg13 harg13 arg14 harg14 arg15 harg15 arg16 harg16 hM (Memref.isWhole_whole _) xM (Memref.isWhole_whole _) cc0_scratch2

theorem run_mid (hc1 : ¬ k0_cond1 i = 1#1) (hc3 : ¬ k0_cond3 i = 1#1) (hc4 : ¬ lastCond i = 1#1)
    (x0 : Vec F S1x16x2048 .f32) (x1 : Vec F S1x16x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x3x512 .f32) (x8 : Vec F S1x1x512 .f32) (x9 : Vec F S1x512x2048 .bf16) (x10 : Vec F S1x1x2048 .f32) (x11 : Vec F S1x1x2048 .f32) (o : Vec F S1x1024x2048 .f32) (h : Vec F S1056x2048 .bf16) (K : PUnit → sProp 𝕄) :
    iprop(owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg16 fullShare o ∗ owns (c : Thread nD τ) hM fullShare h
        ∗ (iprop(owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg16 fullShare (acc h x4 x5 x6 x7 x8 x9 o) ∗ owns (c : Thread nD τ) hM fullShare h) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12 arg13 harg13 arg14 harg14 arg15 harg15 arg16 harg16) K := by
  unfold body; simp only [cc0_conv_ffn_eq_skeleton]; unfold cc0_conv_ffn_skel
  simp only [k0_part4_eq_skeleton, k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%fh, %hfh, Hh⟩, Hk⟩
  subst hf4 hf5 hf6 hf7 hf8 hf9 hfo hfh
  sl_exec
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr; swap; · iexact Ho
    ipureintro
    refine (View.read_writes_eq_canon _ _ _ (fun y => cover_whole _ _ y)).trans ?_
    rw [View.canon_cons_unit_zero (by decide)]
    exact acc_eq (e0 := rfl) (e1 := readAt_zero _ z2 _ _) (e2 := readAt_zero _ z2 _ _) (e3 := readAt_zero _ z2 _ _)
      (e4 := readAt_zero _ z3 _ _) (e5 := readAt_zero _ z3 _ _) (e5' := readAt_zero _ z3 _ _) (e5'' := readAt_zero _ z3 _ _) (e6 := readAt_zero _ z3 _ _)
      (e70 := rfl) (e71 := rfl) (e72 := rfl) (e8 := readAt_zero _ z3 _ _) (e9 := readAt_zero _ z3 _ _)
      (eo := readAt_zero _ z3 _ _)
  iexists fh; isplitr; · ipureintro; rfl
  iexact Hh

theorem run_first (hc1 : k0_cond1 i = 1#1) (hc2 : firstCond i = 1#1) (hc3 : ¬ k0_cond3 i = 1#1) (hc4 : ¬ lastCond i = 1#1)
    (x0 : Vec F S1x16x2048 .f32) (x1 : Vec F S1x16x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x3x512 .f32) (x8 : Vec F S1x1x512 .f32) (x9 : Vec F S1x512x2048 .bf16) (x10 : Vec F S1x1x2048 .f32) (x11 : Vec F S1x1x2048 .f32) (q : PosShare TreeShare) (fs : Buf (Elt F) (srcM.view.loc (c : Thread nD τ))) (W : Waits sig Unit) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ (∃ o, owns (c : Thread nD τ) arg16 fullShare o) ∗ (∃ h, owns (c : Thread nD τ) hM fullShare h) ∗ (∃ x, owns (c : Thread nD τ) xM fullShare x) ∗ srcPt c q fs ∗ semVal ((c : Thread nD τ), SemLoc.dma 24) 0 ∗ owes (c : Thread nD τ) 0 W
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg16 fullShare (acc (hOf i (slabOf c fs ![0, 0, 0] inb_S4x4096x2048_S1x1024x2048_0_0_0) x0 x1 x2 x3) x4 x5 x6 x7 x8 x9
              (k0_pay12 (slabOf c fs ![0, 0, 0] inb_S4x4096x2048_S1x1024x2048_0_0_0)))
            ∗ owns (c : Thread nD τ) hM fullShare (hOf i (slabOf c fs ![0, 0, 0] inb_S4x4096x2048_S1x1024x2048_0_0_0) x0 x1 x2 x3) ∗ (∃ x, owns (c : Thread nD τ) xM fullShare x) ∗ srcPt c q fs
            ∗ semVal ((c : Thread nD τ), SemLoc.dma 24) 0 ∗ ∃ W', owes (c : Thread nD τ) 0 W' ) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12 arg13 harg13 arg14 harg14 arg15 harg15 arg16 harg16) K := by
  unfold body; simp only [cc0_conv_ffn_eq_skeleton]; unfold cc0_conv_ffn_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%o, %fo, %hfo, Ho⟩, ⟨%h, %fh, %hfh, Hh⟩, ⟨%x, %fx, %hfx, Hx⟩, Hs, Hq, HW, Hk⟩
  subst hf0 hf1 hf2 hf3 hf4 hf5 hf6 hf7 hf8 hf9 hfo hfh hfx
  sl_exec
  sl_step
  have hX : xM.view.readCov [(⟨Rect.whole S1024x2048, run_first.sl.dma0 c fs⟩ : View.Piece (Elt F) S1024x2048 .f32)]
        (Rect.unit ![0, 0] S1024x2048.size inb_S1024x2048_S1024x2048_0_0).toLoadRect
      = slabOf c fs ![0, 0, 0] inb_S4x4096x2048_S1x1024x2048_0_0_0 :=
    land_load _ _
  have hH : View.canon (run_first.sl.Hh_3 c i arg4 arg5 arg6 arg7 fs f0 f1 f2 f3)
      = hOf i (slabOf c fs ![0, 0, 0] inb_S4x4096x2048_S1x1024x2048_0_0_0) (arg4.view.read (Elt F) f0) (arg5.view.read (Elt F) f1) (arg6.view.read (Elt F) f2) (arg7.view.read (Elt F) f3) :=
    hOf_eq hX hX (readAt_zero _ z3 _ _) (readAt_zero _ z3 _ _) (readAt_zero _ z3 _ _) (readAt_zero _ z3 _ _) (readAt_zero _ z3 _ _) (readAt_zero _ z3 _ _)
      (readAt_zero _ z3 _ _) (readAt_zero _ z3 _ _) (readAt_zero _ z3 _ _)
  have hc : ∀ y, ∃ pc ∈ run_first.sl.Hh_3 c i arg4 arg5 arg6 arg7 fs f0 f1 f2 f3, y ∈ pc.1.set :=
    rows_cover _ _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr; swap; · iexact Ho
    ipureintro
    refine (View.read_writes_eq_canon _ _ _ (fun y => cover_whole _ _ y)).trans ?_
    rw [View.canon_cons_unit_zero (by decide)]
    exact acc_eq (e0 := hM_load _ hc hH _) (e1 := (hM_load _ hc hH _).trans (View.ld_unit_zero z2 _ _))
      (e2 := (hM_load _ hc hH _).trans (View.ld_unit_zero z2 _ _)) (e3 := (hM_load _ hc hH _).trans (View.ld_unit_zero z2 _ _))
      (e4 := readAt_zero _ z3 _ _) (e5 := readAt_zero _ z3 _ _) (e5' := readAt_zero _ z3 _ _) (e5'' := readAt_zero _ z3 _ _) (e6 := readAt_zero _ z3 _ _)
      (e70 := rfl) (e71 := rfl) (e72 := rfl) (e8 := readAt_zero _ z3 _ _) (e9 := readAt_zero _ z3 _ _)
      (eo := (View.readCov_unit_zero _ z3 _ _).trans (congrArg k0_pay12 hX))
  isplitl [Hh]
  · iexists _; isplitr; swap; · iexact Hh
    ipureintro
    exact (View.read_writes_eq_canon _ _ _ hc).trans hH
  isplitl [Hx]
  · iexists _, _; isplitr; swap; · iexact Hx
    ipureintro; rfl
  isplitl [Hs]; · iexact Hs
  isplitl [Hq]; · iexact Hq
  iexists _; iexact HW

theorem run_block (hc1 : k0_cond1 i = 1#1) (hc2 : ¬ firstCond i = 1#1) (hc3 : ¬ k0_cond3 i = 1#1) (hc4 : ¬ lastCond i = 1#1)
    (x0 : Vec F S1x16x2048 .f32) (x1 : Vec F S1x16x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x3x512 .f32) (x8 : Vec F S1x1x512 .f32) (x9 : Vec F S1x512x2048 .bf16) (x10 : Vec F S1x1x2048 .f32) (x11 : Vec F S1x1x2048 .f32) (q : PosShare TreeShare) (fs : Buf (Elt F) (srcM.view.loc (c : Thread nD τ))) (fx : Buf (Elt F) (xM.view.loc (c : Thread nD τ)))
    (off : Fin 3 → ℕ) (hoff : ∀ a, off a + S1x1024x2048.size a ≤ S4x4096x2048.size a) (W : Waits sig Unit) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ (∃ o, owns (c : Thread nD τ) arg16 fullShare o) ∗ (∃ h, owns (c : Thread nD τ) hM fullShare h) ∗ inFlight c q fs fx off hoff ∗ owes (c : Thread nD τ) 0 W
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg16 fullShare (acc (hOf i (xM.view.read (Elt F) fx) x0 x1 x2 x3) x4 x5 x6 x7 x8 x9 (k0_pay12 (xM.view.read (Elt F) fx)))
            ∗ owns (c : Thread nD τ) hM fullShare (hOf i (xM.view.read (Elt F) fx) x0 x1 x2 x3) ∗ (∃ x, owns (c : Thread nD τ) xM fullShare x) ∗ srcSlab c q fs off hoff
            ∗ semVal ((c : Thread nD τ), SemLoc.dma 24) 0 ∗ ∃ W', owes (c : Thread nD τ) 0 W') -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12 arg13 harg13 arg14 harg14 arg15 harg15 arg16 harg16) K := by
  unfold body; simp only [cc0_conv_ffn_eq_skeleton]; unfold cc0_conv_ffn_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%o, %fo, %hfo, Ho⟩, ⟨%h, %fh, %hfh, Hh⟩, Hf, HW, Hk⟩
  subst hf0 hf1 hf2 hf3 hf4 hf5 hf6 hf7 hf8 hf9 hfo hfh
  sl_exec
  sl_step
  have hX : xM.view.readAt (Elt F) (Rect.unit ![0, 0] S1024x2048.size inb_S1024x2048_S1024x2048_0_0).toLoadRect fx = xM.view.read (Elt F) fx := readAt_zero _ z2 _ _
  have hH : View.canon (run_block.sl.Hh_3 c i arg4 arg5 arg6 arg7 fx f0 f1 f2 f3)
      = hOf i (xM.view.read (Elt F) fx) (arg4.view.read (Elt F) f0) (arg5.view.read (Elt F) f1) (arg6.view.read (Elt F) f2) (arg7.view.read (Elt F) f3) :=
    hOf_eq hX hX (readAt_zero _ z3 _ _) (readAt_zero _ z3 _ _) (readAt_zero _ z3 _ _) (readAt_zero _ z3 _ _) (readAt_zero _ z3 _ _) (readAt_zero _ z3 _ _)
      (readAt_zero _ z3 _ _) (readAt_zero _ z3 _ _) (readAt_zero _ z3 _ _)
  have hc : ∀ y, ∃ pc ∈ run_block.sl.Hh_3 c i arg4 arg5 arg6 arg7 fx f0 f1 f2 f3, y ∈ pc.1.set :=
    rows_cover _ _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr; swap; · iexact Ho
    ipureintro
    refine (View.read_writes_eq_canon _ _ _ (fun y => cover_whole _ _ y)).trans ?_
    rw [View.canon_cons_unit_zero (by decide)]
    exact acc_eq (e0 := hM_load _ hc hH _) (e1 := (hM_load _ hc hH _).trans (View.ld_unit_zero z2 _ _))
      (e2 := (hM_load _ hc hH _).trans (View.ld_unit_zero z2 _ _)) (e3 := (hM_load _ hc hH _).trans (View.ld_unit_zero z2 _ _))
      (e4 := readAt_zero _ z3 _ _) (e5 := readAt_zero _ z3 _ _) (e5' := readAt_zero _ z3 _ _) (e5'' := readAt_zero _ z3 _ _) (e6 := readAt_zero _ z3 _ _)
      (e70 := rfl) (e71 := rfl) (e72 := rfl) (e8 := readAt_zero _ z3 _ _) (e9 := readAt_zero _ z3 _ _)
      (eo := (View.readCov_unit_zero _ z3 _ _).trans (congrArg k0_pay12 hX))

  isplitl [Hh]
  · iexists _; isplitr; swap; · iexact Hh
    ipureintro
    exact (View.read_writes_eq_canon _ _ _ hc).trans hH
  isplitl [Hf_dst]
  · iexists _, _; isplitr; swap; · iexact Hf_dst
    ipureintro; rfl
  isplitl [Hf_src]; · iexact Hf_src
  isplitl [Hf]; · iexact Hf
  iexists _; iexact HW

theorem run_issue (hc1 : ¬ k0_cond1 i = 1#1) (hc3 : k0_cond3 i = 1#1) (hc4 : ¬ lastCond i = 1#1)
    (x0 : Vec F S1x16x2048 .f32) (x1 : Vec F S1x16x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x3x512 .f32) (x8 : Vec F S1x1x512 .f32) (x9 : Vec F S1x512x2048 .bf16) (x10 : Vec F S1x1x2048 .f32) (x11 : Vec F S1x1x2048 .f32) (q : PosShare TreeShare) (fs : Buf (Elt F) (srcM.view.loc (c : Thread nD τ)))
    (hoff : ∀ a, k0_off2 i a + S1x1024x2048.size a ≤ S4x4096x2048.size a) (W : Waits sig Unit) (o : Vec F S1x1024x2048 .f32) (h : Vec F S1056x2048 .bf16) (K : PUnit → sProp 𝕄) :
    iprop(owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg16 fullShare o ∗ owns (c : Thread nD τ) hM fullShare h ∗ (∃ x, owns (c : Thread nD τ) xM fullShare x) ∗ srcPt c q fs ∗ semVal ((c : Thread nD τ), SemLoc.dma 24) 0 ∗ owes (c : Thread nD τ) 0 W
        ∗ (iprop(owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg16 fullShare (acc h x4 x5 x6 x7 x8 x9 o) ∗ owns (c : Thread nD τ) hM fullShare h
            ∗ (∃ fx, ⌜xM.view.read (Elt F) fx = slabOf c fs (k0_off2 i) hoff⌝ ∗ inFlight c q fs fx (k0_off2 i) hoff) ∗ srcRest c q fs (k0_off2 i) hoff ∗ owes (c : Thread nD τ) 0 W) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12 arg13 harg13 arg14 harg14 arg15 harg15 arg16 harg16) K := by
  unfold body; simp only [cc0_conv_ffn_eq_skeleton]; unfold cc0_conv_ffn_skel
  simp only [k0_part4_eq_skeleton, k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%fh, %hfh, Hh⟩, ⟨%x, %fx, %hfx, Hx⟩, Hs, Hq, HW, Hk⟩
  subst hf4 hf5 hf6 hf7 hf8 hf9 hfo hfh hfx
  sl_exec
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [Ho]
  · iexists _; isplitr; swap; · iexact Ho
    ipureintro
    refine (View.read_writes_eq_canon _ _ _ (fun y => cover_whole _ _ y)).trans ?_
    rw [View.canon_cons_unit_zero (by decide)]
    exact acc_eq (e0 := rfl) (e1 := readAt_zero _ z2 _ _) (e2 := readAt_zero _ z2 _ _) (e3 := readAt_zero _ z2 _ _)
      (e4 := readAt_zero _ z3 _ _) (e5 := readAt_zero _ z3 _ _) (e5' := readAt_zero _ z3 _ _) (e5'' := readAt_zero _ z3 _ _) (e6 := readAt_zero _ z3 _ _)
      (e70 := rfl) (e71 := rfl) (e72 := rfl) (e8 := readAt_zero _ z3 _ _) (e9 := readAt_zero _ z3 _ _)
      (eo := readAt_zero _ z3 _ _)

  isplitl [Hh]
  · iexists fh; isplitr; · ipureintro; rfl
    iexact Hh
  isplitl [Hq]
  · iexists _; isplitr; swap; · iexact Hq
    ipureintro
    exact land_read _ _ _
  isplitl [Hs]; · iexact Hs
  iexact HW

theorem run_last (hc1 : ¬ k0_cond1 i = 1#1) (hc3 : ¬ k0_cond3 i = 1#1) (hc4 : lastCond i = 1#1)
    (x0 : Vec F S1x16x2048 .f32) (x1 : Vec F S1x16x2048 .f32) (x2 : Vec F S1x1x2048 .f32) (x3 : Vec F S1x1x2048 .f32) (x4 : Vec F S1x1x2048 .f32) (x5 : Vec F S1x2048x512 .bf16) (x6 : Vec F S1x2048x512 .bf16) (x7 : Vec F S1x3x512 .f32) (x8 : Vec F S1x1x512 .f32) (x9 : Vec F S1x512x2048 .bf16) (x10 : Vec F S1x1x2048 .f32) (x11 : Vec F S1x1x2048 .f32) (o : Vec F S1x1024x2048 .f32) (h : Vec F S1056x2048 .bf16) (K : PUnit → sProp 𝕄) :
    iprop(owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare o ∗ owns (c : Thread nD τ) hM fullShare h
        ∗ (iprop(owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare (k0_pay2 (acc h x4 x5 x6 x7 x8 x9 o) x10 x11) ∗ owns (c : Thread nD τ) hM fullShare h) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12 arg13 harg13 arg14 harg14 arg15 harg15 arg16 harg16) K := by
  unfold body; simp only [cc0_conv_ffn_eq_skeleton]; unfold cc0_conv_ffn_skel
  simp only [k0_part4_eq_skeleton, k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fo, %hfo, Ho⟩, ⟨%fh, %hfh, Hh⟩, Hk⟩
  subst hf4 hf5 hf6 hf7 hf8 hf9 hf10 hf11 hfo hfh
  sl_exec
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [Ho]
  · iexists _; isplitr; swap; · iexact Ho
    ipureintro
    refine (View.read_writes_eq_canon _ _ _ (fun y => cover_whole _ _ y)).trans ?_
    rw [View.canon_cons_unit_zero (by decide)]
    exact pay2_eq ((View.readCov_unit_zero _ z3 _ _).trans (
      acc_eq (e0 := rfl) (e1 := readAt_zero _ z2 _ _) (e2 := readAt_zero _ z2 _ _) (e3 := readAt_zero _ z2 _ _)
      (e4 := readAt_zero _ z3 _ _) (e5 := readAt_zero _ z3 _ _) (e5' := readAt_zero _ z3 _ _) (e5'' := readAt_zero _ z3 _ _) (e6 := readAt_zero _ z3 _ _)
      (e70 := rfl) (e71 := rfl) (e72 := rfl) (e8 := readAt_zero _ z3 _ _) (e9 := readAt_zero _ z3 _ _)
      (eo := readAt_zero _ z3 _ _))) (readAt_zero _ z3 _ _) (readAt_zero _ z3 _ _)

  iexists fh; isplitr; · ipureintro; rfl
  iexact Hh
end Runs

end Cert.FfnIdeal.Hand

end
-- ==== Proof.FfnState.lean ====
/-
  The convolutional feed-forward kernel's state from point to point, and its body's obligation at every point.
-/
module

public import proofs.«01_k».proof.Proof.FfnRun

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's beside the transfers' counters. -/
local notation "𝕄" => MT nD τ sig Unit (Elt F) ℕ (Pipeline.UD sig nD τ) ℕ

variable (m : (ℓ : Loc nD τ sig) → Buf (Elt F) ℓ)

/-! ## The conditions in closed form -/

/-- Block `k`'s first row of `x`. -/
def offN (k : ℕ) : Fin 3 → ℕ := ![k % 16 / 4, k % 4 * 1024, 0]

theorem offN_le (k : ℕ) : ∀ a, offN k a + S1x1024x2048.size a ≤ S4x4096x2048.size a := by
  have h1 : k % 16 / 4 + 1 ≤ 4 := by omega
  have h2 : k % 4 * 1024 + 1024 ≤ 4096 := by omega
  intro a
  fin_cases a
  · exact h1
  · exact h2
  · exact le_refl 2048

theorem cond1_iff : ∀ t : Fin cfg0.N, k0_cond1 (grid0.coords t) = 1#1 ↔ t.val % 11 = 0 :=
  (by decide +kernel : ∀ t : Fin grid0.N, k0_cond1 (grid0.coords t) = 1#1 ↔ t.val % 11 = 0)
theorem first_iff : ∀ t : Fin cfg0.N, firstCond (grid0.coords t) = 1#1 ↔ t.val / 11 = 0 :=
  (by decide +kernel : ∀ t : Fin grid0.N, firstCond (grid0.coords t) = 1#1 ↔ t.val / 11 = 0)
theorem cond3_iff : ∀ t : Fin cfg0.N, k0_cond3 (grid0.coords t) = 1#1 ↔ t.val % 11 = 1 ∧ t.val / 11 < 15 :=
  (by decide +kernel : ∀ t : Fin grid0.N, k0_cond3 (grid0.coords t) = 1#1 ↔ t.val % 11 = 1 ∧ t.val / 11 < 15)
theorem last_iff : ∀ t : Fin cfg0.N, lastCond (grid0.coords t) = 1#1 ↔ t.val % 11 = 10 :=
  (by decide +kernel : ∀ t : Fin grid0.N, lastCond (grid0.coords t) = 1#1 ↔ t.val % 11 = 10)
theorem off2_eq : ∀ t : Fin cfg0.N, t.val % 11 = 1 ∧ t.val / 11 < 15 → k0_off2 (grid0.coords t) = offN (t.val / 11 + 1) :=
  (by decide +kernel : ∀ t : Fin grid0.N, t.val % 11 = 1 ∧ t.val / 11 < 15 → k0_off2 (grid0.coords t) = offN (t.val / 11 + 1))

theorem lt_N (t : Fin cfg0.N) : t.val < 176 := t.isLt

/-! ## What the buffers hold -/

/-- Point `n` of the grid. -/
def pt (n : ℕ) : Fin cfg0.N := ⟨n % 176, (Nat.mod_lt n (by decide) : n % 176 < 176)⟩

theorem pt_val (t : Fin cfg0.N) : pt t.val = t := Fin.ext (Nat.mod_eq_of_lt (lt_N t))

/-- `x` as the region finds it. -/
abbrev xArr (c : Dev nD) : Buf (Elt F) (srcM.view.loc (c : Thread nD τ)) := V m c main_arg0

theorem slabOf_congr (c : Dev nD) (fs : Buf (Elt F) (srcM.view.loc (c : Thread nD τ))) {off off' : Fin 3 → ℕ} (e : off = off') (h h') :
    slabOf c fs off h = slabOf c fs off' h' := by subst e; rfl

/-- The rows of `x` of point `n`'s block. -/
def xN (c : Dev nD) (n : ℕ) : Vec F S1024x2048 .f32 := slabOf c (xArr m c) (offN (n / 11)) (offN_le _)

/-- The modulated rows of point `n`'s block, made at the block's first point. -/
def hN (c : Dev nD) (n : ℕ) : Vec F S1056x2048 .bf16 :=
  hOf (grid0.coords (pt (n - n % 11))) (xN m c n) (iblk m c 0 (pt (n - n % 11))) (iblk m c 1 (pt (n - n % 11))) (iblk m c 2 (pt (n - n % 11))) (iblk m c 3 (pt (n - n % 11)))

/-- One chunk added to the output block. -/
def stepN (c : Dev nD) (t : Fin cfg0.N) (h : Vec F S1056x2048 .bf16) (o : Vec F S1x1024x2048 .f32) : Vec F S1x1024x2048 .f32 :=
  acc h (iblk m c 4 t) (iblk m c 5 t) (iblk m c 6 t) (iblk m c 7 t) (iblk m c 8 t) (iblk m c 9 t) o

/-- The output block after point `n`, before the last norm. -/
def accN (c : Dev nD) : ℕ → Vec F S1x1024x2048 .f32
  | 0 => stepN m c (pt 0) (hN m c 0) (k0_pay12 (xN m c 0))
  | n + 1 => stepN m c (pt (n + 1)) (hN m c (n + 1)) (if (n + 1) % 11 = 0 then k0_pay12 (xN m c (n + 1)) else accN c n)

/-- The output block after point `n`. -/
def outN (c : Dev nD) (t : Fin cfg0.N) : Vec F S1x1024x2048 .f32 :=
  if t.val % 11 = 10 then k0_pay2 (accN m c t.val) (iblk m c 10 t) (iblk m c 11 t) else accN m c t.val

theorem accN_start (c : Dev nD) (t : Fin cfg0.N) (h : t.val % 11 = 0) :
    accN m c t.val = stepN m c t (hN m c t.val) (k0_pay12 (xN m c t.val)) := by
  obtain ⟨n, hn⟩ := t
  cases n with
  | zero => exact congrArg (fun s => stepN m c s _ _) (pt_val ⟨0, hn⟩)
  | succ n => exact (congrArg (fun s => stepN m c s _ _) (pt_val ⟨n + 1, hn⟩)).trans (congrArg _ (if_pos h))

theorem accN_next (c : Dev nD) (t : Fin cfg0.N) (h : t.val % 11 ≠ 0) :
    accN m c t.val = stepN m c t (hN m c t.val) (accN m c (t.val - 1)) := by
  obtain ⟨n, hn⟩ := t
  cases n with
  | zero => exact absurd rfl h
  | succ n => exact (congrArg (fun s => stepN m c s _ _) (pt_val ⟨n + 1, hn⟩)).trans (congrArg _ (if_neg h))

theorem hN_start (c : Dev nD) (t : Fin cfg0.N) (h : t.val % 11 = 0) :
    hN m c t.val = hOf (grid0.coords t) (xN m c t.val) (iblk m c 0 t) (iblk m c 1 t) (iblk m c 2 t) (iblk m c 3 t) := by
  unfold hN; rw [h, Nat.sub_zero, pt_val]

theorem hN_next (c : Dev nD) (n : ℕ) (h : n % 11 ≠ 0) : hN m c (n - 1) = hN m c n := by
  have e1 : (n - 1) - (n - 1) % 11 = n - n % 11 := by omega
  have e2 : (n - 1) / 11 = n / 11 := by omega
  have e3 : xN m c (n - 1) = xN m c n := slabOf_congr c _ (congrArg offN e2) _ _
  unfold hN; rw [e1, e3]

/-! ## The state between points -/

/-- A transfer is under way before point `n`. -/
def fl (n : ℕ) : Prop := 2 ≤ n ∧ (n - 2) % 11 ≤ 9 ∧ (n - 2) / 11 < 15

instance (n : ℕ) : Decidable (fl n) := by unfold fl; infer_instance

/-- The share of `x` the body's own transfers read from. -/
def qx : PosShare TreeShare := (Pipeline.shareOf spec0 0).right

/-- Block `k` of `x` on its way. -/
def flying (c : Dev nD) (k : ℕ) : sProp 𝕄 :=
  iprop((∃ fx, ⌜xM.view.read (Elt F) fx = slabOf c (xArr m c) (offN k) (offN_le k)⌝ ∗ inFlight c qx (xArr m c) fx (offN k) (offN_le k))
    ∗ srcRest c qx (xArr m c) (offN k) (offN_le k))

/-- No transfer under way. -/
def grounded (c : Dev nD) : sProp 𝕄 :=
  iprop((∃ x, owns (c : Thread nD τ) xM fullShare x) ∗ srcPt c qx (xArr m c) ∗ semVal ((c : Thread nD τ), SemLoc.dma 24) 0)

def air (c : Dev nD) (n : ℕ) : sProp 𝕄 := if fl n then flying m c ((n + 9) / 11) else grounded m c

def rowsAt (c : Dev nD) (n : ℕ) : sProp 𝕄 :=
  if n = 0 then iprop(∃ h, owns (c : Thread nD τ) hM fullShare h) else owns (c : Thread nD τ) hM fullShare (hN m c (n - 1))

def Phi (c : Dev nD) (n : ℕ) : sProp 𝕄 := iprop(rowsAt m c n ∗ air m c n ∗ ∃ r, prngReg c r)

theorem air_keep (c : Dev nD) (n : ℕ) (h0 : n % 11 ≠ 0) (h1 : ¬ (n % 11 = 1 ∧ n / 11 < 15)) : air m c (n + 1) = air m c n := by
  unfold air
  by_cases h : fl n
  · have h' : fl (n + 1) := by unfold fl at *; omega
    have e : (n + 1 + 9) / 11 = (n + 9) / 11 := by unfold fl at *; omega
    rw [if_pos h, if_pos h', e]
  · have h' : ¬ fl (n + 1) := by unfold fl at *; omega
    rw [if_neg h, if_neg h']

theorem rowsAt_succ (c : Dev nD) (n : ℕ) : rowsAt m c (n + 1) = owns (c : Thread nD τ) hM fullShare (hN m c n) := if_neg (Nat.succ_ne_zero n)

theorem rowsAt_keep (c : Dev nD) (n : ℕ) (h : n % 11 ≠ 0) : rowsAt m c n = owns (c : Thread nD τ) hM fullShare (hN m c n) := by
  unfold rowsAt; rw [if_neg (by omega), hN_next m c n h]

theorem rowsAt_any (c : Dev nD) (n : ℕ) : rowsAt m c n ⊢ iprop(∃ h, owns (c : Thread nD τ) hM fullShare h) := by
  unfold rowsAt
  split
  · exact .rfl
  · iintro H; iexists _; iexact H

/-- A lent slab and the rest make up the share again. -/
theorem src_join (c : Dev nD) (q : PosShare TreeShare) (fs : Buf (Elt F) (srcM.view.loc (c : Thread nD τ)))
    (off : Fin 3 → ℕ) (hoff : ∀ a, off a + S1x1024x2048.size a ≤ S4x4096x2048.size a) :
    (iprop(srcSlab c q fs off hoff ∗ srcRest c q fs off hoff) : sProp 𝕄) ⊢ srcPt c q fs :=
  (pointsTo_split_subset (Finset.subset_univ _)).2

theorem flying_of (c : Dev nD) {off : Fin 3 → ℕ} {k : ℕ} (e : off = offN k) (hoff : ∀ a, off a + S1x1024x2048.size a ≤ S4x4096x2048.size a) :
    (iprop((∃ fx, ⌜xM.view.read (Elt F) fx = slabOf c (xArr m c) off hoff⌝ ∗ inFlight c qx (xArr m c) fx off hoff) ∗ srcRest c qx (xArr m c) off hoff) : sProp 𝕄)
      ⊢ iprop((∃ fx, ⌜xM.view.read (Elt F) fx = slabOf c (xArr m c) (offN k) (offN_le k)⌝ ∗ inFlight c qx (xArr m c) fx (offN k) (offN_le k))
          ∗ srcRest c qx (xArr m c) (offN k) (offN_le k)) := by
  subst e; exact .rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outN m c t
  Φ t := Phi m c t.val
  q w := if w = 0 then (Pipeline.shareOf spec0 0).left else Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem after0_12 (c : Dev nD) (t : Fin cfg0.N) : (dats m 0 c).after 12 t = outN m c t := by dsimp only [dats]
theorem before0_12 (c : Dev nD) (t : Fin cfg0.N) (h : t.val % 11 ≠ 0) (d) : (dats m 0 c).before 12 t d = accN m c (t.val - 1) := by
  have ht : t.val ≠ 0 := by omega
  refine ((dats m 0 c).before_out_kept 12 rfl t ht (Bool.eq_false_iff.mpr fun hf => ?_) (fun _ => rfl) (fun _ _ => rfl) d).trans ?_
  · have := (flush0_12 _).mp hf; dsimp only at this; omega
  · rw [after0_12]; unfold outN; rw [if_neg (by dsimp only; omega)]

theorem Phi_castSucc (c : Dev nD) (t : Fin cfg0.N) : (dats m 0 c).Φ t.castSucc = Phi m c t.val := rfl
theorem Phi_succ (c : Dev nD) (t : Fin cfg0.N) : (dats m 0 c).Φ t.succ = Phi m c (t.val + 1) := rfl

def ins (c : Dev nD) (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t))

def bodyPre (c : Dev nD) (t : Fin cfg0.N) : sProp 𝕄 :=
  iprop(Phi m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)))
def bodyPost (c : Dev nD) (t : Fin cfg0.N) : sProp 𝕄 :=
  iprop(Phi m c (t.val + 1) ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t))

theorem body_mid (c : Dev nD) (t : Fin cfg0.N) (h0 : t.val % 11 ≠ 0) (h1 : ¬ (t.val % 11 = 1 ∧ t.val / 11 < 15)) (h2 : t.val % 11 ≠ 10) :
    bodyPre m c t ⊢ wp frame (wpE (defs₀ (F := F)) Variants.none c none) Set.univ (bodyAt0 t) (fun _ => bodyPost m c t) := by
  have hlt := lt_N t
  unfold bodyPre bodyPost Phi Dat.owesAt Pipeline.owesWithin
  rw [show (dats m 0 c).owed t.castSucc = 0 from rfl, show (dats m 0 c).owed t.succ = 0 from rfl, air_keep m c _ h0 h1, rowsAt_succ, rowsAt_keep m c _ h0]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, after0_12]
  iintro ⟨⟨Hr, Ha, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0_12 m c t h0 d12]
  iapply (run_mid c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (fun h => h0 ((cond1_iff t).mp h)) (fun h => h1 ((cond3_iff t).mp h)) (fun h => h2 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (accN m c (t.val - 1)) (hN m c t.val) _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [Hr]; · iexact Hr
  iintro ⟨H4, H5, H6, H7, H8, H9, H12, Hr⟩
  isplitl [Hr Ha Hg]
  · isplitl [Hr]; · iexact Hr
    isplitl [Ha]
    · iexact Ha
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [show outN m c t = accN m c t.val from if_neg h2, accN_next m c t h0]
  iexact H12

theorem body_last (c : Dev nD) (t : Fin cfg0.N) (h2 : t.val % 11 = 10) :
    bodyPre m c t ⊢ wp frame (wpE (defs₀ (F := F)) Variants.none c none) Set.univ (bodyAt0 t) (fun _ => bodyPost m c t) := by
  have hlt := lt_N t
  have h0 : t.val % 11 ≠ 0 := by omega
  have h1 : ¬ (t.val % 11 = 1 ∧ t.val / 11 < 15) := by omega
  unfold bodyPre bodyPost Phi Dat.owesAt Pipeline.owesWithin
  rw [show (dats m 0 c).owed t.castSucc = 0 from rfl, show (dats m 0 c).owed t.succ = 0 from rfl, air_keep m c _ h0 h1, rowsAt_succ, rowsAt_keep m c _ h0]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, after0_12]
  iintro ⟨⟨Hr, Ha, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0_12 m c t h0 d12]
  iapply (run_last c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (fun h => h0 ((cond1_iff t).mp h)) (fun h => h1 ((cond3_iff t).mp h)) ((last_iff t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (accN m c (t.val - 1)) (hN m c t.val) _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hr]; · iexact Hr
  iintro ⟨H4, H5, H6, H7, H8, H9, H10, H11, H12, Hr⟩
  isplitl [Hr Ha Hg]
  · isplitl [Hr]; · iexact Hr
    isplitl [Ha]
    · iexact Ha
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [show outN m c t = k0_pay2 (accN m c t.val) (iblk m c 10 t) (iblk m c 11 t) from if_pos h2, accN_next m c t h0]
  iexact H12

theorem body_issue (c : Dev nD) (t : Fin cfg0.N) (h1 : t.val % 11 = 1 ∧ t.val / 11 < 15) :
    bodyPre m c t ⊢ wp frame (wpE (defs₀ (F := F)) Variants.none c none) Set.univ (bodyAt0 t) (fun _ => bodyPost m c t) := by
  have hlt := lt_N t
  have h0 : t.val % 11 ≠ 0 := by omega
  have h2 : t.val % 11 ≠ 10 := by omega
  have hf : ¬ fl t.val := by unfold fl; omega
  have hf' : fl (t.val + 1) := by unfold fl; omega
  have hk : (t.val + 1 + 9) / 11 = t.val / 11 + 1 := by omega
  have hoff : ∀ a, k0_off2 (grid0.coords t) a + S1x1024x2048.size a ≤ S4x4096x2048.size a := by rw [off2_eq t h1]; exact offN_le _
  unfold bodyPre bodyPost Phi Dat.owesAt Pipeline.owesWithin
  rw [show (dats m 0 c).owed t.castSucc = 0 from rfl, show (dats m 0 c).owed t.succ = 0 from rfl, rowsAt_succ, rowsAt_keep m c _ h0, show air m c t.val = grounded m c from if_neg hf, show air m c (t.val + 1) = flying m c (t.val / 11 + 1) from (if_pos hf').trans (by rw [hk])]
  unfold grounded flying
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, after0_12]
  iintro ⟨⟨Hr, ⟨Hx, Hs, Hq⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0_12 m c t h0 d12]
  iapply (run_issue c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (fun h => h0 ((cond1_iff t).mp h)) ((cond3_iff t).mpr h1) (fun h => h2 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) qx (xArr m c) hoff W (accN m c (t.val - 1)) (hN m c t.val) _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [Hr]; · iexact Hr
  isplitl [Hx]; · iexact Hx
  isplitl [Hs]; · iexact Hs
  isplitl [Hq]; · iexact Hq
  isplitl [HW]; · iexact HW
  iintro ⟨H4, H5, H6, H7, H8, H9, H12, Hr, Hf, Hs, HW⟩
  isplitl [Hr Hf Hs Hg]
  · isplitl [Hr]; · iexact Hr
    isplitl [Hf Hs]
    · iapply (flying_of m c (off2_eq t h1) hoff)
      isplitl [Hf]; · iexact Hf
      iexact Hs
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [show outN m c t = accN m c t.val from if_neg h2, accN_next m c t h0]
  iexact H12

theorem body_block (c : Dev nD) (t : Fin cfg0.N) (h0 : t.val % 11 = 0) (hp : t.val / 11 ≠ 0) :
    bodyPre m c t ⊢ wp frame (wpE (defs₀ (F := F)) Variants.none c none) Set.univ (bodyAt0 t) (fun _ => bodyPost m c t) := by
  have hlt := lt_N t
  have h1 : ¬ (t.val % 11 = 1 ∧ t.val / 11 < 15) := by omega
  have h2 : t.val % 11 ≠ 10 := by omega
  have hf : fl t.val := by unfold fl; omega
  have hf' : ¬ fl (t.val + 1) := by unfold fl; omega
  have hk : (t.val + 9) / 11 = t.val / 11 := by omega
  unfold bodyPre bodyPost Phi Dat.owesAt Pipeline.owesWithin
  rw [show (dats m 0 c).owed t.castSucc = 0 from rfl, show (dats m 0 c).owed t.succ = 0 from rfl, rowsAt_succ, show air m c (t.val + 1) = grounded m c from if_neg hf', show air m c t.val = flying m c (t.val / 11) from (if_pos hf).trans (by rw [hk])]
  unfold grounded flying
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, after0_12]
  iintro ⟨⟨Hr, ⟨⟨%fx, %hfx, Hf⟩, Hs⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave Hr := (rowsAt_any m c t.val) $$ Hr
  iapply (run_block c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ ((cond1_iff t).mpr h0) (fun h => hp ((first_iff t).mp h)) (fun h => h1 ((cond3_iff t).mp h)) (fun h => h2 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) qx (xArr m c) fx (offN (t.val / 11)) (offN_le _) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]; · iexists _; iexact H12
  isplitl [Hr]; · iexact Hr
  isplitl [Hf]; · iexact Hf
  isplitl [HW]; · iexact HW
  rw [hfx]
  iintro ⟨H0, H1, H2, H3, H4, H5, H6, H7, H8, H9, H12, Hr, Hx, Hl, Hq, HW⟩
  isplitl [Hr Hx Hl Hs Hq Hg]
  · isplitl [Hr]; · rw [hN_start m c t h0]; iexact Hr
    isplitl [Hx Hl Hs Hq]
    · isplitl [Hx]; · iexact Hx
      isplitl [Hl Hs]
      · iapply (src_join c qx (xArr m c) (offN (t.val / 11)) (offN_le _))
        isplitl [Hl]; · iexact Hl
        iexact Hs
      iexact Hq
    iexact Hg
  isplitl [HW]
  · icases HW with ⟨%W1, HW⟩; iexists W1; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [show outN m c t = accN m c t.val from if_neg h2, accN_start m c t h0, hN_start m c t h0]
  iexact H12

theorem body_first (c : Dev nD) (t : Fin cfg0.N) (hz : t.val = 0) :
    bodyPre m c t ⊢ wp frame (wpE (defs₀ (F := F)) Variants.none c none) Set.univ (bodyAt0 t) (fun _ => bodyPost m c t) := by
  have hlt := lt_N t
  have h0 : t.val % 11 = 0 := by omega
  have h1 : ¬ (t.val % 11 = 1 ∧ t.val / 11 < 15) := by omega
  have h2 : t.val % 11 ≠ 10 := by omega
  have hf : ¬ fl t.val := by unfold fl; omega
  have hf' : ¬ fl (t.val + 1) := by unfold fl; omega
  have hX : slabOf c (xArr m c) ![0, 0, 0] inb_S4x4096x2048_S1x1024x2048_0_0_0 = xN m c t.val := by
    unfold xN; exact slabOf_congr c _ (by rw [hz]; decide) _ _
  unfold bodyPre bodyPost Phi Dat.owesAt Pipeline.owesWithin
  rw [show (dats m 0 c).owed t.castSucc = 0 from rfl, show (dats m 0 c).owed t.succ = 0 from rfl, rowsAt_succ, show air m c (t.val + 1) = grounded m c from if_neg hf', show air m c t.val = grounded m c from if_neg hf]
  unfold grounded
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, after0_12]
  iintro ⟨⟨Hr, ⟨Hx, Hs, Hq⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave Hr := (rowsAt_any m c t.val) $$ Hr
  iapply (run_first c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ ((cond1_iff t).mpr h0) ((first_iff t).mpr (by omega)) (fun h => h1 ((cond3_iff t).mp h)) (fun h => h2 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) qx (xArr m c) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]; · iexists _; iexact H12
  isplitl [Hr]; · iexact Hr
  isplitl [Hx]; · iexact Hx
  isplitl [Hs]; · iexact Hs
  isplitl [Hq]; · iexact Hq
  isplitl [HW]; · iexact HW
  rw [hX]
  iintro ⟨H0, H1, H2, H3, H4, H5, H6, H7, H8, H9, H12, Hr, Hx, Hs, Hq, HW⟩
  isplitl [Hr Hx Hs Hq Hg]
  · isplitl [Hr]; · rw [hN_start m c t h0]; iexact Hr
    isplitl [Hx Hs Hq]
    · isplitl [Hx]; · iexact Hx
      isplitl [Hs]; · iexact Hs
      iexact Hq
    iexact Hg
  isplitl [HW]
  · icases HW with ⟨%W1, HW⟩; iexists W1; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [show outN m c t = accN m c t.val from if_neg h2, accN_start m c t h0, hN_start m c t h0]
  iexact H12

/-- The body at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · by_cases hz : t.val / 11 = 0
    · exact body_first m c t (by omega)
    · exact body_block m c t h0 hz
  by_cases h1 : t.val % 11 = 1 ∧ t.val / 11 < 15
  · exact body_issue m c t h1
  by_cases h2 : t.val % 11 = 10
  · exact body_last m c t h2
  · exact body_mid m c t h0 h1 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.FfnIdeal.Hand

end
-- ==== Proof.FfnMath.lean ====
/-
  The feed-forward block's mathematics over the extended reals: a row's layer norm, its modulation, the hidden
  activations and the output row, and what of it is a real number.
-/
module

public import Idealize.ShloMosaic.Lib.Pipeline.ValueKit
public import Idealize.ShloMosaic.PureOps

@[expose] public section

set_option maxRecDepth 16384

noncomputable section

namespace Cert.FfnMath

open Idealize.ShloMosaic

/-- The constants both programs print: the width, the norm's additive constant, the residual's factor. -/
def width : EReal := Ideal.ofBits .f32 0x45000000#32
def eps : EReal := Ideal.ofBits .f32 0x358637BD#32
def alpha : EReal := Ideal.ofBits .f32 0x3FB504F3#32

def mean (r : Fin 2048 → EReal) : EReal := Ideal.div (∑ k, r k) width
def var (r : Fin 2048 → EReal) : EReal := Ideal.div (∑ k, (r k - mean r) * (r k - mean r)) width
/-- A row less its mean, over the root of its variance. -/
def norm (r : Fin 2048 → EReal) (n : Fin 2048) : EReal := (r n - mean r) * Ideal.rsqrt (var r + eps)
/-- The normed row, scaled and shifted. -/
def modulated (r sc sh : Fin 2048 → EReal) (n : Fin 2048) : EReal := norm r n * (1 + sc n) + sh n

/-- The product of a row and a column of weights. -/
def proj (h w : Fin 2048 → EReal) : EReal := ∑ k, h k * w k

/-- The convolution of three neighbouring gate values. -/
def conv (p g n w0 w1 w2 b : EReal) : EReal := p * w0 + g * w1 + n * w2 + b

/-- The activation: the convolved gate times its logistic, times the second projection. -/
def act (a u : EReal) : EReal := a * Ideal.logistic a * u

/-! ## Real values -/

/-- A value that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.zero : IsReal 0 := ⟨0, rfl⟩
theorem IsReal.one : IsReal 1 := ⟨1, rfl⟩

theorem IsReal.sum {ι : Type} (s : Finset ι) {f : ι → EReal} (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

theorem IsReal.logistic {x : EReal} (hx : IsReal x) : IsReal (Ideal.logistic x) := by
  obtain ⟨a, rfl⟩ := hx; exact ⟨_, Ideal.logistic_coe _⟩

theorem width_eq : width = ((2048 : ℝ) : EReal) := by
  unfold width
  simp [Ideal.ofBits, Ideal.ieee]
  rw [← EReal.coe_mul]
  norm_num

theorem eps_pos : ∃ e : ℝ, 0 < e ∧ eps = (e : EReal) := by
  refine ⟨8796093 / 8796093022208, by norm_num, ?_⟩
  unfold eps
  simp [Ideal.ofBits, Ideal.ieee]
  rw [← EReal.coe_mul]
  norm_num

theorem alpha_real : IsReal alpha := by
  refine ⟨11863283 / 8388608, ?_⟩
  unfold alpha
  simp [Ideal.ofBits, Ideal.ieee]
  rw [← EReal.coe_mul]
  norm_num

theorem div_width (a : ℝ) : Ideal.div (a : EReal) width = ((a / 2048 : ℝ) : EReal) := by
  rw [width_eq, Ideal.div, if_neg (by exact_mod_cast (by norm_num : (2048 : ℝ) ≠ 0)), ← EReal.coe_inv, ← EReal.coe_mul, div_eq_mul_inv]

theorem IsReal.mean {r : Fin 2048 → EReal} (h : ∀ k, IsReal (r k)) : IsReal (mean r) := by
  obtain ⟨a, ha⟩ := IsReal.sum Finset.univ fun k _ => h k
  exact ⟨_, (congrArg (Ideal.div · width) ha).trans (div_width a)⟩

theorem IsReal.norm {r : Fin 2048 → EReal} (h : ∀ k, IsReal (r k)) (n : Fin 2048) : IsReal (norm r n) := by
  refine ((h n).sub (IsReal.mean h)).mul ?_
  choose f hf using fun k => (h k).sub (IsReal.mean h)
  obtain ⟨e, he, hee⟩ := eps_pos
  have hs : ∀ s : Finset (Fin 2048), ∃ a : ℝ, 0 ≤ a ∧ ∑ k ∈ s, (r k - FfnMath.mean r) * (r k - FfnMath.mean r) = (a : EReal) := by
    intro s
    induction s using Finset.induction_on with
    | empty => exact ⟨0, le_refl _, rfl⟩
    | insert k s hk ih =>
      obtain ⟨a, ha, e⟩ := ih
      refine ⟨f k * f k + a, add_nonneg (mul_self_nonneg _) ha, ?_⟩
      rw [Finset.sum_insert hk, e, hf k, EReal.coe_add, EReal.coe_mul]
  obtain ⟨a, ha, e1⟩ := hs Finset.univ
  have hv : var r + eps = ((a / 2048 + e : ℝ) : EReal) := by
    unfold var; rw [e1, div_width, hee, EReal.coe_add]
  have hp : 0 < a / 2048 + e := by positivity
  rw [hv, Ideal.rsqrt_coe, if_neg (not_lt.mpr hp.le), if_neg hp.ne']
  exact ⟨_, rfl⟩

theorem IsReal.modulated {r sc sh : Fin 2048 → EReal} (h : ∀ k, IsReal (r k)) (hc : ∀ k, IsReal (sc k)) (hs : ∀ k, IsReal (sh k))
    (n : Fin 2048) : IsReal (modulated r sc sh n) :=
  ((IsReal.norm h n).mul (IsReal.one.add (hc n))).add (hs n)

theorem IsReal.proj {h w : Fin 2048 → EReal} (hh : ∀ k, IsReal (h k)) (hw : ∀ k, IsReal (w k)) : IsReal (proj h w) :=
  IsReal.sum _ fun k _ => (hh k).mul (hw k)

theorem IsReal.conv {p g n w0 w1 w2 b : EReal} (hp : IsReal p) (hg : IsReal g) (hn : IsReal n) (h0 : IsReal w0) (h1 : IsReal w1)
    (h2 : IsReal w2) (hb : IsReal b) : IsReal (conv p g n w0 w1 w2 b) :=
  (((hp.mul h0).add (hg.mul h1)).add (hn.mul h2)).add hb

theorem IsReal.act {a u : EReal} (ha : IsReal a) (hu : IsReal u) : IsReal (act a u) := (ha.mul ha.logistic).mul hu

/-! ## The chunks' sum -/

/-- Real chunks added one by one under a real factor: the factor times their sum. -/
theorem chunks {g : EReal} (hg : IsReal g) (s : ℕ → EReal) (hs : ∀ k, IsReal (s k)) (z : EReal) (A : ℕ → EReal)
    (h0 : A 0 = z + g * s 0) (N : ℕ) (h1 : ∀ k, k < N → A (k + 1) = A k + g * s (k + 1)) (n : ℕ) (hn : n ≤ N) :
    A n = z + g * ∑ k ∈ Finset.range (n + 1), s k := by
  induction n with
  | zero => rw [h0, Finset.sum_range_one]
  | succ n ih =>
    obtain ⟨a, ha⟩ := IsReal.sum (Finset.range (n + 1)) fun k _ => hs k
    obtain ⟨b, hb⟩ := hs (n + 1)
    obtain ⟨c, rfl⟩ := hg
    rw [h1 n (by omega), ih (by omega), Finset.sum_range_succ s (n + 1), ha, hb, add_assoc, ← EReal.coe_add, ← EReal.coe_mul, ← EReal.coe_mul, ← EReal.coe_mul, ← EReal.coe_add, mul_add]

/-- Eleven chunks of 512: the whole of 5632. -/
theorem whole (f : Fin 5632 → EReal) (s : ℕ → EReal)
    (h : ∀ k (hk : k < 11), s k = ∑ q : Fin 512, f ⟨k * 512 + q.val, by omega⟩) : ∑ k ∈ Finset.range 11, s k = ∑ q, f q := by
  rw [Finset.sum_range]
  refine Eq.trans ?_ (Fin.sum_univ_tiles 11 512 rfl f).symm
  exact Finset.sum_congr rfl fun k _ => h k.val k.isLt

end Cert.FfnMath

end
-- ==== Proof.FfnPure.lean ====
/-
  The feed-forward kernel's vector operations over the extended reals, read at an index.
-/
module

public import proofs.«01_k».proof.Proof.FfnRun
public import proofs.«01_k».proof.Proof.FfnMath

@[expose] public section

set_option maxRecDepth 16384

noncomputable section

namespace Cert.FfnPure

open Idealize.ShloMosaic Idealize.ShloMosaic.TcCoe Idealize.SL.Sem
open Cert.FfnIdeal Cert.FfnIdeal.Gen Cert.FfnIdeal.Hand Cert.FfnMath

theorem before_at (v : Ideal .f32) (x : FVec Ideal S1x16x2048 .f32) (s t : FVec Ideal S1x1x2048 .f32) (r : Fin 16) (n : Fin 2048) :
    k0_pay5 (F := Ideal) v x s t (ix2 r n)
      = (modulated (fun k => x (ix3 0 r k)) (fun k => s (ix3 0 0 k)) (fun k => t (ix3 0 0 k)) n * v : EReal) := by
  pointwise [k0_pay5]
  rfl

theorem own_at (x : FVec Ideal S1024x2048 .f32) (s t : FVec Ideal S1x1x2048 .f32) (r : Fin 1024) (n : Fin 2048) :
    k0_pay7 (F := Ideal) x (k0_pay6 x) (Scalar.ofBits .f32 0x45000000#32) s t (ix2 r n)
      = modulated (fun k => x (ix2 r k)) (fun k => s (ix3 0 0 k)) (fun k => t (ix3 0 0 k)) n := by
  pointwise [k0_pay7, k0_pay6]
  rfl

theorem after_at (v : Ideal .f32) (x : FVec Ideal S1x16x2048 .f32) (s t : FVec Ideal S1x1x2048 .f32) (r : Fin 16) (n : Fin 2048) :
    k0_pay11 (F := Ideal) v (k0_pay8 x) (k0_pay9 x) k0_pay10 s t (ix2 r n)
      = (modulated (fun k => x (ix3 0 r k)) (fun k => s (ix3 0 0 k)) (fun k => t (ix3 0 0 k)) n * v : EReal) := by
  pointwise [k0_pay11, k0_pay8, k0_pay9, k0_pay10]
  rfl

theorem start_at (x : FVec Ideal S1024x2048 .f32) (r : Fin 1024) (n : Fin 2048) :
    k0_pay12 (F := Ideal) x (ix3 0 r n) = (alpha * x (ix2 r n) : EReal) := by
  pointwise [k0_pay12]
  rfl

theorem last_at (o : FVec Ideal S1x1024x2048 .f32) (g b : FVec Ideal S1x1x2048 .f32) (r : Fin 1024) (n : Fin 2048) :
    k0_pay2 (F := Ideal) o g b (ix3 0 r n)
      = (norm (fun k => o (ix3 0 r k)) n * g (ix3 0 0 n) + b (ix3 0 0 n) : EReal) := by
  pointwise [k0_pay2]
  rfl

theorem acc_at (h : FVec Ideal S1056x2048 .bf16) (x4 : FVec Ideal S1x1x2048 .f32) (x5 x6 : FVec Ideal S1x2048x512 .bf16)
    (x7 : FVec Ideal S1x3x512 .f32) (x8 : FVec Ideal S1x1x512 .f32) (x9 : FVec Ideal S1x512x2048 .bf16)
    (o : FVec Ideal S1x1024x2048 .f32) (r : Fin 1024) (n : Fin 2048) :
    acc (F := Ideal) h x4 x5 x6 x7 x8 x9 o (ix3 0 r n) = (o (ix3 0 r n) + x4 (ix3 0 0 n) * ∑ q : Fin 512,
      act (conv (proj (fun k => h (ix2 ⟨r.val + 15, by omega⟩ k)) (fun k => x5 (ix3 0 k q)))
        (proj (fun k => h (ix2 ⟨r.val + 16, by omega⟩ k)) (fun k => x5 (ix3 0 k q)))
        (proj (fun k => h (ix2 ⟨r.val + 17, by omega⟩ k)) (fun k => x5 (ix3 0 k q)))
        (x7 (ix3 0 0 q)) (x7 (ix3 0 1 q)) (x7 (ix3 0 2 q)) (x8 (ix3 0 0 q)))
        (proj (fun k => h (ix2 ⟨r.val + 16, by omega⟩ k)) (fun k => x6 (ix3 0 k q))) * x9 (ix3 0 q n) : EReal) := by
  pointwise [acc, k0_pay1, k0_pay14, k0_pay15, k0_pay16, k0_pay17, k0_pay13]
  have e1 : ∀ h, (⟨(16 + r.val + 1056 - 1) % 1056, h⟩ : Fin 1056) = ⟨r.val + 15, by omega⟩ :=
    fun _ => Fin.ext (by show (16 + r.val + 1056 - 1) % 1056 = r.val + 15; omega)
  have e2 : ∀ h, (⟨16 + r.val, h⟩ : Fin 1056) = ⟨r.val + 16, by omega⟩ := fun _ => Fin.ext (Nat.add_comm _ _)
  have e3 : ∀ h, (⟨(16 + r.val + 1056 - 1055) % 1056, h⟩ : Fin 1056) = ⟨r.val + 17, by omega⟩ :=
    fun _ => Fin.ext (by show (16 + r.val + 1056 - 1055) % 1056 = r.val + 17; omega)
  simp only [e1, e2, e3]
  rfl

/-- A mask's word as a number. -/
theorem word_value (b : BitVec 32) (h : b = 0#32 ∨ b = 1#32) :
    Scalar.sitofp (F := Ideal) .f32 b = (if b = 0#32 then 0 else 1 : EReal) := by
  rcases h with rfl | rfl <;> simp

/-- The masks of the rows before and after a block: zero past the sequence's ends. -/
theorem mask_before (k : Fin 4) : k0_pay3 (F := Ideal) (BitVec.ofNat 32 k.val) = (if k.val = 0 then 0 else 1 : EReal) := by
  unfold k0_pay3
  refine (word_value _ ?_).trans ?_
  · revert k; decide
  · refine if_congr ?_ rfl rfl
    revert k; decide

theorem mask_after (k : Fin 4) : k0_pay4 (F := Ideal) (nextRow (BitVec.ofNat 32 k.val)) = (if k.val = 3 then 0 else 1 : EReal) := by
  unfold k0_pay4 nextRow
  refine (word_value _ ?_).trans ?_
  · revert k; decide
  · refine if_congr ?_ rfl rfl
    revert k; decide

/-- The rows of a block: 16 before it, its own, 16 after it. -/
def rowsOf (mp mn : EReal) (xp : Fin 16 → Fin 2048 → EReal) (xo : Fin 1024 → Fin 2048 → EReal) (xn : Fin 16 → Fin 2048 → EReal)
    (sc sh : Fin 2048 → EReal) (p : Fin 1056) (n : Fin 2048) : EReal :=
  if h : p.val < 16 then modulated (xp ⟨p.val, h⟩) sc sh n * mp
  else if h' : p.val < 1040 then modulated (xo ⟨p.val - 16, by omega⟩) sc sh n
  else modulated (xn ⟨p.val - 1040, by omega⟩) sc sh n * mn

theorem rows_at (i : grid0.Coords) (x : FVec Ideal S1024x2048 .f32) (x0 x1 : FVec Ideal S1x16x2048 .f32) (x2 x3 : FVec Ideal S1x1x2048 .f32)
    (p : Fin 1056) (n : Fin 2048) : hOf (F := Ideal) i x x0 x1 x2 x3 (ix2 p n)
      = rowsOf (k0_pay3 (F := Ideal) (BitVec.ofNat 32 (i 1).val)) (k0_pay4 (F := Ideal) (nextRow (BitVec.ofNat 32 (i 1).val)))
          (fun r k => x0 (ix3 0 r k)) (fun r k => x (ix2 r k)) (fun r k => x1 (ix3 0 r k)) (fun k => x3 (ix3 0 0 k)) (fun k => x2 (ix3 0 0 k)) p n := by
  unfold hOf hRows
  refine (View.canon_apply_of_pieces (fun y : S1056x2048.Idx =>
    rowsOf (k0_pay3 (F := Ideal) (BitVec.ofNat 32 (i 1).val)) (k0_pay4 (F := Ideal) (nextRow (BitVec.ofNat 32 (i 1).val)))
          (fun r k => x0 (ix3 0 r k)) (fun r k => x (ix2 r k)) (fun r k => x1 (ix3 0 r k)) (fun k => x3 (ix3 0 0 k)) (fun k => x2 (ix3 0 0 k)) (y 0) (y 1))
    _ ?_ _ (rows_cover _ _ _ _)).trans rfl
  intro pc hpc
  simp only [List.mem_cons, List.not_mem_nil, or_false] at hpc
  rcases hpc with rfl | rfl | rfl
  · intro y
    obtain ⟨a, b, rfl⟩ : ∃ (a : Fin 16) (b : Fin 2048), y = ix2 a b := ⟨y 0, y 1, eq_ix2 y⟩
    refine (after_at _ _ _ _ a b).trans ?_
    have e0 : (Rect.unit (s := S1056x2048) ![1040, 0] S16x2048.size inb_S1056x2048_S16x2048_1040_0).emb (ix2 a b) 0 = (⟨1040 + a.val, by omega⟩ : Fin 1056) := Fin.ext (ValueKit.rect_emb_unit_val _ _ _ _ _)
    have e1 : (Rect.unit (s := S1056x2048) ![1040, 0] S16x2048.size inb_S1056x2048_S16x2048_1040_0).emb (ix2 a b) 1 = b := Fin.ext ((ValueKit.rect_emb_unit_val _ _ _ _ _).trans (Nat.zero_add _))
    refine Eq.trans ?_ (congrArg₂ (rowsOf _ _ _ _ _ _ _) e0 e1).symm
    have h1 : ¬ 1040 + a.val < 16 := by omega
    have h2 : ¬ 1040 + a.val < 1040 := by omega
    have h3 : ∀ h, (⟨1040 + a.val - 1040, h⟩ : Fin 16) = a := fun _ => Fin.ext (Nat.add_sub_cancel_left _ _)
    simp only [rowsOf, dif_neg h1, dif_neg h2, h3]
  · intro y
    obtain ⟨a, b, rfl⟩ : ∃ (a : Fin 1024) (b : Fin 2048), y = ix2 a b := ⟨y 0, y 1, eq_ix2 y⟩
    refine (own_at _ _ _ a b).trans ?_
    have e0 : (Rect.unit (s := S1056x2048) ![16, 0] S1024x2048.size inb_S1056x2048_S1024x2048_16_0).emb (ix2 a b) 0 = (⟨16 + a.val, by omega⟩ : Fin 1056) := Fin.ext (ValueKit.rect_emb_unit_val _ _ _ _ _)
    have e1 : (Rect.unit (s := S1056x2048) ![16, 0] S1024x2048.size inb_S1056x2048_S1024x2048_16_0).emb (ix2 a b) 1 = b := Fin.ext ((ValueKit.rect_emb_unit_val _ _ _ _ _).trans (Nat.zero_add _))
    refine Eq.trans ?_ (congrArg₂ (rowsOf _ _ _ _ _ _ _) e0 e1).symm
    have h1 : ¬ 16 + a.val < 16 := by omega
    have h2 : 16 + a.val < 1040 := by omega
    have h3 : ∀ h, (⟨16 + a.val - 16, h⟩ : Fin 1024) = a := fun _ => Fin.ext (Nat.add_sub_cancel_left _ _)
    simp only [rowsOf, dif_neg h1, dif_pos h2, h3]
  · intro y
    obtain ⟨a, b, rfl⟩ : ∃ (a : Fin 16) (b : Fin 2048), y = ix2 a b := ⟨y 0, y 1, eq_ix2 y⟩
    refine (before_at _ _ _ _ a b).trans ?_
    have e0 : (Rect.unit (s := S1056x2048) ![0, 0] S16x2048.size inb_S1056x2048_S16x2048_0_0).emb (ix2 a b) 0 = (⟨0 + a.val, by omega⟩ : Fin 1056) := Fin.ext (ValueKit.rect_emb_unit_val _ _ _ _ _)
    have e1 : (Rect.unit (s := S1056x2048) ![0, 0] S16x2048.size inb_S1056x2048_S16x2048_0_0).emb (ix2 a b) 1 = b := Fin.ext ((ValueKit.rect_emb_unit_val _ _ _ _ _).trans (Nat.zero_add _))
    refine Eq.trans ?_ (congrArg₂ (rowsOf _ _ _ _ _ _ _) e0 e1).symm
    have h1 : 0 + a.val < 16 := by omega
    have h3 : ∀ h, (⟨0 + a.val, h⟩ : Fin 16) = a := fun _ => Fin.ext (Nat.zero_add _)
    simp only [rowsOf, dif_pos h1, h3]

end Cert.FfnPure

end
-- ==== Proof.FfnTarget.lean ====
/-
  What the feed-forward block computes: one batch entry's rows and the layer's weights, and the output row by row.
-/
module

public import proofs.«01_k».proof.Proof.FfnMath
public import Idealize.ShloMosaic.Lib.Pointwise

@[expose] public section

set_option maxRecDepth 16384

noncomputable section

namespace Cert.FfnTarget

open Idealize.ShloMosaic Cert.FfnMath

/-- One batch entry of the block: its rows, their scale, shift and gate, the weights and the last norm's parameters. -/
structure Layer where
  x : Fin 4096 → Fin 2048 → EReal
  shift : Fin 2048 → EReal
  scale : Fin 2048 → EReal
  gate : Fin 2048 → EReal
  wg : Fin 2048 → Fin 5632 → EReal
  wu : Fin 2048 → Fin 5632 → EReal
  cw : Fin 3 → Fin 5632 → EReal
  cb : Fin 5632 → EReal
  wd : Fin 5632 → Fin 2048 → EReal
  lg : Fin 2048 → EReal
  lb : Fin 2048 → EReal

/-- Everything but the last norm's parameters is a real number. -/
structure Layer.Real (L : Layer) : Prop where
  x : ∀ j k, IsReal (L.x j k)
  shift : ∀ k, IsReal (L.shift k)
  scale : ∀ k, IsReal (L.scale k)
  gate : ∀ k, IsReal (L.gate k)
  wg : ∀ k q, IsReal (L.wg k q)
  wu : ∀ k q, IsReal (L.wu k q)
  cw : ∀ j q, IsReal (L.cw j q)
  cb : ∀ q, IsReal (L.cb q)
  wd : ∀ q n, IsReal (L.wd q n)

/-- The modulated rows, 16 rows of zeros before them and zeros after. -/
def Layer.hid (L : Layer) (p : ℕ) (n : Fin 2048) : EReal :=
  if h : 16 ≤ p ∧ p < 4112 then modulated (L.x ⟨p - 16, by omega⟩) L.scale L.shift n else 0

/-- A gate value, by its row. -/
def Layer.gated (L : Layer) (p : ℕ) (q : Fin 5632) : EReal := proj (L.hid p) fun k => L.wg k q

/-- A hidden activation. -/
def Layer.hidden (L : Layer) (j : Fin 4096) (q : Fin 5632) : EReal :=
  act (conv (L.gated (j.val + 15) q) (L.gated (j.val + 16) q) (L.gated (j.val + 17) q) (L.cw 0 q) (L.cw 1 q) (L.cw 2 q) (L.cb q))
    (proj (L.hid (j.val + 16)) fun k => L.wu k q)

/-- One hidden unit's share of an output. -/
def Layer.term (L : Layer) (j : Fin 4096) (n : Fin 2048) (q : Fin 5632) : EReal := L.hidden j q * L.wd q n

/-- The row before the last norm. -/
def Layer.resid (L : Layer) (j : Fin 4096) (n : Fin 2048) : EReal := alpha * L.x j n + L.gate n * ∑ q, L.term j n q

/-- The block's output. -/
def Layer.out (L : Layer) (j : Fin 4096) (n : Fin 2048) : EReal := norm (L.resid j) n * L.lg n + L.lb n

theorem Layer.Real.hid {L : Layer} (h : L.Real) (p : ℕ) (n : Fin 2048) : IsReal (L.hid p n) := by
  unfold Layer.hid
  split_ifs
  · exact IsReal.modulated (h.x _) h.scale h.shift n
  · exact IsReal.zero

theorem Layer.Real.gated {L : Layer} (h : L.Real) (p : ℕ) (q : Fin 5632) : IsReal (L.gated p q) :=
  IsReal.proj (h.hid p) fun k => h.wg k q

theorem Layer.Real.term {L : Layer} (h : L.Real) (j : Fin 4096) (n : Fin 2048) (q : Fin 5632) : IsReal (L.term j n q) :=
  ((IsReal.conv (h.gated _ q) (h.gated _ q) (h.gated _ q) (h.cw 0 q) (h.cw 1 q) (h.cw 2 q) (h.cb q)).act
    (IsReal.proj (h.hid _) fun k => h.wu k q)).mul (h.wd q n)

/-- The block of the second layer, on batch entry `b` of the argument arrays. -/
def layer (x : FVec Ideal ⟨3, ![4, 4096, 2048]⟩ .f32) (sh sc g : FVec Ideal ⟨3, ![4, 1, 2048]⟩ .f32)
    (wg wu : FVec Ideal ⟨3, ![2, 2048, 5632]⟩ .f32) (cw : FVec Ideal ⟨3, ![2, 3, 5632]⟩ .f32) (cb : FVec Ideal ⟨2, ![2, 5632]⟩ .f32)
    (wd : FVec Ideal ⟨3, ![2, 5632, 2048]⟩ .f32) (lg lb : FVec Ideal ⟨2, ![2, 2048]⟩ .f32) (b : Fin 4) : Layer where
  x j k := x (ix3 b j k)
  shift k := sh (ix3 b 0 k)
  scale k := sc (ix3 b 0 k)
  gate k := g (ix3 b 0 k)
  wg k q := wg (ix3 1 k q)
  wu k q := wu (ix3 1 k q)
  cw j q := cw (ix3 1 j q)
  cb q := cb (ix2 1 q)
  wd q n := wd (ix3 1 q n)
  lg n := lg (ix2 1 n)
  lb n := lb (ix2 1 n)

/-- Eleven chunks of hidden units, added one after another under the gate. -/
theorem Layer.Real.chunked {L : Layer} (h : L.Real) (j : Fin 4096) (n : Fin 2048) (s : ℕ) (hs : s % 11 = 0) (A : ℕ → EReal)
    (h0 : A 0 = alpha * L.x j n + L.gate n * ∑ q : Fin 512, L.term j n ⟨s % 11 * 512 + q.val, by omega⟩)
    (h1 : ∀ k, k < 10 → A (k + 1) = A k + L.gate n * ∑ q : Fin 512, L.term j n ⟨(s + (k + 1)) % 11 * 512 + q.val, by omega⟩) :
    A 10 = L.resid j n := by
  rw [chunks (h.gate n) (fun k => ∑ q : Fin 512, L.term j n ⟨(s + k) % 11 * 512 + q.val, by omega⟩)
    (fun k => IsReal.sum _ fun q _ => h.term j n _) _ A h0 10 h1 10 (le_refl _)]
  refine congrArg (fun z => alpha * L.x j n + L.gate n * z) (whole (L.term j n) _ fun k hk => ?_)
  refine Finset.sum_congr rfl fun q _ => congrArg (L.term j n) (Fin.ext ?_)
  show (s + k) % 11 * 512 + q.val = k * 512 + q.val
  omega

end Cert.FfnTarget

end
-- ==== Proof.FfnBlocks.lean ====
/-
  The feed-forward kernel's staged blocks, read through the argument arrays.
-/
module

public import proofs.«01_k».proof.Proof.FfnState
public import proofs.«01_k».proof.Proof.FfnPure
public import proofs.«01_k».proof.Proof.FfnTarget
public import Idealize.ShloMosaic.Lib.ValueLayout

@[expose] public section

set_option maxRecDepth 16384

noncomputable section

namespace Cert.FfnBlocks

open Idealize.ShloMosaic Idealize.ShloMosaic.TcCoe Idealize.SL.Sem
open Cert.FfnIdeal Cert.FfnIdeal.Gen Cert.FfnIdeal.Hand Cert.FfnMath Cert.FfnTarget Cert.FfnPure

variable (m : (ℓ : Loc nD τ sig) → Buf (Elt Ideal) ℓ)

/-- The block each window reads or writes at point `t`. -/
theorem idx : ∀ t : Fin cfg0.N, win0_0.index t = ![t.val / 44, t.val / 11 % 4 * 64 - 1, 0]
    ∧ win0_1.index t = ![t.val / 44, min (t.val / 11 % 4 * 64 + 64) 255, 0]
    ∧ win0_2.index t = ![t.val / 44, 0, 0] ∧ win0_3.index t = ![t.val / 44, 0, 0] ∧ win0_4.index t = ![t.val / 44, 0, 0]
    ∧ win0_5.index t = ![1, 0, t.val % 11] ∧ win0_6.index t = ![1, 0, t.val % 11] ∧ win0_7.index t = ![1, 0, t.val % 11]
    ∧ win0_8.index t = ![1, 0, t.val % 11] ∧ win0_9.index t = ![1, t.val % 11, 0] ∧ win0_10.index t = ![1, 0, 0]
    ∧ win0_11.index t = ![1, 0, 0] ∧ win0_12.index t = ![t.val / 44, t.val / 11 % 4, 0] ∧ t.val < 176 :=
  (by decide +kernel : ∀ t : Fin grid0.N, _)

theorem tile_val : ∀ t : Fin cfg0.N, (grid0.coords t 1).val = t.val / 11 % 4 :=
  (by decide +kernel : ∀ t : Fin grid0.N, _)

/-- The batch entry of point `t`. -/
abbrev bat (t : Fin cfg0.N) : Fin 4 := ⟨t.val / 44, by have := lt_N t; omega⟩

theorem prev_at (c : Dev nD) (t : Fin cfg0.N) (r : Fin 16) (k : Fin 2048) :
    iblk m c 0 t (ix3 0 r k) = (m ((c : Thread nD τ).loc main_arg0) : Vec Ideal S4x4096x2048 .f32)
      (ix3 (bat t) ⟨(t.val / 11 % 4 * 64 - 1) * 16 + r.val, by omega⟩ k) := by
  blk_simp [iblk]
  entry_read
  pointwise
  blk_ext [idx t]

theorem next_at (c : Dev nD) (t : Fin cfg0.N) (r : Fin 16) (k : Fin 2048) :
    iblk m c 1 t (ix3 0 r k) = (m ((c : Thread nD τ).loc main_arg0) : Vec Ideal S4x4096x2048 .f32)
      (ix3 (bat t) ⟨min (t.val / 11 % 4 * 64 + 64) 255 * 16 + r.val, by omega⟩ k) := by
  blk_simp [iblk]
  entry_read
  pointwise
  blk_ext [idx t]

theorem shift_at (c : Dev nD) (t : Fin cfg0.N) (k : Fin 2048) :
    iblk m c 2 t (ix3 0 0 k) = (m ((c : Thread nD τ).loc main_arg1) : Vec Ideal S4x1x2048 .f32) (ix3 (bat t) 0 k) := by
  blk_simp [iblk]
  entry_read
  pointwise
  blk_ext [idx t]

theorem scale_at (c : Dev nD) (t : Fin cfg0.N) (k : Fin 2048) :
    iblk m c 3 t (ix3 0 0 k) = (m ((c : Thread nD τ).loc main_arg2) : Vec Ideal S4x1x2048 .f32) (ix3 (bat t) 0 k) := by
  blk_simp [iblk]
  entry_read
  pointwise
  blk_ext [idx t]

theorem gate_at (c : Dev nD) (t : Fin cfg0.N) (k : Fin 2048) :
    iblk m c 4 t (ix3 0 0 k) = (m ((c : Thread nD τ).loc main_arg3) : Vec Ideal S4x1x2048 .f32) (ix3 (bat t) 0 k) := by
  blk_simp [iblk]
  entry_read
  pointwise
  blk_ext [idx t]

theorem wgate_at (c : Dev nD) (t : Fin cfg0.N) (k : Fin 2048) (q : Fin 512) :
    iblk m c 5 t (ix3 0 k q) = (m ((c : Thread nD τ).loc main_arg4) : Vec Ideal S2x2048x5632 .f32)
      (ix3 1 k ⟨t.val % 11 * 512 + q.val, by omega⟩) := by
  blk_simp [iblk]
  entry_read
  pointwise
  blk_ext [idx t]

theorem wup_at (c : Dev nD) (t : Fin cfg0.N) (k : Fin 2048) (q : Fin 512) :
    iblk m c 6 t (ix3 0 k q) = (m ((c : Thread nD τ).loc main_arg5) : Vec Ideal S2x2048x5632 .f32)
      (ix3 1 k ⟨t.val % 11 * 512 + q.val, by omega⟩) := by
  blk_simp [iblk]
  entry_read
  pointwise
  blk_ext [idx t]

theorem cw_at (c : Dev nD) (t : Fin cfg0.N) (j : Fin 3) (q : Fin 512) :
    iblk m c 7 t (ix3 0 j q) = (m ((c : Thread nD τ).loc main_arg6) : Vec Ideal S2x3x5632 .f32)
      (ix3 1 j ⟨t.val % 11 * 512 + q.val, by omega⟩) := by
  blk_simp [iblk]
  entry_read
  pointwise
  blk_ext [idx t]

theorem cb_at (c : Dev nD) (t : Fin cfg0.N) (q : Fin 512) :
    iblk m c 8 t (ix3 0 0 q) = (m ((c : Thread nD τ).loc main_arg7) : Vec Ideal S2x5632 .f32)
      (ix2 1 ⟨t.val % 11 * 512 + q.val, by omega⟩) := by
  blk_simp [iblk]
  entry_read
  pointwise
  blk_ext [idx t]

theorem wdslab_at (c : Dev nD) (t : Fin cfg0.N) (q : Fin 512) (n : Fin 2048) :
    iblk m c 9 t (ix3 0 q n) = (m ((c : Thread nD τ).loc main_arg8) : Vec Ideal S2x5632x2048 .f32)
      (ix3 1 ⟨t.val % 11 * 512 + q.val, by omega⟩ n) := by
  blk_simp [iblk]
  entry_read
  pointwise
  blk_ext [idx t]

theorem ln2g_at (c : Dev nD) (t : Fin cfg0.N) (n : Fin 2048) :
    iblk m c 10 t (ix3 0 0 n) = (m ((c : Thread nD τ).loc main_arg9) : Vec Ideal S2x2048 .f32) (ix2 1 n) := by
  blk_simp [iblk]
  entry_read
  pointwise
  blk_ext [idx t]

theorem ln2b_at (c : Dev nD) (t : Fin cfg0.N) (n : Fin 2048) :
    iblk m c 11 t (ix3 0 0 n) = (m ((c : Thread nD τ).loc main_arg10) : Vec Ideal S2x2048 .f32) (ix2 1 n) := by
  blk_simp [iblk]
  entry_read
  pointwise
  blk_ext [idx t]

theorem slab_at (c : Dev nD) (n : ℕ) (r : Fin 1024) (k : Fin 2048) :
    xN m c n (ix2 r k) = (m ((c : Thread nD τ).loc main_arg0) : Vec Ideal S4x4096x2048 .f32)
      (ix3 ⟨n / 11 % 16 / 4, by omega⟩ ⟨n / 11 % 4 * 1024 + r.val, by omega⟩ k) := by
  have e : ∀ y : S4x4096x2048.Idx, V m c main_arg0 y = (m ((c : Thread nD τ).loc main_arg0) : Vec Ideal S4x4096x2048 .f32) y := fun y => by
    entry_read
    rfl
  refine Eq.trans (b := V m c main_arg0 ((slab (offN (n / 11)) (offN_le _)).view.emb (ix2 r k))) rfl ((e _).trans ?_)
  refine congrArg (m ((c : Thread nD τ).loc main_arg0) : Vec Ideal S4x4096x2048 .f32) ?_
  refine (congrArg (Rect.unit (s := S4x4096x2048) (offN (n / 11)) S1x1024x2048.size (offN_le _)).emb (ValueIdx.reshapeEquiv_ix2_1ab _ r k)).trans ?_
  funext a
  refine Fin.ext ((ValueKit.rect_emb_unit_val _ _ _ _ _).trans ?_)
  fin_cases a
  · show n / 11 % 16 / 4 + 0 = n / 11 % 16 / 4
    rfl
  · rfl
  · show 0 + k.val = k.val
    omega

/-- A block's rows: the sequence's, with zeros past its ends. -/
theorem rows_hid (L : Layer) (k : Fin 4) (p : Fin 1056) (hp : 15 ≤ p.val ∧ p.val ≤ 1040) (n : Fin 2048) :
    rowsOf (if k.val = 0 then 0 else 1) (if k.val = 3 then 0 else 1) (fun r j => L.x ⟨(k.val * 64 - 1) * 16 + r.val, by omega⟩ j)
      (fun r j => L.x ⟨k.val * 1024 + r.val, by omega⟩ j) (fun r j => L.x ⟨min (k.val * 64 + 64) 255 * 16 + r.val, by omega⟩ j)
      L.scale L.shift p n = L.hid (k.val * 1024 + p.val) n := by
  unfold rowsOf Layer.hid
  have := k.isLt
  by_cases h1 : p.val < 16
  · rw [dif_pos h1]
    by_cases hk : k.val = 0
    · rw [if_pos hk, mul_zero, dif_neg (by omega)]
    · rw [if_neg hk, mul_one, dif_pos (by omega)]
      refine congrArg (fun z => modulated (L.x z) L.scale L.shift n) (Fin.ext ?_)
      show (k.val * 64 - 1) * 16 + p.val = k.val * 1024 + p.val - 16
      omega
  · rw [dif_neg h1]
    by_cases h2 : p.val < 1040
    · rw [dif_pos h2, dif_pos (by omega)]
      refine congrArg (fun z => modulated (L.x z) L.scale L.shift n) (Fin.ext ?_)
      show k.val * 1024 + (p.val - 16) = k.val * 1024 + p.val - 16
      omega
    · rw [dif_neg h2]
      by_cases hk : k.val = 3
      · rw [if_pos hk, mul_zero, dif_neg (by omega)]
      · rw [if_neg hk, mul_one, dif_pos (by omega)]
        refine congrArg (fun z => modulated (L.x z) L.scale L.shift n) (Fin.ext ?_)
        show min (k.val * 64 + 64) 255 * 16 + (p.val - 1040) = k.val * 1024 + p.val - 16
        omega

/-- The argument arrays' layer, on batch entry `b`. -/
def lay (c : Dev nD) (b : Fin 4) : Layer :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b

/-- The rows kept for point `t`. -/
theorem h_at (c : Dev nD) (t : Fin cfg0.N) (p : Fin 1056) (hp : 15 ≤ p.val ∧ p.val ≤ 1040) (n : Fin 2048) :
    hN m c t.val (ix2 p n) = (lay m c (bat t)).hid (t.val / 11 % 4 * 1024 + p.val) n := by
  have ht := lt_N t
  refine Eq.trans ?_ (rows_hid (lay m c (bat t)) ⟨t.val / 11 % 4, by omega⟩ p hp n)
  obtain ⟨s, hs⟩ : ∃ s : Fin cfg0.N, s = pt (t.val - t.val % 11) := ⟨_, rfl⟩
  have hv : s.val = t.val - t.val % 11 := by
    rw [hs]; exact Nat.mod_eq_of_lt (by omega)
  have hb : bat s = bat t := Fin.ext (by show s.val / 44 = t.val / 44; omega)
  have hk : s.val / 11 % 4 = t.val / 11 % 4 := by omega
  unfold hN
  rw [← hs, rows_at, tile_val, hk]
  rw [show k0_pay3 (F := Ideal) (BitVec.ofNat 32 (t.val / 11 % 4)) = _ from mask_before ⟨t.val / 11 % 4, by omega⟩,
    show k0_pay4 (F := Ideal) (nextRow (BitVec.ofNat 32 (t.val / 11 % 4))) = _ from mask_after ⟨t.val / 11 % 4, by omega⟩]
  simp only [prev_at, slab_at, next_at, scale_at, shift_at, hb, hk]
  have e : ∀ h, (⟨t.val / 11 % 16 / 4, h⟩ : Fin 4) = bat t := fun h => Fin.ext (by show t.val / 11 % 16 / 4 = t.val / 44; omega)
  simp only [e]
  rfl

/-- A chunk of hidden units, added to an output row. -/
theorem step_at (c : Dev nD) (t : Fin cfg0.N) (o : FVec Ideal S1x1024x2048 .f32) (r : Fin 1024) (n : Fin 2048) :
    stepN m c t (hN m c t.val) o (ix3 0 r n) = (o (ix3 0 r n) + (lay m c (bat t)).gate n * ∑ q : Fin 512,
      (lay m c (bat t)).term ⟨t.val / 11 % 4 * 1024 + r.val, by omega⟩ n ⟨t.val % 11 * 512 + q.val, by omega⟩ : EReal) := by
  unfold stepN
  rw [acc_at]
  simp only [gate_at, wgate_at, wup_at, cw_at, cb_at, wdslab_at]
  rw [funext (h_at m c t ⟨r.val + 15, by omega⟩ (by dsimp only; omega)), funext (h_at m c t ⟨r.val + 16, by omega⟩ (by dsimp only; omega)),
    funext (h_at m c t ⟨r.val + 17, by omega⟩ (by dsimp only; omega))]
  rfl

end Cert.FfnBlocks

end
-- ==== Proof.FfnFinal.lean ====
/-
  The feed-forward kernel's result array: the block's output at every index.
-/
module

public import proofs.«01_k».proof.Proof.FfnBlocks

@[expose] public section

set_option maxRecDepth 16384

noncomputable section

namespace Cert.FfnFinal

open Idealize.ShloMosaic Idealize.ShloMosaic.TcCoe Idealize.SL.Sem
open Cert.FfnIdeal Cert.FfnIdeal.Gen Cert.FfnIdeal.Hand Cert.FfnMath Cert.FfnTarget Cert.FfnPure Cert.FfnBlocks

variable (m : (ℓ : Loc nD τ sig) → Buf (Elt Ideal) ℓ)

/-- The `k`-th point after `s`. -/
abbrev later (s k : ℕ) (h : s + k < 176) : Fin cfg0.N := ⟨s + k, h⟩

/-- After a block's last chunk the output block holds the rows before the last norm. -/
theorem resid_at (c : Dev nD) (t : Fin cfg0.N) (ht : t.val % 11 = 10) (hL : (lay m c (bat t)).Real) (r : Fin 1024) (n : Fin 2048) :
    accN m c t.val (ix3 0 r n) = (lay m c (bat t)).resid ⟨t.val / 11 % 4 * 1024 + r.val, by omega⟩ n := by
  have hN := lt_N t
  obtain ⟨s, hs⟩ : ∃ s, s + 10 = t.val := ⟨t.val - 10, by omega⟩
  have hb : ∀ k (hk : k < 11), bat (later s k (by omega)) = bat t := fun k hk => Fin.ext (by show (s + k) / 44 = t.val / 44; omega)
  have hr : ∀ k (hk : k < 11) h, (⟨(s + k) / 11 % 4 * 1024 + r.val, h⟩ : Fin 4096) = ⟨t.val / 11 % 4 * 1024 + r.val, by omega⟩ :=
    fun k hk h => Fin.ext (by show (s + k) / 11 % 4 * 1024 + r.val = t.val / 11 % 4 * 1024 + r.val; omega)
  refine (congrArg (fun z => accN m c z (ix3 0 r n)) hs.symm).trans ?_
  refine hL.chunked ⟨t.val / 11 % 4 * 1024 + r.val, by omega⟩ n s (by omega) (fun k => accN m c (s + k) (ix3 0 r n)) ?_ fun k hk => ?_
  · have e := congrFun (accN_start m c (later s 0 (by omega)) (by show (s + 0) % 11 = 0; omega)) (ix3 0 r n)
    rw [step_at m c (later s 0 (by omega)), start_at, slab_at, hb 0 (by omega)] at e
    refine e.trans ?_
    have e1 : ∀ h : (s + 0) / 11 % 16 / 4 < 4, (⟨(s + 0) / 11 % 16 / 4, h⟩ : Fin 4) = bat t := fun h =>
      Fin.ext (by show (s + 0) / 11 % 16 / 4 = t.val / 44; omega)
    rw [e1, hr 0 (by omega)]
    rfl
  · have e := congrFun (accN_next m c (later s (k + 1) (by omega)) (by show (s + (k + 1)) % 11 ≠ 0; omega)) (ix3 0 r n)
    rw [step_at m c (later s (k + 1) (by omega)), hb (k + 1) (by omega), hr (k + 1) (by omega)] at e
    exact e

/-- The result array. -/
theorem final (c : Dev nD) (hL : ∀ b, (lay m c b).Real) :
    (dats m 0 c).arrAt 12 cfg0.N = fun y : S4x4096x2048.Idx => (lay m c (y 0)).out (y 1) (y 2) := by
  refine (dats m 0 c).arrAt_eq_of_covers 12 _ (by decide +kernel) fun t ht y => ?_
  blk_simp
  rw [after0_12]
  have hf : t.val % 11 = 10 := (flush0_12 t).mp ht
  unfold outN
  rw [if_pos hf]
  obtain ⟨r, n, rfl⟩ : ∃ (r : Fin 1024) (n : Fin 2048), y = ix3 0 r n := ⟨y 1, y 2, by blk_ext []⟩
  rw [last_at, ln2g_at, ln2b_at, funext fun k => resid_at m c t hf (hL _) r k]
  have e0 : ((win0_12.blk t).view.emb (ix3 0 r n)) = ix3 (bat t) ⟨t.val / 11 % 4 * 1024 + r.val, by omega⟩ n := by
    blk_ext [idx t]
  rw [e0]
  rfl

end Cert.FfnFinal

end
-- ==== Proof.FfnBody.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_finite_ffn
-- ==== Proof.FfnRef.lean ====
/-
  The feed-forward reference at an index: the block's output.
-/
module

public import proofs.«01_k».proof.Proof.FfnBody
public import proofs.«01_k».proof.Proof.FfnTarget

@[expose] public section

set_option maxRecDepth 16384

noncomputable section

namespace Cert.FfnRef

open Idealize.ShloMosaic Idealize.ShloMosaic.TcCoe Idealize.SL.Sem
open Cert.FfnReferenceIdeal Cert.FfnReferenceIdeal.Gen Cert.FfnReferenceIdeal.Read Cert.FfnMath Cert.FfnTarget

variable (x : FVec Ideal S4x4096x2048 .f32) (sh sc g : FVec Ideal S4x1x2048 .f32) (wg wu : FVec Ideal S2x2048x5632 .f32)
  (cw : FVec Ideal S2x3x5632 .f32) (cb : FVec Ideal S2x5632 .f32) (wd : FVec Ideal S2x5632x2048 .f32) (lg lb : FVec Ideal S2x2048 .f32)

theorem v35_at (b : Fin 4) (j : Fin 4096) (n : Fin 2048) :
    val_main_v35 (F := Ideal) x sh sc (ix3 b j n)
      = modulated (fun k => x (ix3 b j k)) (fun k => sc (ix3 b 0 k)) (fun k => sh (ix3 b 0 k)) n := by
  pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_0, val_main_cst_1, val_main_cst_2, val_main_cst_3, val_main_cst_4, val_main_cst_5]
  rfl

/-- The gate values, one row of zeros before them and one after. -/
theorem v37_at (b : Fin 4) (p : Fin 4098) (q : Fin 5632) :
    val_main_v37 (F := Ideal) x sh sc wg (ix3 b p q)
      = if h : 1 ≤ p.val ∧ p.val < 4097 then proj (fun k => val_main_v35 (F := Ideal) x sh sc (ix3 b ⟨p.val - 1, by omega⟩ k)) (fun k => wg (ix3 1 k q)) else 0 := by
  pointwise [val_main_v37, val_main_v36, val_main_v1, val_main_v0, val_main_call0_v0, val_main_c]
  refine dite_congr (propext (by omega)) (fun _ => rfl) fun _ => ?_
  change Scalar.sitofp (F := Ideal) .f32 0#32 = (0 : EReal)
  simp

theorem v60_at (b : Fin 4) (j : Fin 4096) (q : Fin 5632) :
    val_main_v60 (F := Ideal) x sh sc wg cw cb (ix3 b j q)
      = conv (val_main_v37 (F := Ideal) x sh sc wg (ix3 b ⟨j.val, by omega⟩ q)) (val_main_v37 (F := Ideal) x sh sc wg (ix3 b ⟨1 + j.val, by omega⟩ q))
          (val_main_v37 (F := Ideal) x sh sc wg (ix3 b ⟨2 + j.val, by omega⟩ q)) (cw (ix3 1 0 q)) (cw (ix3 1 1 q)) (cw (ix3 1 2 q)) (cb (ix2 1 q)) := by
  pointwise [val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v4, val_main_v5, val_main_v6, val_main_v7]
  rfl

theorem v63_at (b : Fin 4) (j : Fin 4096) (q : Fin 5632) :
    val_main_v63 (F := Ideal) x sh sc wg wu cw cb (ix3 b j q)
      = act (val_main_v60 (F := Ideal) x sh sc wg cw cb (ix3 b j q)) (proj (fun k => val_main_v35 (F := Ideal) x sh sc (ix3 b j k)) (fun k => wu (ix3 1 k q))) := by
  pointwise [val_main_v63, val_main_v61, val_main_v62, val_main_v3, val_main_v2, val_main_call1_v5, val_main_call1_v4, val_main_call1_v3, val_main_call1_v2, val_main_call1_v1, val_main_call1_v0, val_main_call1_cst, val_main_call1_cst_0]
  rfl

theorem v67_at (b : Fin 4) (j : Fin 4096) (n : Fin 2048) :
    val_main_v67 (F := Ideal) x sh sc g wg wu cw cb wd (ix3 b j n)
      = (alpha * x (ix3 b j n) + g (ix3 b 0 n) * ∑ q : Fin 5632, val_main_v63 (F := Ideal) x sh sc wg wu cw cb (ix3 b j q) * wd (ix3 1 q n) : EReal) := by
  pointwise [val_main_v67, val_main_v66, val_main_v65, val_main_v64, val_main_v9, val_main_v8, val_main_v11, val_main_v10, val_main_cst]
  rfl

theorem v95_at (b : Fin 4) (j : Fin 4096) (n : Fin 2048) :
    val_main_v95 (F := Ideal) x sh sc g wg wu cw cb wd lg lb (ix3 b j n)
      = (norm (fun k => val_main_v67 (F := Ideal) x sh sc g wg wu cw cb wd (ix3 b j k)) n * lg (ix2 1 n) + lb (ix2 1 n) : EReal) := by
  pointwise [val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_cst_6, val_main_cst_7, val_main_cst_8, val_main_cst_9, val_main_cst_10]
  rfl

/-- A padded gate value is the gate value of its row. -/
theorem gated_at (b : Fin 4) (p : Fin 4098) (q : Fin 5632) :
    val_main_v37 (F := Ideal) x sh sc wg (ix3 b p q) = (layer x sh sc g wg wu cw cb wd lg lb b).gated (p.val + 15) q := by
  rw [v37_at]
  unfold Layer.gated Layer.hid
  by_cases h : 1 ≤ p.val ∧ p.val < 4097
  · rw [dif_pos h, funext fun k => v35_at x sh sc b _ k]
    refine congrArg (fun r => proj r _) (funext fun n => ?_)
    rw [dif_pos (by omega)]
    refine congrArg (fun z => modulated ((layer x sh sc g wg wu cw cb wd lg lb b).x z) _ _ n) (Fin.ext ?_)
    show p.val - 1 = p.val + 15 - 16
    omega
  · rw [dif_neg h]
    refine (Finset.sum_eq_zero fun k _ => ?_).symm
    beta_reduce
    rw [dif_neg (by omega), zero_mul]

theorem own_row (b : Fin 4) (j : Fin 4096) :
    (fun k => val_main_v35 (F := Ideal) x sh sc (ix3 b j k)) = (layer x sh sc g wg wu cw cb wd lg lb b).hid (j.val + 16) := by
  funext n
  rw [v35_at]
  unfold Layer.hid
  rw [dif_pos (by omega)]
  rfl

theorem term_at (b : Fin 4) (j : Fin 4096) (n : Fin 2048) (q : Fin 5632) :
    (val_main_v63 (F := Ideal) x sh sc wg wu cw cb (ix3 b j q) * wd (ix3 1 q n) : EReal)
      = (layer x sh sc g wg wu cw cb wd lg lb b).term j n q := by
  rw [v63_at, v60_at, gated_at x sh sc g wg wu cw cb wd lg lb, gated_at x sh sc g wg wu cw cb wd lg lb, gated_at x sh sc g wg wu cw cb wd lg lb,
    own_row x sh sc g wg wu cw cb wd lg lb]
  unfold Layer.term Layer.hidden
  rw [show 1 + j.val + 15 = j.val + 16 by omega, show 2 + j.val + 15 = j.val + 17 by omega]
  rfl

/-- The reference's result is the block's output. -/
theorem result_at (b : Fin 4) (j : Fin 4096) (n : Fin 2048) :
    val_main_v95 (F := Ideal) x sh sc g wg wu cw cb wd lg lb (ix3 b j n) = (layer x sh sc g wg wu cw cb wd lg lb b).out j n := by
  rw [v95_at]
  unfold Layer.out
  refine congrArg (fun r => norm r n * lg (ix2 1 n) + lb (ix2 1 n)) (funext fun k => ?_)
  rw [v67_at]
  exact congrArg (fun z => alpha * x (ix3 b j k) + g (ix3 b 0 k) * z)
    (Finset.sum_congr rfl fun q _ => term_at x sh sc g wg wu cw cb wd lg lb b j k q)

end Cert.FfnRef

end
-- ==== Proof.FfnLaunch.lean ====
/-
  The convolutional feed-forward kernel's run: the host operations, the pipeline, and what memory holds at the end.
-/
module

public import proofs.«01_k».proof.Proof.FfnState
public import Idealize.ShloMosaic.Lib.Pipeline.Regions

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The share of `x` the body's transfers read from -/

/-- The proof data with the whole of each window's share: what the launch deals. -/
def sdats (p : Fin 1) (c : Dev nD) : Dat τ (Elt F) Unit ℕ (Pipeline.UD sig nD τ) ℕ cfg0 c where
  A w := V m c (Pipeline.arrRef spec0 w)
  after := (dats m p c).after
  Φ := (dats m p c).Φ
  q w := Pipeline.shareOf spec0 w
  owed _ := 0

/-- The windows' arrays one by one, at given contents. -/
theorem arrays_list {c : Dev nD} (dat : Dat τ (Elt F) Unit ℕ (Pipeline.UD sig nD τ) ℕ cfg0 c)
    (A : (w : Fin cfg0.W) → Buf (Elt F) ((cfg0.win w).arr.view.loc (c : Thread nD τ))) :
    dat.arrays A = iprop(((cfg0.win 0).arr.view.loc (c : Thread nD τ) ↦{dat.share 0} A 0) ∗ ((cfg0.win 1).arr.view.loc (c : Thread nD τ) ↦{dat.share 1} A 1) ∗ ((cfg0.win 2).arr.view.loc (c : Thread nD τ) ↦{dat.share 2} A 2) ∗ ((cfg0.win 3).arr.view.loc (c : Thread nD τ) ↦{dat.share 3} A 3) ∗ ((cfg0.win 4).arr.view.loc (c : Thread nD τ) ↦{dat.share 4} A 4) ∗ ((cfg0.win 5).arr.view.loc (c : Thread nD τ) ↦{dat.share 5} A 5) ∗ ((cfg0.win 6).arr.view.loc (c : Thread nD τ) ↦{dat.share 6} A 6) ∗ ((cfg0.win 7).arr.view.loc (c : Thread nD τ) ↦{dat.share 7} A 7) ∗ ((cfg0.win 8).arr.view.loc (c : Thread nD τ) ↦{dat.share 8} A 8) ∗ ((cfg0.win 9).arr.view.loc (c : Thread nD τ) ↦{dat.share 9} A 9) ∗ ((cfg0.win 10).arr.view.loc (c : Thread nD τ) ↦{dat.share 10} A 10) ∗ ((cfg0.win 11).arr.view.loc (c : Thread nD τ) ↦{dat.share 11} A 11) ∗ ((cfg0.win 12).arr.view.loc (c : Thread nD τ) ↦{dat.share 12} A 12)) := by
  have h : (fun w : Fin cfg0.W => ((cfg0.win w).arr.view.loc (c : Thread nD τ) ↦[(cfg0.win w).arr.view.set]{dat.share w} A w : sProp 𝕄))
      = fun w => ((cfg0.win w).arr.view.loc (c : Thread nD τ) ↦{dat.share w} A w) :=
    funext fun w => by rw [show (cfg0.win w).arr.view.set = Finset.univ from (arr_whole0 w).set_eq_univ]
  unfold Dat.arrays
  rw [h, bigSep_W0]

theorem share_zero (c : Dev nD) : (sdats m 0 c).share 0 = Pipeline.shareOf spec0 0 ∧ (dats m 0 c).share 0 = (Pipeline.shareOf spec0 0).left :=
  ⟨rfl, rfl⟩

theorem share_other (c : Dev nD) (w : Fin cfg0.W) (hw : w ≠ 0) : (sdats m 0 c).share w = (dats m 0 c).share w := by
  unfold Dat.share
  dsimp only [dats, sdats]
  rw [if_neg hw]

theorem arrays_lend (c : Dev nD) (A : (w : Fin cfg0.W) → Buf (Elt F) ((cfg0.win w).arr.view.loc (c : Thread nD τ))) :
    (sdats m 0 c).arrays A ⊢ iprop((dats m 0 c).arrays A ∗ srcPt c qx (A 0)) := by
  rw [arrays_list, arrays_list, (share_zero m c).1, (share_zero m c).2, share_other m c 1 (by decide), share_other m c 2 (by decide), share_other m c 3 (by decide), share_other m c 4 (by decide), share_other m c 5 (by decide), share_other m c 6 (by decide), share_other m c 7 (by decide), share_other m c 8 (by decide), share_other m c 9 (by decide), share_other m c 10 (by decide), share_other m c 11 (by decide), share_other m c 12 (by decide)]
  iintro ⟨H0, H1, H2, H3, H4, H5, H6, H7, H8, H9, H10, H11, H12⟩
  ihave H := (pointsTo_share (PosShare.mem_left_op_right (Pipeline.shareOf spec0 0))).1 $$ H0
  icases H with ⟨H0, Hq⟩
  isplitr [Hq]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hq

/-! ## The segments -/

/-- The kernel's own semaphore. -/
abbrev osem0 : Fin 1 → SemLoc sig := ![SemLoc.dma 24]
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 24) 0 := by
  rw [Pipeline.ownSems0_eq_of_list c osem0 [0] (by decide) (by decide)]; rfl

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) 𝕄 := embL
def u₀ : Pipeline.UD sig nD τ := (initOf (Pipeline.cells cfgs cellOf_inj) (Pipeline.launchToks cfgs cellOf_inj), 1)

/-- Core `c`'s buffers at launch. -/
abbrev V₀ (c : Dev nD) : Valuation τ sig (Elt F) := fun b => m (c, b)

/-- What rides beside the buffers. -/
abbrev R (c : Dev nD) : sProp 𝕄 := iprop((∃ r, prngReg c r) ∗ ∃ W, owes (c : Thread nD τ) (0 : CellTallies nD τ sig Unit) W)

/-- The host operations. -/
def seg0 : Pipeline.HostSeg (Name := ℕ) (U := Pipeline.UD sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (List.forall_iff_forall_mem.mp hostOps0_fresh) (V₀ m) R

/-- What the region leaves. -/
abbrev Tₙ (c : Dev nD) : sProp 𝕄 :=
  iprop((dats m 0 c).arrays ((dats m 0 c).arrAt · cfg0.N) ∗ srcPt c qx (xArr m c) ∗ Pipeline.unscopedRest spec0 c (V m c))

theorem region_in (c : Dev nD) (P : sProp 𝕄) :
    iprop((srcPt c qx (xArr m c) ∗ (∃ r, prngReg c r) ∗ semVal ((c : Thread nD τ), SemLoc.dma 24) 0) ∗ P ∗ Pipeline.scopedRest spec0 c) ⊢ Phi m c 0 := by
  unfold Phi rowsAt
  rw [show air m c 0 = grounded m c from if_neg (by decide), if_pos rfl, scopedRest0_eq c]
  unfold grounded
  simp only [owns_whole]
  iintro ⟨⟨Hs, Hg, Hos⟩, -, ⟨%f0, Hf0⟩, ⟨%f1, Hf1⟩⟩
  isplitl [Hf0]
  · iexists f0; iexact Hf0
  isplitr [Hg]
  · isplitl [Hf1]
    · iexists f1; iexact Hf1
    isplitl [Hs]; · iexact Hs
    iexact Hos
  iexact Hg

theorem region_out (c : Dev nD) :
    Phi m c 176 ⊢ iprop(srcPt c qx (xArr m c) ∗ semVal ((c : Thread nD τ), SemLoc.dma 24) 0 ∗ Pipeline.scopedRest spec0 c) := by
  unfold Phi
  rw [show air m c 176 = grounded m c from if_neg (by decide), scopedRest0_eq c]
  unfold grounded
  refine (sep_mono (rowsAt_any m c 176) .rfl).trans ?_
  simp only [owns_whole]
  iintro ⟨⟨%fh, Hr⟩, ⟨⟨%fx, Hx⟩, Hs, Hos⟩, -⟩
  isplitl [Hs]; · iexact Hs
  isplitl [Hos]; · iexact Hos
  isplitl [Hr]; · iexists fh; iexact Hr
  iexists fx; iexact Hx

set_option maxHeartbeats 1600000 in
set_option backward.isDefEq.respectTransparency.types false in
/-- The region. -/
def reg0 : Pipeline.RegionSeg (pcfgs (F := F)) adm (dats m) () defs₀ Variants.none L lv 0 where
  win := launch₀0.win
  block_pos := launch₀0.block_pos
  stage_whole := launch₀0.stage_whole
  K := Fin 1
  osem := osem0
  ho := ownSemFacts0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(Tₙ m c ∗ ∃ W, owes (c : Thread nD τ) (0 : CellTallies nD τ sig Unit) W)
  X c := iprop(srcPt c qx (xArr m c) ∗ (∃ r, prngReg c r) ∗ semVal ((c : Thread nD τ), SemLoc.dma 24) 0)
  Y c := srcPt c qx (xArr m c)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      ownSems0_eq]
    have hsplit := Pipeline.arrays_of_unscopedBufs_shared (pcfgs (F := F)) adm (sdats m) (p := 0) launch₀0.win launch₀0.sharedIn launch₀0.arr_whole c
      (fun _ _ => rfl) (V m c) (fun _ => rfl)
    iintro ⟨⟨Hub, Hg, HO⟩, Hos, -⟩
    ihave H := hsplit $$ Hub
    icases H with ⟨Ha, Hz⟩
    ihave H := (arrays_lend m c _) $$ Ha
    icases H with ⟨Ha, Hs⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hs Hg Hos]
    · isplitl [Hs]; · iexact Hs
      isplitl [Hg]; · iexact Hg
      iexact Hos
    iexact Hz
  hin c := region_in m c _
  hout c := by
    rw [ownSems0_eq]
    exact region_out m c
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

abbrev segs : List (Pipeline.Seg (pcfgs (F := F)) adm (dats m) () defs₀ Variants.none L lv) := [.host (seg0 m), .region (reg0 m)]

/-! ## The run -/

/-- What memory holds at the end: the result as the pipeline leaves it, the arguments as the region found them. -/
def Final (c : Dev nD) (s : MemSt nD τ sig (Elt F)) : Prop :=
  (s.mem ((cfg0.win 12).arr.view.loc (c : Thread nD τ)) = (dats m 0 c).arrAt 12 cfg0.N)
  ∧ s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg3) = V m c main_arg3 ∧ s.mem ((c : Thread nD τ).loc main_arg4) = V m c main_arg4 ∧ s.mem ((c : Thread nD τ).loc main_arg5) = V m c main_arg5 ∧ s.mem ((c : Thread nD τ).loc main_arg6) = V m c main_arg6 ∧ s.mem ((c : Thread nD τ).loc main_arg7) = V m c main_arg7 ∧ s.mem ((c : Thread nD τ).loc main_arg8) = V m c main_arg8 ∧ s.mem ((c : Thread nD τ).loc main_arg9) = V m c main_arg9 ∧ s.mem ((c : Thread nD τ).loc main_arg10) = V m c main_arg10

set_option maxHeartbeats 1600000 in
theorem final_read (c : Dev nD) (s' : Phys nD τ sig (Elt F)) :
    iprop(Tₙ m c ∗ SI s') ⊢ |={Set.univ}=> iprop(⌜Final m c s'.mem⌝ ∗ SI s') := by
  unfold Tₙ
  rw [arrays_list, unscopedRest0_eq]
  iintro ⟨⟨⟨-, -, H2, H3, H4, -, -, H7, -, -, -, -, H12⟩, Hs, Ha4, Ha5, Ha7, Ha8, Ha9, Ha10⟩, HSI⟩
  icombine HSI H12 gives %e12
  icombine HSI Hs gives %e0
  icombine HSI H2 gives %e1
  icombine HSI H3 gives %e2
  icombine HSI H4 gives %e3
  icombine HSI Ha4 gives %e4
  icombine HSI Ha5 gives %e5
  icombine HSI H7 gives %e6
  icombine HSI Ha7 gives %e7
  icombine HSI Ha8 gives %e8
  icombine HSI Ha9 gives %e9
  icombine HSI Ha10 gives %e10
  imodintro
  isplitr
  · ipureintro
    exact ⟨Buf.eq_of_forall_mem_univ e12, Buf.eq_of_forall_mem_univ e0,
      (Buf.eq_of_forall_mem_univ e1).trans (((dats m 0 c).arrAt_in 2 rfl _).trans (A_eq m c 2)),
      (Buf.eq_of_forall_mem_univ e2).trans (((dats m 0 c).arrAt_in 3 rfl _).trans (A_eq m c 3)),
      (Buf.eq_of_forall_mem_univ e3).trans (((dats m 0 c).arrAt_in 4 rfl _).trans (A_eq m c 4)),
      Buf.eq_of_forall_mem_univ e4, Buf.eq_of_forall_mem_univ e5,
      (Buf.eq_of_forall_mem_univ e6).trans (((dats m 0 c).arrAt_in 7 rfl _).trans (A_eq m c 7)),
      Buf.eq_of_forall_mem_univ e7, Buf.eq_of_forall_mem_univ e8, Buf.eq_of_forall_mem_univ e9, Buf.eq_of_forall_mem_univ e10⟩
  iexact HSI

/-- The arguments are as the run found them. -/
theorem kept (c : Dev nD) {s : MemSt nD τ sig (Elt F)} (h : Final m c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10) := by
  obtain ⟨-, e0, e1, e2, e3, e4, e5, e6, e7, e8, e9, e10⟩ := h
  exact ⟨e0.trans (V_main_arg0 m c), e1.trans (V_main_arg1 m c), e2.trans (V_main_arg2 m c), e3.trans (V_main_arg3 m c), e4.trans (V_main_arg4 m c), e5.trans (V_main_arg5 m c), e6.trans (V_main_arg6 m c), e7.trans (V_main_arg7 m c), e8.trans (V_main_arg8 m c), e9.trans (V_main_arg9 m c), e10.trans (V_main_arg10 m c)⟩

set_option backward.isDefEq.respectTransparency.types false in
theorem run_main : θ_run defs (onTc (τ := τ) (main (F := F))) ⟨m, fun _ => 0, ρ⟩ (fun r => (∀ c, Final m c r.2) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hg, -⟩, -⟩
      imodintro
      isplitl [Hh]; · iexact Hh
      isplitl [Hg]; · iexists _; iexact Hg
      iexists ∅; iexact HO)
    (QY := fun c s => Final m c s)
    (hfin := fun c s' => final_read m c s')
    (hQ := fun _ h hz => ⟨h, funext fun g => hz g (.inr (by revert g; decide))⟩)

/-- THE FRAME, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => kept m c (h.1 c), h.2⟩) (run_main m ρ)

/-- The run's result array and the arguments. -/
theorem run_blocks : θ_run defs (onTc (τ := τ) (main (F := F))) ⟨m, fun _ => 0, ρ⟩ fun r => ∀ c : Dev nD,
    r.2.mem ((c : Thread nD τ).loc main_v6) = (dats m 0 c).arrAt 12 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10) :=
  (θ_run defs _ _).mono (fun r h c => ⟨(h.1 c).1, kept m c (h.1 c)⟩) (run_main m ρ)

end Cert.FfnIdeal.Hand

end
-- ==== Proof.FfnAlgebraic.lean ====
/-
  The claim that the idealized feed-forward kernel and its reference leave the same array.
-/
module

public import proofs.«01_k».proof.Defs
public import proofs.«01_k».proof.Proof.FfnFinal
public import proofs.«01_k».proof.Proof.FfnRef
public import proofs.«01_k».proof.Proof.FfnLaunch
public import proofs.«01_k».proof.Proof.Finite
public import Idealize.ShloMosaic.Lib.Claim

@[expose] public section

set_option maxRecDepth 16384

noncomputable section

namespace Cert.FfnAlgebraic

open Idealize.ShloMosaic Idealize.ShloMosaic.TcCoe Idealize.SL.Sem
open Cert.FfnMath Cert.FfnTarget

/-- What the precondition says of an array: every element is a real number. -/
theorem isReal {s : Shape} (x c : FVec Ideal s .f32) (hc : ∀ i, c i = Ideal.ofBits .f32 0x7F800000#32)
    (h : ∀ i, cmpf .olt (Host.absf x) c i = 1#1) (i : s.Idx) : IsReal (x i) := ⟨_, Cert.Finite.real_of_abs x c hc h i⟩

open Cert.Pre_finite_ffn in
/-- Under the precondition every layer read from the arrays is real. -/
theorem real {x : FVec Ideal S4x4096x2048 .f32} {sh sc g : FVec Ideal S4x1x2048 .f32} {wg wu : FVec Ideal S2x2048x5632 .f32}
    {cw : FVec Ideal S2x3x5632 .f32} {cb : FVec Ideal S2x5632 .f32} {wd : FVec Ideal S2x5632x2048 .f32} {lg lb : FVec Ideal S2x2048 .f32}
    (h : fn (F := Ideal) x sh sc g wg wu cw cb wd lg lb = fun _ => 1#1) (b : Fin 4) : (layer x sh sc g wg wu cw cb wd lg lb b).Real := by
  have h8 := congrFun h (fun a => a.elim0)
  dsimp only [fn, fn_part1, fn_part2] at h8
  obtain ⟨h7, hwd⟩ := Cert.Finite.andi_one h8
  obtain ⟨h6, hcb⟩ := Cert.Finite.andi_one h7
  obtain ⟨h5, hcw⟩ := Cert.Finite.andi_one h6
  obtain ⟨h4, hwu⟩ := Cert.Finite.andi_one h5
  obtain ⟨h3, hwg⟩ := Cert.Finite.andi_one h4
  obtain ⟨h2, hg⟩ := Cert.Finite.andi_one h3
  obtain ⟨h1, hsc⟩ := Cert.Finite.andi_one h2
  obtain ⟨hx, hsh⟩ := Cert.Finite.andi_one h1
  constructor
  · exact fun j k => isReal x _ (fun _ => rfl) (fun i => Host.reduce_andi_all _ _ _ _ _ hx i) _
  · exact fun k => isReal sh _ (fun _ => rfl) (fun i => Host.reduce_andi_all _ _ _ _ _ hsh i) _
  · exact fun k => isReal sc _ (fun _ => rfl) (fun i => Host.reduce_andi_all _ _ _ _ _ hsc i) _
  · exact fun k => isReal g _ (fun _ => rfl) (fun i => Host.reduce_andi_all _ _ _ _ _ hg i) _
  · exact fun k q => isReal wg _ (fun _ => rfl) (fun i => Host.reduce_andi_all _ _ _ _ _ hwg i) _
  · exact fun k q => isReal wu _ (fun _ => rfl) (fun i => Host.reduce_andi_all _ _ _ _ _ hwu i) _
  · exact fun j q => isReal cw _ (fun _ => rfl) (fun i => Host.reduce_andi_all _ _ _ _ _ hcw i) _
  · exact fun q => isReal cb _ (fun _ => rfl) (fun i => Host.reduce_andi_all _ _ _ _ _ hcb i) _
  · exact fun q n => isReal wd _ (fun _ => rfl) (fun i => Host.reduce_andi_all _ _ _ _ _ hwd i) _

open Cert.FfnReferenceIdeal in
/-- The reference's run, its result named one operation at a time. -/
theorem run_val (m : (ℓ : Loc nD τ sig) → Buf (Elt Ideal) ℓ) (ρ : Dev nD → PrngReg) :
    θ_run defs (onTc (τ := τ) (main (F := Ideal))) ⟨m, fun _ => 0, ρ⟩
      fun r => ∀ c : Dev nD, r.2.mem ((c.tc : Thread nD τ).loc main_v95)
          = Read.val_main_v95 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) :=
  (θ_run _ _ _).mono (fun r h c => (h c).1.trans (Read.val_main_v95_eq _)) (Value.run m ρ)

theorem ffn : Cert.algebraic_FfnIdeal_FfnReferenceIdeal_pre_finite_ffn (hFfnIdeal := Cert.FfnIdeal.Gen.facts)
    (hFfnReferenceIdeal := Cert.FfnReferenceIdeal.Gen.facts) (hPre_finite_ffn := Cert.Pre_finite_ffn.Gen.facts) := by
  pair_intro
  · run_from Cert.FfnIdeal.Hand.run_blocks m g
  · run_from run_val m' g' & Cert.FfnReferenceIdeal.Value.run m' g'
    refine Eq.trans ?_ (Cert.FfnFinal.final m c fun b => real (hpre c) b).symm
    funext i
    obtain ⟨b, j, n, rfl⟩ : ∃ (b : Fin 4) (j : Fin 4096) (n : Fin 2048), i = ix3 b j n := ⟨i 0, i 1, i 2, by blk_ext []⟩
    exact Cert.FfnRef.result_at _ _ _ _ _ _ _ _ _ _ _ b j n

end Cert.FfnAlgebraic
-- ==== Proof.FfnFrame.lean ====
/-
  The feed-forward programs' frames: the kernel and its idealized version have one text, so one run is both's; the
  reference has no semaphore, so its run is its frame.
-/
module

public import proofs.«01_k».proof.Proof.FfnLaunch
public import proofs.«01_k».proof.Proof.FfnBody
public import Idealize.ShloMosaic.Lib.Quiescent

@[expose] public section

set_option maxRecDepth 16384

noncomputable section

namespace Cert.FfnFrame

open Idealize.ShloMosaic Idealize.ShloMosaic.TcCoe Idealize.SL Idealize.SL.Sem

/-- The frame of the shared text, over the stored values. -/
def FrameBits : Prop :=
  ∀ (m : (ℓ : Loc Cert.FfnIdeal.nD Cert.FfnIdeal.τ Cert.FfnIdeal.sig) → Buf (Elt Bits) ℓ) (g : Dev Cert.FfnIdeal.nD → PrngReg), True →
    θ_run (Cert.FfnIdeal.defs (F := Bits)) (onTc (τ := Cert.FfnIdeal.τ) (Cert.FfnIdeal.main (F := Bits))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

/-- The kernel's frame claim is that statement. -/
theorem same : Cert.quiescent_Ffn = FrameBits := by sl_kernel_rfl

/-- The kernel's frame. -/
theorem kernel : Cert.quiescent_Ffn := same.mpr fun m g _ => Cert.FfnIdeal.Hand.frame (F := Bits) m g

open Cert.FfnReferenceIdeal in
/-- The reference's frame: its run leaves the arguments, and its program has no semaphore. -/
theorem reference (m : (ℓ : Loc nD τ sig) → Buf (Elt Ideal) ℓ) (g : Dev nD → PrngReg) :
    θ_run defs (onTc (τ := τ) (main (F := Ideal))) ⟨m, fun _ => 0, g⟩
      fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10))
        ∧ r.2.sem = fun _ => 0 :=
  (θ_run _ _ _).mono (fun r h => ⟨fun c => (h c).2, sem_eq_zero_of_no_sems rfl r.2⟩) (Cert.FfnReferenceIdeal.Value.run m g)

end Cert.FfnFrame

end
-- ==== Proof.OutTarget.lean ====
/-
  What the output projection computes: the four groups' rows times the weights, the gated residual and its layer norm.
-/
module

public import proofs.«01_k».proof.Proof.FfnMath
public import Idealize.ShloMosaic.Lib.Pointwise

@[expose] public section

set_option maxRecDepth 16384

noncomputable section

namespace Cert.OutTarget

open Idealize.ShloMosaic Cert.FfnMath

/-- The product of four row pieces of 512 with one column of weights, piece after piece. -/
def mixed (a b c d : Fin 512 → EReal) (w : Fin 2048 → EReal) : EReal :=
  (∑ k : Fin 512, a k * w ⟨k.val, by omega⟩) + (∑ k : Fin 512, b k * w ⟨512 + k.val, by omega⟩)
    + (∑ k : Fin 512, c k * w ⟨1024 + k.val, by omega⟩) + ∑ k : Fin 512, d k * w ⟨1536 + k.val, by omega⟩

/-- One output row: the residual under the gate, normed, scaled and shifted. -/
def resid (a b c d : Fin 512 → EReal) (w : Fin 2048 → Fin 2048 → EReal) (x g : Fin 2048 → EReal) (n : Fin 2048) : EReal :=
  alpha * x n + g n * mixed a b c d fun k => w k n
def row (a b c d : Fin 512 → EReal) (w : Fin 2048 → Fin 2048 → EReal) (x g lg lb : Fin 2048 → EReal) (n : Fin 2048) : EReal :=
  norm (resid a b c d w x g) n * lg n + lb n

/-- The pieces one after another make the whole row: sums in the extended reals may be regrouped. -/
theorem mixed_eq (a b c d : Fin 512 → EReal) (w f : Fin 2048 → EReal)
    (ha : ∀ k : Fin 512, f ⟨k.val, by omega⟩ = a k) (hb : ∀ k : Fin 512, f ⟨512 + k.val, by omega⟩ = b k)
    (hc : ∀ k : Fin 512, f ⟨1024 + k.val, by omega⟩ = c k) (hd : ∀ k : Fin 512, f ⟨1536 + k.val, by omega⟩ = d k) :
    ∑ k, f k * w k = mixed a b c d w := by
  rw [Fin.sum_univ_tiles 4 512 rfl fun k => f k * w k, Fin.sum_univ_four]
  unfold mixed
  simp only [← ha, ← hb, ← hc, ← hd]
  congr 1

end Cert.OutTarget

end
-- ==== Proof.OutRun.lean ====
/-
  The output projection's body at an index, and the result array of its run.
-/
module

public import proofs.«01_k».proof.Proof.Gen.OutIdeal.Value
public import Idealize.ShloMosaic.Lib.Pipeline.ValueKit
public import proofs.«01_k».proof.Proof.OutTarget

@[expose] public section

set_option maxRecDepth 16384

noncomputable section

namespace Cert.OutRun

open Idealize.ShloMosaic Idealize.ShloMosaic.TcCoe Idealize.SL.Sem
open Cert.OutIdeal Cert.OutIdeal.Gen Cert.FfnMath Cert.OutTarget

section body

variable (x0 x1 x2 x3 : Vec Ideal S1x512x512 .bf16) (x4 : Vec Ideal S1x2048x2048 .bf16) (x5 : Vec Ideal S1x512x2048 .f32)
  (x6 x7 x8 : Vec Ideal S1x1x2048 .f32)

/-- Row `r` of the output block. -/
def blockRow (r : Fin 512) (n : Fin 2048) : EReal :=
  row (fun k => x0 (ix3 0 r k)) (fun k => x1 (ix3 0 r k)) (fun k => x2 (ix3 0 r k)) (fun k => x3 (ix3 0 r k))
    (fun k n => x4 (ix3 0 k n)) (fun n => x5 (ix3 0 r n)) (fun n => x6 (ix3 0 0 n)) (fun n => x7 (ix3 0 0 n)) (fun n => x8 (ix3 0 0 n)) n

/-- The products of the first 256 rows. -/
theorem first_dot (r : Fin 256) (n : Fin 2048) :
    k0_pay2 (View.ld x0 r0_0) (View.ld x4 r0_1) (View.ld x1 r0_0) (View.ld x4 r0_2) (View.ld x2 r0_0) (View.ld x4 r0_3)
      (View.ld x3 r0_0) (View.ld x4 r0_4) (ix2 r n)
      = mixed (fun k => x0 (ix3 0 ⟨r.val, by omega⟩ k)) (fun k => x1 (ix3 0 ⟨r.val, by omega⟩ k)) (fun k => x2 (ix3 0 ⟨r.val, by omega⟩ k))
        (fun k => x3 (ix3 0 ⟨r.val, by omega⟩ k)) fun k => x4 (ix3 0 k n) := by
  pointwise [k0_pay2]
  rfl

theorem first (r : Fin 256) (n : Fin 2048) :
    k0_pay5 (k0_pay2 (View.ld x0 r0_0) (View.ld x4 r0_1) (View.ld x1 r0_0) (View.ld x4 r0_2) (View.ld x2 r0_0) (View.ld x4 r0_3)
      (View.ld x3 r0_0) (View.ld x4 r0_4)) (k0_pay3 (View.ld x5 r0_5)) (k0_pay4 (F := Ideal)) (View.ld x6 r0_6) (View.ld x7 r0_6) (View.ld x8 r0_6)
      (ix3 0 r n) = blockRow x0 x1 x2 x3 x4 x5 x6 x7 x8 ⟨r.val, by omega⟩ n := by
  pointwise [k0_pay5, k0_pay3, k0_pay4]
  simp only [first_dot]
  rfl

/-- The residual of the last 256 rows. -/
theorem second_resid (r : Fin 256) (n : Fin 2048) :
    k0_pay7 (k0_pay9 x0 x1 x2 x3 x4 x5 x6 x7 x8) (View.ld x4 r0_1) (View.ld x1 r0_7) (View.ld x4 r0_2) (View.ld x2 r0_7) (View.ld x4 r0_3)
      (View.ld x3 r0_7) (View.ld x4 r0_4) (View.ld x5 r0_8) (View.ld x6 r0_6) (ix2 r n)
      = resid (fun k => x0 (ix3 0 ⟨256 + r.val, by omega⟩ k)) (fun k => x1 (ix3 0 ⟨256 + r.val, by omega⟩ k))
        (fun k => x2 (ix3 0 ⟨256 + r.val, by omega⟩ k)) (fun k => x3 (ix3 0 ⟨256 + r.val, by omega⟩ k)) (fun k n => x4 (ix3 0 k n))
        (fun n => x5 (ix3 0 ⟨256 + r.val, by omega⟩ n)) (fun n => x6 (ix3 0 0 n)) n := by
  pointwise [k0_pay7, k0_pay9, k0_pay6]
  rfl

theorem second (r : Fin 256) (n : Fin 2048) :
    k0_pay1 (k0_pay7 (k0_pay9 x0 x1 x2 x3 x4 x5 x6 x7 x8) (View.ld x4 r0_1) (View.ld x1 r0_7) (View.ld x4 r0_2) (View.ld x2 r0_7) (View.ld x4 r0_3)
      (View.ld x3 r0_7) (View.ld x4 r0_4) (View.ld x5 r0_8) (View.ld x6 r0_6))
      (k0_pay8 (k0_pay9 x0 x1 x2 x3 x4 x5 x6 x7 x8) (View.ld x4 r0_1) (View.ld x1 r0_7) (View.ld x4 r0_2) (View.ld x2 r0_7) (View.ld x4 r0_3)
      (View.ld x3 r0_7) (View.ld x4 r0_4) (View.ld x5 r0_8) (View.ld x6 r0_6)) (View.ld x7 r0_6) (View.ld x8 r0_6)
      (ix3 0 r n) = blockRow x0 x1 x2 x3 x4 x5 x6 x7 x8 ⟨256 + r.val, by omega⟩ n := by
  pointwise [k0_pay1, k0_pay8]
  simp only [second_resid]
  rfl

/-- The block the body leaves, at a row and a column. -/
theorem block (y : S1x512x2048.Idx) : out0_9 x0 x1 x2 x3 x4 x5 x6 x7 x8 y = blockRow x0 x1 x2 x3 x4 x5 x6 x7 x8 (y 1) (y 2) := by
  refine View.canon_apply_of_pieces (Val := Elt Ideal) (fun y : S1x512x2048.Idx => blockRow x0 x1 x2 x3 x4 x5 x6 x7 x8 (y 1) (y 2)) _ (fun p hp z => ?_) y (cover0_9 _ _ y)
  simp only [List.mem_cons, List.not_mem_nil, or_false] at hp
  rcases hp with rfl | rfl
  · obtain ⟨r, n, rfl⟩ : ∃ (r : Fin 256) (n : Fin 2048), z = ix3 0 r n := ⟨z 1, z 2, by blk_ext []⟩
    refine (second x0 x1 x2 x3 x4 x5 x6 x7 x8 r n).trans ?_
    exact congrArg₂ (blockRow x0 x1 x2 x3 x4 x5 x6 x7 x8) (Fin.ext (by show 256 + r.val = 256 + 1 * r.val; omega)) (Fin.ext (by show n.val = 0 + 1 * n.val; omega))
  · obtain ⟨r, n, rfl⟩ : ∃ (r : Fin 256) (n : Fin 2048), z = ix3 0 r n := ⟨z 1, z 2, by blk_ext []⟩
    refine (first x0 x1 x2 x3 x4 x5 x6 x7 x8 r n).trans ?_
    exact congrArg₂ (blockRow x0 x1 x2 x3 x4 x5 x6 x7 x8) (Fin.ext (by show r.val = 0 + 1 * r.val; omega)) (Fin.ext (by show n.val = 0 + 1 * n.val; omega))

end body

/-! ## The run's result -/

/-- The output of the last layer's projection, at an index of the argument arrays. -/
def out (oa ob oc od : FVec Ideal S4x4096x512 .f32) (x : FVec Ideal S4x4096x2048 .f32) (g : FVec Ideal S4x1x2048 .f32)
    (w : FVec Ideal S2x2048x2048 .f32) (lg lb : FVec Ideal S2x2048 .f32) (b : Fin 4) (j : Fin 4096) (n : Fin 2048) : EReal :=
  row (fun k => oa (ix3 b j k)) (fun k => ob (ix3 b j k)) (fun k => oc (ix3 b j k)) (fun k => od (ix3 b j k))
    (fun k n => w (ix3 1 k n)) (fun n => x (ix3 b j n)) (fun n => g (ix3 b 0 n)) (fun n => lg (ix2 1 n)) (fun n => lb (ix2 1 n)) n

variable (m : (ℓ : Loc nD τ sig) → Buf (Elt Ideal) ℓ)

/-- The block each window reads or writes at point `t`. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![1, 0, 0] ∧ win0_5.index t = ![t.val / 8, t.val % 8, 0] ∧ win0_6.index t = ![t.val / 8, 0, 0]
    ∧ win0_7.index t = ![1, 0, 0] ∧ win0_8.index t = ![1, 0, 0] ∧ win0_9.index t = ![t.val / 8, t.val % 8, 0] ∧ t.val < 32 :=
  (by decide +kernel : ∀ t : Fin grid0.N, _)

/-- The batch entry of point `t`, and the row of the sequence that is row `r` of its block. -/
abbrev bat (t : Fin cfg0.N) : Fin 4 := ⟨t.val / 8, by have := (idx t).2.2.2.2.2.2.2.2.2.2; omega⟩
abbrev seq (t : Fin cfg0.N) (r : Fin 512) : Fin 4096 := ⟨512 * (t.val % 8) + r.val, by omega⟩

theorem oa_at (c : Dev nD) (t : Fin cfg0.N) (r k : Fin 512) :
    iblk m c 0 t (ix3 0 r k) = (m ((c : Thread nD τ).loc main_arg0) : Vec Ideal S4x4096x512 .f32) (ix3 (bat t) (seq t r) k) := by
  blk_simp [iblk]
  entry_read
  pointwise
  blk_ext [idx t]

theorem ob_at (c : Dev nD) (t : Fin cfg0.N) (r k : Fin 512) :
    iblk m c 1 t (ix3 0 r k) = (m ((c : Thread nD τ).loc main_arg1) : Vec Ideal S4x4096x512 .f32) (ix3 (bat t) (seq t r) k) := by
  blk_simp [iblk]
  entry_read
  pointwise
  blk_ext [idx t]

theorem oc_at (c : Dev nD) (t : Fin cfg0.N) (r k : Fin 512) :
    iblk m c 2 t (ix3 0 r k) = (m ((c : Thread nD τ).loc main_arg2) : Vec Ideal S4x4096x512 .f32) (ix3 (bat t) (seq t r) k) := by
  blk_simp [iblk]
  entry_read
  pointwise
  blk_ext [idx t]

theorem od_at (c : Dev nD) (t : Fin cfg0.N) (r k : Fin 512) :
    iblk m c 3 t (ix3 0 r k) = (m ((c : Thread nD τ).loc main_arg3) : Vec Ideal S4x4096x512 .f32) (ix3 (bat t) (seq t r) k) := by
  blk_simp [iblk]
  entry_read
  pointwise
  blk_ext [idx t]

theorem w_at (c : Dev nD) (t : Fin cfg0.N) (k n : Fin 2048) :
    iblk m c 4 t (ix3 0 k n) = (m ((c : Thread nD τ).loc main_arg6) : Vec Ideal S2x2048x2048 .f32) (ix3 1 k n) := by
  blk_simp [iblk]
  entry_read
  pointwise
  blk_ext [idx t]

theorem x_at (c : Dev nD) (t : Fin cfg0.N) (r : Fin 512) (n : Fin 2048) :
    iblk m c 5 t (ix3 0 r n) = (m ((c : Thread nD τ).loc main_arg4) : Vec Ideal S4x4096x2048 .f32) (ix3 (bat t) (seq t r) n) := by
  blk_simp [iblk]
  entry_read
  pointwise
  blk_ext [idx t]

theorem gate_at (c : Dev nD) (t : Fin cfg0.N) (n : Fin 2048) :
    iblk m c 6 t (ix3 0 0 n) = (m ((c : Thread nD τ).loc main_arg5) : Vec Ideal S4x1x2048 .f32) (ix3 (bat t) 0 n) := by
  blk_simp [iblk]
  entry_read
  pointwise
  blk_ext [idx t]

theorem lg_at (c : Dev nD) (t : Fin cfg0.N) (n : Fin 2048) :
    iblk m c 7 t (ix3 0 0 n) = (m ((c : Thread nD τ).loc main_arg7) : Vec Ideal S2x2048 .f32) (ix2 1 n) := by
  blk_simp [iblk]
  entry_read
  pointwise
  blk_ext [idx t]

theorem lb_at (c : Dev nD) (t : Fin cfg0.N) (n : Fin 2048) :
    iblk m c 8 t (ix3 0 0 n) = (m ((c : Thread nD τ).loc main_arg8) : Vec Ideal S2x2048 .f32) (ix2 1 n) := by
  blk_simp [iblk]
  entry_read
  pointwise
  blk_ext [idx t]

/-- The result array after the run. -/
theorem final (c : Dev nD) : (dats m 0 c).arrAt 9 cfg0.N = fun i : S4x4096x2048.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) (i 2) := by
  refine (dats m 0 c).arrAt_eq_of_covers 9 _ (by decide +kernel) fun t _ y => ?_
  blk_simp
  rw [after0_9]
  obtain ⟨r, n, rfl⟩ : ∃ (r : Fin 512) (n : Fin 2048), y = ix3 0 r n := ⟨y 1, y 2, by blk_ext []⟩
  have e0 : (win0_9.blk t).view.emb (ix3 0 r n) = ix3 (bat t) (seq t r) n := by
    blk_ext [idx t]
  rw [e0, block]
  show blockRow _ _ _ _ _ _ _ _ _ r n = out _ _ _ _ _ _ _ _ _ (bat t) (seq t r) n
  unfold blockRow
  simp only [oa_at, ob_at, oc_at, od_at, w_at, x_at, gate_at, lg_at, lb_at]
  rfl

end Cert.OutRun

end
-- ==== Proof.OutRef.lean ====
/-
  The output projection's reference at an index: the row the kernel leaves there.
-/
module

public import proofs.«01_k».proof.Proof.Gen.OutReferenceIdeal.Read
public import proofs.«01_k».proof.Proof.OutRun

@[expose] public section

set_option maxRecDepth 16384

noncomputable section

namespace Cert.OutRef

open Idealize.ShloMosaic Idealize.ShloMosaic.TcCoe Idealize.SL.Sem
open Cert.OutReferenceIdeal Cert.OutReferenceIdeal.Gen Cert.OutReferenceIdeal.Read Cert.FfnMath Cert.OutTarget

variable (oa ob oc od : FVec Ideal S4x4096x512 .f32) (x : FVec Ideal S4x4096x2048 .f32) (g : FVec Ideal S4x1x2048 .f32)
  (w : FVec Ideal S2x2048x2048 .f32) (lg lb : FVec Ideal S2x2048 .f32)

/-- The four groups' rows side by side. -/
theorem v0_at (b : Fin 4) (j : Fin 4096) (k : Fin 512) :
    val_main_v0 (F := Ideal) oa ob oc od (ix3 b j ⟨k.val, by omega⟩) = oa (ix3 b j k)
    ∧ val_main_v0 (F := Ideal) oa ob oc od (ix3 b j ⟨512 + k.val, by omega⟩) = ob (ix3 b j k)
    ∧ val_main_v0 (F := Ideal) oa ob oc od (ix3 b j ⟨1024 + k.val, by omega⟩) = oc (ix3 b j k)
    ∧ val_main_v0 (F := Ideal) oa ob oc od (ix3 b j ⟨1536 + k.val, by omega⟩) = od (ix3 b j k) := by
  refine ⟨?_, ?_, ?_, ?_⟩ <;> pointwise [val_main_v0]
  · rw [dif_neg (by omega), dif_neg (by omega), dif_pos (by omega)]
    exact congrArg (fun z => oc (ix3 b j z)) (Fin.ext (by show 1024 + k.val - 512 - 512 = k.val; omega))
  · rw [dif_neg (by omega), dif_neg (by omega), dif_neg (by omega)]
    exact congrArg (fun z => od (ix3 b j z)) (Fin.ext (by show 1536 + k.val - 512 - 512 - 512 = k.val; omega))

theorem v8_at (b : Fin 4) (j : Fin 4096) (n : Fin 2048) :
    val_main_v8 (F := Ideal) oa ob oc od x g w (ix3 b j n)
      = resid (fun k => oa (ix3 b j k)) (fun k => ob (ix3 b j k)) (fun k => oc (ix3 b j k)) (fun k => od (ix3 b j k))
        (fun k n => w (ix3 1 k n)) (fun n => x (ix3 b j n)) (fun n => g (ix3 b 0 n)) n := by
  unfold resid
  rw [← mixed_eq _ _ _ _ (fun k => w (ix3 1 k n)) (fun k => val_main_v0 (F := Ideal) oa ob oc od (ix3 b j k)) (fun k => (v0_at oa ob oc od b j k).1)
    (fun k => (v0_at oa ob oc od b j k).2.1) (fun k => (v0_at oa ob oc od b j k).2.2.1) fun k => (v0_at oa ob oc od b j k).2.2.2]
  pointwise [val_main_cst, val_main_v1, val_main_v2, val_main_v3, val_main_v4, val_main_v5, val_main_v6, val_main_v7, val_main_v8]
  rfl

/-- The reference's result. -/
theorem result_at (b : Fin 4) (j : Fin 4096) (n : Fin 2048) :
    val_main_v36 (F := Ideal) oa ob oc od x g w lg lb (ix3 b j n) = Cert.OutRun.out oa ob oc od x g w lg lb b j n := by
  pointwise [val_main_v9, val_main_v10, val_main_v11, val_main_v12, val_main_cst_0, val_main_v13, val_main_v14, val_main_cst_1, val_main_v15, val_main_v16, val_main_v17, val_main_v18, val_main_v19, val_main_cst_2, val_main_v20, val_main_v21, val_main_cst_3, val_main_v22, val_main_v23, val_main_v24, val_main_v25, val_main_cst_4, val_main_v26, val_main_v27, val_main_v28, val_main_v29, val_main_v30, val_main_v31, val_main_v32, val_main_v33, val_main_v34, val_main_v35, val_main_v36]
  simp only [v8_at]
  rfl

end Cert.OutRef

end
-- ==== Proof.OutAlgebraic.lean ====
/-
  The claims on the output projection: the reference's frame, and that kernel and reference leave the same array.
-/
module

public import proofs.«01_k».proof.Defs
public import proofs.«01_k».proof.Proof.Gen.OutReferenceIdeal.Run
public import proofs.«01_k».proof.Proof.OutRef
public import Idealize.ShloMosaic.Lib.Claim

@[expose] public section

set_option maxRecDepth 16384

noncomputable section

namespace Cert.OutAlgebraic

open Idealize.ShloMosaic Idealize.ShloMosaic.TcCoe Idealize.SL.Sem

open Cert.OutReferenceIdeal in
/-- The reference's frame: its run leaves the arguments, and its program has no semaphore. -/
theorem reference (m : (ℓ : Loc nD τ sig) → Buf (Elt Ideal) ℓ) (g : Dev nD → PrngReg) :
    θ_run defs (onTc (τ := τ) (main (F := Ideal))) ⟨m, fun _ => 0, g⟩
      fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8))
        ∧ r.2.sem = fun _ => 0 :=
  (θ_run _ _ _).mono (fun r h => ⟨fun c => (h c).2, sem_eq_zero_of_no_sems rfl r.2⟩) (Cert.OutReferenceIdeal.Value.run m g)

open Cert.OutReferenceIdeal in
/-- The reference's run, its result named one operation at a time. -/
theorem run_val (m : (ℓ : Loc nD τ sig) → Buf (Elt Ideal) ℓ) (ρ : Dev nD → PrngReg) :
    θ_run defs (onTc (τ := τ) (main (F := Ideal))) ⟨m, fun _ => 0, ρ⟩
      fun r => ∀ c : Dev nD, r.2.mem ((c.tc : Thread nD τ).loc main_v36)
          = Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (θ_run _ _ _).mono (fun r h c => (h c).1.trans (Read.val_main_v36_eq _ _)) (Value.run m ρ)

theorem out : Cert.algebraic_OutIdeal_OutReferenceIdeal (hOutIdeal := Cert.OutIdeal.Gen.facts)
    (hOutReferenceIdeal := Cert.OutReferenceIdeal.Gen.facts) := by
  pair_intro
  · run_from Cert.OutIdeal.Value.run_blocks m g
  · run_from run_val m' g' & Cert.OutReferenceIdeal.Value.run m' g'
    refine Eq.trans ?_ (Cert.OutRun.final m c).symm
    funext i
    obtain ⟨b, j, n, rfl⟩ : ∃ (b : Fin 4) (j : Fin 4096) (n : Fin 2048), i = ix3 b j n := ⟨i 0, i 1, i 2, by blk_ext []⟩
    exact Cert.OutRef.result_at _ _ _ _ _ _ _ _ _ b j n

end Cert.OutAlgebraic

end
-- ==== Proof.MlaBody.lean ====
/- What the latent attention body leaves in its output block, read at one query and one value column. -/
module

public import proofs.«01_k».proof.Proof.Gen.MlaIdeal.Frame
public import Idealize.ShloMosaic.Lib.Pipeline.ValueKit
public import proofs.«01_k».proof.Proof.Chunks

@[expose] public section

set_option maxRecDepth 16384

noncomputable section

namespace Cert.MlaAttn

open Idealize.ShloMosaic Idealize.ShloMosaic.TcCoe Idealize.SL.Sem
open Cert.MlaIdeal Cert.MlaIdeal.Gen Cert.Flash Cert.Chunks

/-- The factor the body multiplies the queries with. -/
def kap : EReal := (Named.named κ "scale_mla_log2e" 0x3DD53B95#32 : Ideal .f32)

/-- The scores of the latent's chunk `k`. -/
def score (x0 : Vec Ideal S1x256x1024 .f32) (x1 : Vec Ideal S1x4096x256 .bf16) : ℕ → FVec Ideal S512x1024 .f32
  | 0 => k0_pay4 (View.ld x0 r0_0) (View.ld x1 r0_1)
  | 1 => k0_pay5 (View.ld x0 r0_0) (View.ld x1 r0_2)
  | 2 => k0_pay8 (View.ld x0 r0_0) (View.ld x1 r0_4)
  | 3 => k0_pay10 (k0_pay2 (View.ld x0 r0_0)) (View.ld x1 r0_6)
  | 4 => k0_pay13 (k0_pay2 (View.ld x0 r0_0)) (View.ld x1 r0_8)
  | 5 => k0_pay15 (k0_pay2 (View.ld x0 r0_0)) (View.ld x1 r0_10)
  | 6 => k0_pay18 (k0_pay2 (View.ld x0 r0_0)) (View.ld x1 r0_12)
  | _ => k0_pay20 (k0_pay2 (View.ld x0 r0_0)) (View.ld x1 r0_14)

/-- The values of the latent's chunk `k`. -/
def vals (x2 : Vec Ideal S1x128x4096 .bf16) : ℕ → Vec Ideal S1x128x512 .bf16
  | 0 => View.ld x2 r0_3
  | 1 => View.ld x2 r0_5
  | 2 => View.ld x2 r0_7
  | 3 => View.ld x2 r0_9
  | 4 => View.ld x2 r0_11
  | 5 => View.ld x2 r0_13
  | 6 => View.ld x2 r0_15
  | _ => View.ld x2 r0_17

theorem out_eq (x0 : Vec Ideal S1x256x1024 .f32) (x1 : Vec Ideal S1x4096x256 .bf16) (x2 : Vec Ideal S1x128x4096 .bf16)
    (x3 : Vec Ideal S1x256x256 .bf16) (x4 : Vec Ideal S1x128x256 .bf16) :
    out0_5 x0 x1 x2 x3 x4 = attn (score x0 x1) (vals x2) (k0_pay23 (k0_pay2 (View.ld x0 r0_0)) (View.ld x3 r0_16))
      (View.ld x4 r0_18) := by
  unfold out0_5
  rw [View.canon_unit_zero (by decide)]
  rfl

theorem score_at (x0 : Vec Ideal S1x256x1024 .f32) (x1 : Vec Ideal S1x4096x256 .bf16) (k : ℕ) (hk : k < 8) (j : Fin 512)
    (i : Fin 1024) : score x0 x1 k (ix2 j i) = ∑ x : Fin 256, (x1 (ix3 0 ⟨512 * k + j.val, by omega⟩ x) : EReal)
      * ((x0 (ix3 0 x i) : EReal) * kap) := by
  interval_cases k <;>
    pointwise [score, k0_pay4, k0_pay5, k0_pay8, k0_pay10, k0_pay13, k0_pay15, k0_pay18, k0_pay20, k0_pay2, kap]

theorem scoreCtx_at (x0 : Vec Ideal S1x256x1024 .f32) (x3 : Vec Ideal S1x256x256 .bf16) (j : Fin 256)
    (i : Fin 1024) : k0_pay23 (k0_pay2 (View.ld x0 r0_0)) (View.ld x3 r0_16) (ix2 j i)
      = ∑ x : Fin 256, (x3 (ix3 0 j x) : EReal) * ((x0 (ix3 0 x i) : EReal) * kap) := by
  pointwise [k0_pay23, k0_pay2, kap]

theorem vals_at (x2 : Vec Ideal S1x128x4096 .bf16) (k : ℕ) (hk : k < 8) (d : Fin 128) (j : Fin 512) :
    vals x2 k (ix3 0 d j) = x2 (ix3 0 d ⟨512 * k + j.val, by omega⟩) := by
  interval_cases k <;> pointwise [vals]

/-- The block the body leaves, at a query and a value column: the average of the values under the weights `2 ^ score`. -/
theorem out_at (x0 : Vec Ideal S1x256x1024 .f32) (x1 : Vec Ideal S1x4096x256 .bf16) (x2 : Vec Ideal S1x128x4096 .bf16)
    (x3 : Vec Ideal S1x256x256 .bf16) (x4 : Vec Ideal S1x128x256 .bf16) (i : Fin 1024) (d : Fin 128) (s : ℕ → ℝ)
    (v : ℕ → EReal)
    (hS : ∀ n (h : n < 4096), ∑ x : Fin 256, (x1 (ix3 0 ⟨n, h⟩ x) : EReal) * ((x0 (ix3 0 x i) : EReal) * kap) = (s n : EReal))
    (hSc : ∀ j : Fin 256, ∑ x : Fin 256, (x3 (ix3 0 j x) : EReal) * ((x0 (ix3 0 x i) : EReal) * kap)
      = (s (4096 + j.val) : EReal))
    (hV : ∀ n (h : n < 4096), x2 (ix3 0 d ⟨n, h⟩) = v n) (hVc : ∀ j : Fin 256, x4 (ix3 0 d j) = v (4096 + j.val)) :
    out0_5 x0 x1 x2 x3 x4 (ix3 0 i d) = ∑ j ∈ Finset.range 4352, v j
      * (((2 : ℝ) ^ s j / ∑ k ∈ Finset.range 4352, (2 : ℝ) ^ s k : ℝ) : EReal) := by
  rw [out_eq]
  refine attn_at ?_ ?_ ?_ ?_
  · intro k hk j
    rw [score_at x0 x1 k hk, hS]
  · intro j
    rw [scoreCtx_at, hSc]
  · intro k hk j
    rw [vals_at x2 k hk, hV]
  · intro j
    rw [← hVc]
    pointwise

theorem kap_eq : kap = (((Real.sqrt 192)⁻¹ * (Real.log 2)⁻¹ : ℝ) : EReal) := by
  rfl

end Cert.MlaAttn
-- ==== Proof.MlaTarget.lean ====
/-
  The latent attention of one query: scores from two parts of the vectors, a head's own and the rotary one, which the
  kernel keeps side by side with zeros after them.
-/
module

public import proofs.«01_k».proof.Proof.Target
public import proofs.«01_k».proof.Proof.Flash

@[expose] public section

noncomputable section

namespace Cert.MlaTarget

open Idealize.ShloMosaic Cert.Target

/-- The two parts of a vector side by side, zeros after them. -/
def padded (a : Fin 128 → EReal) (p : Fin 64 → EReal) (x : Fin 256) : EReal :=
  if h : x.val < 128 then a ⟨x.val, h⟩ else if h' : x.val - 128 < 64 then p ⟨x.val - 128, h'⟩ else 0

/-- The score of key `j`: the parts' real inner products, added, times the scale. -/
def score (c : ℝ) (q : Fin 128 → EReal) (qp : Fin 64 → EReal) (k : ℕ → Fin 128 → EReal) (kp : ℕ → Fin 64 → EReal) (j : ℕ) : ℝ :=
  ((∑ x : Fin 128, (q x).toReal * (k j x).toReal) + ∑ x : Fin 64, (qp x).toReal * (kp j x).toReal) * c

/-- A sum over the padded vectors is the two parts' sums. -/
theorem sum_padded (q k : Fin 128 → EReal) (qp kp : Fin 64 → EReal) (f : EReal) :
    ∑ x : Fin 256, padded k kp x * (padded q qp x * f) = (∑ x, k x * (q x * f)) + ∑ x, kp x * (qp x * f) := by
  have h1 : ∀ x : Fin 128, padded k kp (Fin.castAdd 128 x) * (padded q qp (Fin.castAdd 128 x) * f) = k x * (q x * f) := fun x => by
    simp [padded]
  have h2 : ∀ x : Fin 64, padded k kp (Fin.natAdd 128 (Fin.castAdd 64 x)) * (padded q qp (Fin.natAdd 128 (Fin.castAdd 64 x)) * f)
      = kp x * (qp x * f) := fun x => by
    simp [padded]
  have h3 : ∀ x : Fin 64, padded k kp (Fin.natAdd 128 (Fin.natAdd 64 x)) * (padded q qp (Fin.natAdd 128 (Fin.natAdd 64 x)) * f) = 0 :=
    fun x => by simp [padded]
  refine (Fin.sum_univ_add (a := 128) (b := 128) _).trans (congrArg₂ (· + ·) (Finset.sum_congr rfl fun x _ => h1 x) ?_)
  refine (Fin.sum_univ_add (a := 64) (b := 64) _).trans ?_
  simp only [h2, h3, Finset.sum_const_zero, add_zero]

end Cert.MlaTarget
-- ==== Proof.MlaRun.lean ====
/-
  The result array of the latent attention's run: every block read through the argument arrays, the blocks put together.
-/
module

public import proofs.«01_k».proof.Proof.Gen.MlaIdeal.Value
public import proofs.«01_k».proof.Proof.MlaBody
public import proofs.«01_k».proof.Proof.MlaTarget
public import proofs.«01_k».proof.Proof.DenseRun
public import Idealize.ShloMosaic.Lib.StableHlo.RunRead

@[expose] public section

set_option maxRecDepth 16384

noncomputable section

namespace Cert.MlaAttn

open Idealize.ShloMosaic Idealize.ShloMosaic.TcCoe Idealize.SL.Sem
open Cert.MlaIdeal Cert.MlaIdeal.Gen Cert.Flash Cert.Chunks Cert.Target Cert.MlaTarget

/-- The eight arrays the attention takes: the queries' and keys' two parts, the values, and the context's. -/
structure Arrays where
  qn : Vec Ideal S4x4x4096x128 .f32
  qp : Vec Ideal S4x4x4096x64 .f32
  kn : Vec Ideal S4x4x4096x128 .f32
  kp : Vec Ideal S4x4096x64 .f32
  v : Vec Ideal S4x4x4096x128 .f32
  knc : Vec Ideal S4x4x256x128 .f32
  kpc : Vec Ideal S4x256x64 .f32
  vc : Vec Ideal S4x4x256x128 .f32

/-- Queries and keys are real numbers; of the values nothing is asked. -/
structure Arrays.Real (A : Arrays) : Prop where
  qn : ∀ i, A.qn i = ((A.qn i).toReal : EReal)
  qp : ∀ i, A.qp i = ((A.qp i).toReal : EReal)
  kn : ∀ i, A.kn i = ((A.kn i).toReal : EReal)
  kp : ∀ i, A.kp i = ((A.kp i).toReal : EReal)
  knc : ∀ i, A.knc i = ((A.knc i).toReal : EReal)
  kpc : ∀ i, A.kpc i = ((A.kpc i).toReal : EReal)

/-- The scores of one query under head `h`: the rotary part of a key is the same for every head. -/
def Arrays.scores (A : Arrays) (b h : Fin 4) (i : Fin 4096) : ℕ → ℝ :=
  MlaTarget.score (Real.sqrt 192)⁻¹ (fun x => A.qn (ix4 b h i x)) (fun x => A.qp (ix4 b h i x))
    (joined (fun j x => A.kn (ix4 b h j x)) (fun j x => A.knc (ix4 b h j x)))
    (joined (fun j x => A.kp (ix3 b j x)) (fun j x => A.kpc (ix3 b j x)))

/-- The attention of one query: the softmax average of the value column `d` under head `h`'s scores. -/
def Arrays.attend (A : Arrays) (b h : Fin 4) (i : Fin 4096) (d : Fin 128) : EReal :=
  average 4352 (A.scores b h i) (fun j => joined (fun j x => A.v (ix4 b h j x)) (fun j x => A.vc (ix4 b h j x)) j d)

/-- The result at batch entry `b`, query `i` and column `n`: head `n / 128`, value column `n % 128`. -/
def Arrays.target (A : Arrays) (b : Fin 4) (i : Fin 4096) (n : Fin 512) : EReal :=
  A.attend b ⟨n.val / 128, by omega⟩ i ⟨n.val % 128, by omega⟩

variable (m : (ℓ : Loc nD τ sig) → Buf (Elt Ideal) ℓ)

/-- The arrays the launch reads. -/
abbrev arrays (c : Dev nD) : Arrays where
  qn := m ((c : Thread nD τ).loc main_arg0)
  qp := m ((c : Thread nD τ).loc main_arg1)
  kn := m ((c : Thread nD τ).loc main_arg2)
  kp := m ((c : Thread nD τ).loc main_arg3)
  v := m ((c : Thread nD τ).loc main_arg4)
  knc := m ((c : Thread nD τ).loc main_arg5)
  kpc := m ((c : Thread nD τ).loc main_arg6)
  vc := m ((c : Thread nD τ).loc main_arg7)

/-- The block each window reads or writes at point `t`. -/
theorem idx : ∀ t : Fin cfg0.N, win0_0.index t = ![t.val / 16, t.val / 4 % 4, t.val % 4]
    ∧ win0_1.index t = ![t.val / 16, 0, t.val / 4 % 4] ∧ win0_2.index t = ![t.val / 16, t.val / 4 % 4, 0]
    ∧ win0_3.index t = ![t.val / 16, 0, t.val / 4 % 4] ∧ win0_4.index t = ![t.val / 16, t.val / 4 % 4, 0]
    ∧ win0_5.index t = ![t.val / 16, t.val % 4, t.val / 4 % 4] ∧ t.val < 64 :=
  (by decide +kernel : ∀ t : Fin grid0.N, _)

/-- The batch entry and the head of point `t`. -/
abbrev bat (t : Fin cfg0.N) : Fin 4 := ⟨t.val / 16, by have := (idx t).2.2.2.2.2.2; omega⟩
abbrev hd (t : Fin cfg0.N) : Fin 4 := ⟨t.val / 4 % 4, by omega⟩

/-- Equal pieces give equal concatenations of three. -/
theorem cat3 {s₀ s₁ s₂ t : Shape} {k : Fin t.rank} (h : Shape.Concatenates [s₀, s₁, s₂] t k) {a a' : FVec Ideal s₀ .f32}
    {b b' : FVec Ideal s₁ .f32} {d d' : FVec Ideal s₂ .f32} (ha : a = a') (hb : b = b') (hd : d = d') :
    concatenate t k [⟨s₀, a⟩, ⟨s₁, b⟩, ⟨s₂, d⟩] h = concatenate t k [⟨s₀, a'⟩, ⟨s₁, b'⟩, ⟨s₂, d'⟩] h := by
  subst ha hb hd
  rfl

/-- The latent's padded vectors, from their two parts. -/
abbrev wide (a : FVec Ideal S4x4x4096x128 .f32) (p : FVec Ideal S4x4x4096x64 .f32) : FVec Ideal S4x4x4096x256 .f32 :=
  concatenate S4x4x4096x256 3 [⟨S4x4x4096x128, a⟩, ⟨S4x4x4096x64, p⟩,
    ⟨S4x4x4096x64, broadcastInDim S4x4x4096x64 ![] Facts₀.bcast_S_S4x4x4096x64 (constant (F := Ideal) S_ .f32 0x00000000#32)⟩]
    Facts₀.concatenates_S4x4x4096x128_S4x4x4096x64_S4x4x4096x64_S4x4x4096x256_d3

/-- The context's padded vectors, from their two parts. -/
abbrev wideCtx (a : FVec Ideal S4x4x256x128 .f32) (p : FVec Ideal S4x4x256x64 .f32) : FVec Ideal S4x4x256x256 .f32 :=
  concatenate S4x4x256x256 3 [⟨S4x4x256x128, a⟩, ⟨S4x4x256x64, p⟩,
    ⟨S4x4x256x64, broadcastInDim S4x4x256x64 ![] Facts₀.bcast_S_S4x4x256x64 (constant (F := Ideal) S_ .f32 0x00000000#32)⟩]
    Facts₀.concatenates_S4x4x256x128_S4x4x256x64_S4x4x256x64_S4x4x256x256_d3

theorem wide_at (a : FVec Ideal S4x4x4096x128 .f32) (p : FVec Ideal S4x4x4096x64 .f32) (b h : Fin 4) (j : Fin 4096) (x : Fin 256) :
    wide a p (ix4 b h j x) = padded (fun x => a (ix4 b h j x)) (fun x => p (ix4 b h j x)) x := by
  pointwise [padded]

theorem wideCtx_at (a : FVec Ideal S4x4x256x128 .f32) (p : FVec Ideal S4x4x256x64 .f32) (b h : Fin 4) (j : Fin 256) (x : Fin 256) :
    wideCtx a p (ix4 b h j x) = padded (fun x => a (ix4 b h j x)) (fun x => p (ix4 b h j x)) x := by
  pointwise [padded]

theorem entry_q (c : Dev nD) : Gen.V m c main_v3 = shapeCast S4x1024x4096 (transpose S4x4x256x4096 [0, 1, 3, 2]
    (wide (arrays m c).qn (arrays m c).qp) Facts₀.transposes_S4x4x4096x256_S4x4x256x4096_0_1_3_2)
    Facts₀.shapeCasts_S4x4x256x4096_S4x1024x4096 := by
  unfold V hostOps0
  after_reads_simp
  refine congrArg (fun z => shapeCast S4x1024x4096 (transpose S4x4x256x4096 [0, 1, 3, 2] z _) _) (cat3 _ ?_ ?_ ?_)
  all_goals (simp only [Matrix.cons_val]; after_reads_simp)

theorem entry_k (c : Dev nD) : Gen.V m c main_v10 = truncf .bf16 (shapeCast S4x4096x1024 (transpose S4x4096x4x256 [0, 2, 1, 3]
    (wide (arrays m c).kn (broadcastInDim S4x4x4096x64 ![0, 1, 2, 3] Facts₀.bcast_S4x1x4096x64_S4x4x4096x64_0_1_2_3
      (broadcastInDim S4x1x4096x64 ![0, 2, 3] Facts₀.bcast_S4x4096x64_S4x1x4096x64_0_2_3 (arrays m c).kp)))
    Facts₀.transposes_S4x4x4096x256_S4x4096x4x256_0_2_1_3) Facts₀.shapeCasts_S4x4096x4x256_S4x4096x1024) Facts₀.bitsLt_bf16_f32 := by
  unfold V hostOps0
  after_reads_simp
  refine congrArg (fun z => truncf .bf16 (shapeCast S4x4096x1024 (transpose S4x4096x4x256 [0, 2, 1, 3] z _) _) _) (cat3 _ ?_ ?_ ?_)
  all_goals (simp only [Matrix.cons_val]; after_reads_simp)

theorem entry_kc (c : Dev nD) : Gen.V m c main_v20 = truncf .bf16 (shapeCast S4x256x1024 (transpose S4x256x4x256 [0, 2, 1, 3]
    (wideCtx (arrays m c).knc (broadcastInDim S4x4x256x64 ![0, 1, 2, 3] Facts₀.bcast_S4x1x256x64_S4x4x256x64_0_1_2_3
      (broadcastInDim S4x1x256x64 ![0, 2, 3] Facts₀.bcast_S4x256x64_S4x1x256x64_0_2_3 (arrays m c).kpc)))
    Facts₀.transposes_S4x4x256x256_S4x256x4x256_0_2_1_3) Facts₀.shapeCasts_S4x256x4x256_S4x256x1024) Facts₀.bitsLt_bf16_f32 := by
  unfold V hostOps0
  after_reads_simp
  refine congrArg (fun z => truncf .bf16 (shapeCast S4x256x1024 (transpose S4x256x4x256 [0, 2, 1, 3] z _) _) _) (cat3 _ ?_ ?_ ?_)
  all_goals (simp only [Matrix.cons_val]; after_reads_simp)

theorem q_cols (z : FVec Ideal S4x4x4096x256 .f32) (b h : Fin 4) (x : Fin 256) (i : Fin 4096) :
    shapeCast S4x1024x4096 (transpose S4x4x256x4096 [0, 1, 3, 2] z Facts₀.transposes_S4x4x4096x256_S4x4x256x4096_0_1_3_2)
      Facts₀.shapeCasts_S4x4x256x4096_S4x1024x4096 (ix3 b ⟨256 * h.val + x.val, by omega⟩ i) = z (ix4 b h i x) := by
  pointwise

theorem k_cols (z : FVec Ideal S4x4x4096x256 .f32) (b h : Fin 4) (j : Fin 4096) (x : Fin 256) :
    truncf (F := Ideal) .bf16 (shapeCast S4x4096x1024 (transpose S4x4096x4x256 [0, 2, 1, 3] z Facts₀.transposes_S4x4x4096x256_S4x4096x4x256_0_2_1_3)
      Facts₀.shapeCasts_S4x4096x4x256_S4x4096x1024) Facts₀.bitsLt_bf16_f32 (ix3 b j ⟨256 * h.val + x.val, by omega⟩) = z (ix4 b h j x) := by
  pointwise

theorem kc_cols (z : FVec Ideal S4x4x256x256 .f32) (b h : Fin 4) (j : Fin 256) (x : Fin 256) :
    truncf (F := Ideal) .bf16 (shapeCast S4x256x1024 (transpose S4x256x4x256 [0, 2, 1, 3] z Facts₀.transposes_S4x4x256x256_S4x256x4x256_0_2_1_3)
      Facts₀.shapeCasts_S4x256x4x256_S4x256x1024) Facts₀.bitsLt_bf16_f32 (ix3 b j ⟨256 * h.val + x.val, by omega⟩) = z (ix4 b h j x) := by
  pointwise

/-- The rotary part of the keys, repeated for every head. -/
theorem keys_at (p : FVec Ideal S4x4096x64 .f32) (b h : Fin 4) (j : Fin 4096) (x : Fin 64) :
    broadcastInDim S4x4x4096x64 ![0, 1, 2, 3] Facts₀.bcast_S4x1x4096x64_S4x4x4096x64_0_1_2_3
      (broadcastInDim S4x1x4096x64 ![0, 2, 3] Facts₀.bcast_S4x4096x64_S4x1x4096x64_0_2_3 p) (ix4 b h j x) = p (ix3 b j x) := by
  pointwise

theorem keysCtx_at (p : FVec Ideal S4x256x64 .f32) (b h : Fin 4) (j : Fin 256) (x : Fin 64) :
    broadcastInDim S4x4x256x64 ![0, 1, 2, 3] Facts₀.bcast_S4x1x256x64_S4x4x256x64_0_1_2_3
      (broadcastInDim S4x1x256x64 ![0, 2, 3] Facts₀.bcast_S4x256x64_S4x1x256x64_0_2_3 p) (ix4 b h j x) = p (ix3 b j x) := by
  pointwise

theorem q_blk (c : Dev nD) (t : Fin cfg0.N) (x : Fin 256) (i : Fin 1024) (A : Vec Ideal S4x1024x4096 .f32) (hA : Gen.V m c main_v3 = A) :
    iblk m c 0 t (ix3 0 x i) = A (ix3 (bat t) ⟨256 * (t.val / 4 % 4) + x.val, by omega⟩ ⟨1024 * (t.val % 4) + i.val, by omega⟩) := by
  have h : V m c (Pipeline.arrRef spec0 0) = A := hA
  have e : ((cfg0.win 0).blk t).view.emb (ix3 0 x i) = ix3 (bat t) ⟨256 * (t.val / 4 % 4) + x.val, by omega⟩ ⟨1024 * (t.val % 4) + i.val, by omega⟩ := by
    blk_ext [idx t]
  unfold iblk
  rw [h]
  exact congrArg A e

theorem k_blk (c : Dev nD) (t : Fin cfg0.N) (j : Fin 4096) (x : Fin 256) (A : Vec Ideal S4x4096x1024 .bf16) (hA : Gen.V m c main_v10 = A) :
    iblk m c 1 t (ix3 0 j x) = A (ix3 (bat t) j ⟨256 * (t.val / 4 % 4) + x.val, by omega⟩) := by
  have h : V m c (Pipeline.arrRef spec0 1) = A := hA
  have e : ((cfg0.win 1).blk t).view.emb (ix3 0 j x) = ix3 (bat t) j ⟨256 * (t.val / 4 % 4) + x.val, by omega⟩ := by
    blk_ext [idx t]
  unfold iblk
  rw [h]
  exact congrArg A e

theorem kc_blk (c : Dev nD) (t : Fin cfg0.N) (j x : Fin 256) (A : Vec Ideal S4x256x1024 .bf16) (hA : Gen.V m c main_v20 = A) :
    iblk m c 3 t (ix3 0 j x) = A (ix3 (bat t) j ⟨256 * (t.val / 4 % 4) + x.val, by omega⟩) := by
  have h : V m c (Pipeline.arrRef spec0 3) = A := hA
  have e : ((cfg0.win 3).blk t).view.emb (ix3 0 j x) = ix3 (bat t) j ⟨256 * (t.val / 4 % 4) + x.val, by omega⟩ := by
    blk_ext [idx t]
  unfold iblk
  rw [h]
  exact congrArg A e

theorem q_at (c : Dev nD) (t : Fin cfg0.N) (x : Fin 256) (i : Fin 1024) :
    iblk m c 0 t (ix3 0 x i) = padded (fun x => (arrays m c).qn (ix4 (bat t) (hd t) ⟨1024 * (t.val % 4) + i.val, by omega⟩ x))
      (fun x => (arrays m c).qp (ix4 (bat t) (hd t) ⟨1024 * (t.val % 4) + i.val, by omega⟩ x)) x :=
  (q_blk m c t x i _ (entry_q m c)).trans ((q_cols _ _ (hd t) _ _).trans (wide_at _ _ _ _ _ _))

theorem k_at (c : Dev nD) (t : Fin cfg0.N) (j : Fin 4096) (x : Fin 256) :
    iblk m c 1 t (ix3 0 j x) = padded (fun x => (arrays m c).kn (ix4 (bat t) (hd t) j x))
      (fun x => (arrays m c).kp (ix3 (bat t) j x)) x :=
  (k_blk m c t j x _ (entry_k m c)).trans ((k_cols _ _ (hd t) _ _).trans ((wide_at _ _ _ _ _ _).trans
    (congrArg (fun p => padded _ p x) (funext fun y => keys_at _ _ _ _ _))))

theorem kc_at (c : Dev nD) (t : Fin cfg0.N) (j : Fin 256) (x : Fin 256) :
    iblk m c 3 t (ix3 0 j x) = padded (fun x => (arrays m c).knc (ix4 (bat t) (hd t) j x))
      (fun x => (arrays m c).kpc (ix3 (bat t) j x)) x :=
  (kc_blk m c t j x _ (entry_kc m c)).trans ((kc_cols _ _ (hd t) _ _).trans ((wideCtx_at _ _ _ _ _ _).trans
    (congrArg (fun p => padded _ p x) (funext fun y => keysCtx_at _ _ _ _ _))))

theorem v_at (c : Dev nD) (t : Fin cfg0.N) (d : Fin 128) (j : Fin 4096) :
    iblk m c 2 t (ix3 0 d j) = (arrays m c).v (ix4 (bat t) (hd t) j d) := by
  blk_simp [iblk]
  entry_read
  pointwise
  blk_ext [idx t]

theorem vc_at (c : Dev nD) (t : Fin cfg0.N) (d : Fin 128) (j : Fin 256) :
    iblk m c 4 t (ix3 0 d j) = (arrays m c).vc (ix4 (bat t) (hd t) j d) := by
  blk_simp [iblk]
  entry_read
  pointwise
  blk_ext [idx t]

/-- An inner product of real padded vectors with the factor on the queries: the two parts' score in base 2. -/
theorem dot_parts (c : ℝ) (q : Fin 128 → EReal) (qp : Fin 64 → EReal) (k : ℕ → Fin 128 → EReal) (kp : ℕ → Fin 64 → EReal) (j : ℕ)
    (hq : ∀ x, q x = ((q x).toReal : EReal)) (hqp : ∀ x, qp x = ((qp x).toReal : EReal))
    (hk : ∀ x, k j x = ((k j x).toReal : EReal)) (hkp : ∀ x, kp j x = ((kp j x).toReal : EReal)) (K : ℝ) :
    ∑ x : Fin 256, padded (k j) (kp j) x * (padded q qp x * ((c * K : ℝ) : EReal)) = ((MlaTarget.score c q qp k kp j * K : ℝ) : EReal) := by
  rw [sum_padded, Cert.Dense.dot_real c q (k j) hq hk K, Cert.Dense.dot_real c qp (kp j) hqp hkp K, ← EReal.coe_add]
  congr 1
  rw [MlaTarget.score]
  ring

/-- The block of point `t` at a query and a value column. -/
theorem block (c : Dev nD) (t : Fin cfg0.N) (i : Fin 1024) (d : Fin 128) (hA : (arrays m c).Real) :
    out0_5 (iblk m c 0 t) (iblk m c 1 t) (iblk m c 2 t) (iblk m c 3 t) (iblk m c 4 t) (ix3 0 i d) = (arrays m c).target (bat t)
      ⟨1024 * (t.val % 4) + i.val, by omega⟩ ⟨128 * (t.val / 4 % 4) + d.val, by omega⟩ := by
  have eh : (⟨(128 * (t.val / 4 % 4) + d.val) / 128, by omega⟩ : Fin 4) = hd t := Fin.ext (by simp only []; omega)
  have ed : (⟨(128 * (t.val / 4 % 4) + d.val) % 128, by omega⟩ : Fin 128) = d := Fin.ext (by simp only []; omega)
  simp only [Arrays.target, Arrays.attend, average]
  rw [eh, ed]
  refine (out_at _ _ _ _ _ i d (fun j => (arrays m c).scores (bat t) (hd t) ⟨1024 * (t.val % 4) + i.val, by omega⟩ j
      * (Real.log 2)⁻¹)
    (fun j => joined (fun j x => (arrays m c).v (ix4 (bat t) (hd t) j x)) (fun j x => (arrays m c).vc (ix4 (bat t) (hd t) j x)) j d)
    ?_ ?_ ?_ ?_).trans ?_
  · intro n h
    simp only [q_at, k_at, kap_eq, Arrays.scores]
    refine Eq.trans ?_ (dot_parts _ _ _ _ _ n (fun x => hA.qn _) (fun x => hA.qp _) (fun x => ?_) (fun x => ?_) _)
    · rw [funext (joined_left (D := 128) _ _ n h), funext (joined_left (D := 64) _ _ n h)]
    · simp only [joined_left _ _ n h]
      exact hA.kn _
    · simp only [joined_left _ _ n h]
      exact hA.kp _
  · intro j
    simp only [q_at, kc_at, kap_eq, Arrays.scores]
    refine Eq.trans ?_ (dot_parts _ _ _ _ _ _ (fun x => hA.qn _) (fun x => hA.qp _) (fun x => ?_) (fun x => ?_) _)
    · rw [funext (joined_right (D := 128) _ _ j), funext (joined_right (D := 64) _ _ j)]
    · simp only [joined_right]
      exact hA.knc _
    · simp only [joined_right]
      exact hA.kpc _
  · intro n h
    rw [v_at, joined_left _ _ n h]
  · intro j
    rw [vc_at, joined_right]
  · simp only [two_rpow_div_log]

/-- The result array after the run, from real queries and keys. -/
theorem final (c : Dev nD) (hA : (arrays m c).Real) :
    (dats m 0 c).arrAt 5 (cfgs 0).N = fun i : S4x4096x512.Idx => (arrays m c).target (i 0) (i 1) (i 2) := by
  refine (dats m 0 c).arrAt_eq_of_covers 5 _ (by decide +kernel) fun t _ y => ?_
  blk_simp
  rw [after0_5]
  obtain ⟨a, i, d, rfl⟩ : ∃ (a : Fin 1) (i : Fin 1024) (d : Fin 128), y = ix3 a i d := ⟨y 0, y 1, y 2, by blk_ext []⟩
  obtain rfl : a = 0 := Subsingleton.elim _ _
  rw [block m c t i d hA]
  congr 1 <;> apply Fin.ext <;> blk_simp [idx t]
  all_goals (simp only [Fin.val_zero, Fin.isValue]; try omega)

end Cert.MlaAttn
-- ==== Proof.MlaRef.lean ====
/-
  The latent attention's reference at an index: real scores, the softmax of them, the average of the values.
-/
module

public import proofs.«01_k».proof.Proof.Gen.MlaReferenceIdeal.Read
public import proofs.«01_k».proof.Proof.MlaRun
public import proofs.«01_k».proof.Proof.DenseRef

@[expose] public section

set_option maxRecDepth 16384

noncomputable section

namespace Cert.MlaRef

open Idealize.ShloMosaic Idealize.ShloMosaic.TcCoe Idealize.SL.Sem
open Cert.MlaReferenceIdeal Cert.MlaReferenceIdeal.Gen Cert.MlaReferenceIdeal.Read Cert.Flash Cert.Target Cert.MlaAttn

/-- The reference's factor: the inverse square root of the scores' width. -/
theorem scale_at (i : S_.Idx) : val_main_v3 (F := Ideal) i = (((Real.sqrt 192)⁻¹ : ℝ) : EReal) := by
  have e : Ideal.ofBits .f32 0x43400000#32 = ((192 : ℝ) : EReal) := by
    simp [Ideal.ofBits, Ideal.ieee]
    rw [← EReal.coe_mul]
    norm_num
  have h : val_main_v3 (F := Ideal) i = Ideal.rsqrt (Ideal.ofBits .f32 0x43400000#32) := rfl
  rw [h, e]
  rw [Ideal.rsqrt_coe, if_neg (by norm_num), if_neg (by norm_num)]

variable {A : Arrays}

theorem v4_at (hA : A.Real) (b h : Fin 4) (i : Fin 4096) (j : Fin 4352) :
    val_main_v4 (F := Ideal) A.qn A.kn A.knc (ix4 b h i j) = ((∑ x : Fin 128, (A.qn (ix4 b h i x)).toReal
      * (joined (fun j x => A.kn (ix4 b h j x)) (fun j x => A.knc (ix4 b h j x)) j.val x).toReal : ℝ) : EReal) := by
  pointwise [val_main_v4, val_main_v0]
  rw [coe_sum]
  refine Finset.sum_congr rfl fun x _ => ?_
  rw [joined_eq (n := 4096) (c := 256) _ _ j x, EReal.coe_mul, ← hA.qn]
  split_ifs
  · rw [← hA.kn]
  · rw [← hA.knc]
  · rename_i hn
    exact absurd rfl hn

theorem v5_at (hA : A.Real) (b h : Fin 4) (i : Fin 4096) (j : Fin 4352) :
    val_main_v5 (F := Ideal) A.qp A.kp A.kpc (ix4 b h i j) = ((∑ x : Fin 64, (A.qp (ix4 b h i x)).toReal
      * (joined (fun j x => A.kp (ix3 b j x)) (fun j x => A.kpc (ix3 b j x)) j.val x).toReal : ℝ) : EReal) := by
  pointwise [val_main_v5, val_main_v1]
  rw [coe_sum]
  refine Finset.sum_congr rfl fun x _ => ?_
  rw [joined_eq (n := 4096) (c := 256) _ _ j x, EReal.coe_mul, ← hA.qp]
  split_ifs
  · rw [← hA.kp]
  · rw [← hA.kpc]
  · rename_i hn
    exact absurd rfl hn

theorem v8_at (hA : A.Real) (b h : Fin 4) (i : Fin 4096) (j : Fin 4352) :
    val_main_v8 (F := Ideal) A.qn A.qp A.kn A.kp A.knc A.kpc (ix4 b h i j) = (A.scores b h i j.val : EReal) := by
  rw [val_main_v8_apply, val_main_v6_apply, v4_at hA, v5_at hA, val_main_v7_apply, scale_at]
  rw [Arrays.scores, MlaTarget.score, EReal.coe_mul, EReal.coe_add]
  rfl

theorem v11_real (hA : A.Real) (i : S4x4x4096.Idx) :
    ∃ r : ℝ, val_main_v11 (F := Ideal) A.qn A.qp A.kn A.kp A.knc A.kpc i = (r : EReal) := by
  have h9 : ∃ r : ℝ, val_main_v9 (F := Ideal) A.qn A.qp A.kn A.kp A.knc A.kpc i = (r : EReal) := by
    refine Cert.DenseRef.reduce_real (val_main_v8 (F := Ideal) A.qn A.qp A.kn A.kp A.knc A.kpc) _ _ (by decide) _ i
      Cert.Chunks.ofBits_bot (by decide) fun i => ?_
    have hi : i = ix4 (i 0) (i 1) (i 2) (i 3) := by blk_ext []
    rw [hi]
    exact ⟨_, v8_at hA _ _ _ _⟩
  obtain ⟨r, hr⟩ := h9
  refine ⟨r, ?_⟩
  rw [val_main_v11_apply, hr, val_main_v10_apply, val_main_cst_1_apply]
  exact (congrArg (fun z => max z (r : EReal)) Cert.Chunks.ofBits_bot).trans (max_eq_right bot_le)

theorem v19_at (hA : A.Real) (b h : Fin 4) (i : Fin 4096) (j : Fin 4352) :
    val_main_v19 (F := Ideal) A.qn A.qp A.kn A.kp A.knc A.kpc (ix4 b h i j)
      = ((Real.exp (A.scores b h i j.val) / ∑ k ∈ Finset.range 4352, Real.exp (A.scores b h i k) : ℝ) : EReal) := by
  obtain ⟨X, hX⟩ := v11_real hA (ix3 b h i)
  pointwise [val_main_v19, val_main_v18, val_main_v17, val_main_v16, val_main_v15, val_main_v14, val_main_v13, val_main_v12, val_main_cst_2]
  simp only [v8_at hA, hX]
  exact softmax_shift (by norm_num) _ X j.val

theorem v2_at (A : Arrays) (b h : Fin 4) (j : Fin 4352) (d : Fin 128) : val_main_v2 (F := Ideal) A.v A.vc (ix4 b h j d)
    = joined (fun j x => A.v (ix4 b h j x)) (fun j x => A.vc (ix4 b h j x)) j.val d := by
  pointwise [val_main_v2]
  exact (joined_eq (n := 4096) (c := 256) (fun j x => A.v (ix4 b h j x)) (fun j x => A.vc (ix4 b h j x)) j d).symm

theorem average_at (hA : A.Real) (b h : Fin 4) (i : Fin 4096) (d : Fin 128) :
    ∑ x : Fin 4352, (val_main_v19 (F := Ideal) A.qn A.qp A.kn A.kp A.knc A.kpc (ix4 b h i x) : EReal)
      * val_main_v2 (F := Ideal) A.v A.vc (ix4 b h x d) = A.attend b h i d := by
  rw [Arrays.attend, average, Finset.sum_range]
  refine Finset.sum_congr rfl fun x _ => ?_
  rw [v19_at hA, v2_at]
  exact mul_comm _ _

/-- The reference's result at an index, from real queries and keys. -/
theorem result_at (hA : A.Real) (b : Fin 4) (i : Fin 4096) (n : Fin 512) :
    val_main_v23 (F := Ideal) A.qn A.qp A.kn A.kp A.v A.knc A.kpc A.vc (ix3 b i n) = A.target b i n := by
  pointwise [val_main_v23, val_main_v22, val_main_v21, val_main_v20]
  exact average_at hA b _ i _

end Cert.MlaRef
-- ==== Proof.MlaAlgebraic.lean ====
/-
  The claims on the latent attention: the reference's frame, and that kernel and reference leave the same array.
-/
module

public import proofs.«01_k».proof.Defs
public import proofs.«01_k».proof.Proof.Gen.MlaReferenceIdeal.Run
public import proofs.«01_k».proof.Proof.Gen.Pre_finite_mla
public import proofs.«01_k».proof.Proof.MlaRef
public import proofs.«01_k».proof.Proof.Finite
public import Idealize.ShloMosaic.Lib.Claim

@[expose] public section

set_option maxRecDepth 16384

noncomputable section

namespace Cert.MlaAlgebraic

open Idealize.ShloMosaic Idealize.ShloMosaic.TcCoe Idealize.SL.Sem
open Cert.Finite

open Cert.Pre_finite_mla in
/-- Under the precondition queries and keys are real numbers. -/
theorem real {A : Cert.MlaAttn.Arrays} (h : fn (F := Ideal) A.qn A.qp A.kn A.kp A.v A.knc A.kpc A.vc = fun _ => 1#1) : A.Real := by
  have h5 := congrFun h (fun a => a.elim0)
  dsimp only [fn, fn_part1] at h5
  obtain ⟨h4, hkpc⟩ := andi_one h5
  obtain ⟨h3, hknc⟩ := andi_one h4
  obtain ⟨h2, hkp⟩ := andi_one h3
  obtain ⟨h1, hkn⟩ := andi_one h2
  obtain ⟨hqn, hqp⟩ := andi_one h1
  constructor
  · exact real_of_abs A.qn _ (fun _ => rfl) fun i => Host.reduce_andi_all _ _ _ _ _ hqn i
  · exact real_of_abs A.qp _ (fun _ => rfl) fun i => Host.reduce_andi_all _ _ _ _ _ hqp i
  · exact real_of_abs A.kn _ (fun _ => rfl) fun i => Host.reduce_andi_all _ _ _ _ _ hkn i
  · exact real_of_abs A.kp _ (fun _ => rfl) fun i => Host.reduce_andi_all _ _ _ _ _ hkp i
  · exact real_of_abs A.knc _ (fun _ => rfl) fun i => Host.reduce_andi_all _ _ _ _ _ hknc i
  · exact real_of_abs A.kpc _ (fun _ => rfl) fun i => Host.reduce_andi_all _ _ _ _ _ hkpc i

open Cert.MlaReferenceIdeal in
/-- The reference's frame: its run leaves the arguments, and its program has no semaphore. -/
theorem reference (m : (ℓ : Loc nD τ sig) → Buf (Elt Ideal) ℓ) (g : Dev nD → PrngReg) :
    θ_run defs (onTc (τ := τ) (main (F := Ideal))) ⟨m, fun _ => 0, g⟩
      fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7))
        ∧ r.2.sem = fun _ => 0 :=
  (θ_run _ _ _).mono (fun r h => ⟨fun c => (h c).2, sem_eq_zero_of_no_sems rfl r.2⟩) (Value.run m g)

open Cert.MlaReferenceIdeal in
/-- The reference's run, its result named one operation at a time. -/
theorem run_val (m : (ℓ : Loc nD τ sig) → Buf (Elt Ideal) ℓ) (ρ : Dev nD → PrngReg) :
    θ_run defs (onTc (τ := τ) (main (F := Ideal))) ⟨m, fun _ => 0, ρ⟩
      fun r => ∀ c : Dev nD, r.2.mem ((c.tc : Thread nD τ).loc main_v23)
          = Read.val_main_v23 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) :=
  (θ_run _ _ _).mono (fun r h c => (h c).1.trans (Read.val_main_v23_eq _ _)) (Value.run m ρ)

theorem mla : Cert.algebraic_MlaIdeal_MlaReferenceIdeal_pre_finite_mla (hMlaIdeal := Cert.MlaIdeal.Gen.facts)
    (hMlaReferenceIdeal := Cert.MlaReferenceIdeal.Gen.facts) (hPre_finite_mla := Cert.Pre_finite_mla.Gen.facts) := by
  pair_intro
  · run_from Cert.MlaIdeal.Value.run_blocks m g
  · run_from run_val m' g' & Cert.MlaReferenceIdeal.Value.run m' g'
    have hA : (Cert.MlaAttn.arrays m c).Real := real (hpre c)
    refine Eq.trans ?_ (Cert.MlaAttn.final m c hA).symm
    funext i
    obtain ⟨b, j, n, rfl⟩ : ∃ (b : Fin 4) (j : Fin 4096) (n : Fin 512), i = ix3 b j n := ⟨i 0, i 1, i 2, by blk_ext []⟩
    exact Cert.MlaRef.result_at hA b j n

end Cert.MlaAlgebraic
-- ==== Proof.AdaRun.lean ====
/-
  The modulation vectors' body at an index, and the two results of the run.
-/
module

public import proofs.«01_k».proof.Proof.Gen.AdaIdeal.Frame
public import Idealize.ShloMosaic.Lib.Pipeline.ValueKit
public import Idealize.ShloMosaic.Lib.Pipeline.Value
public import Idealize.ShloMosaic.Lib.StableHlo.RunRead
public import proofs.«01_k».proof.Proof.MlaRun

@[expose] public section

set_option maxRecDepth 16384

noncomputable section

namespace Cert.AdaRun

open Idealize.ShloMosaic Idealize.ShloMosaic.TcCoe Idealize.SL.Sem
open Cert.AdaIdeal Cert.AdaIdeal.Gen

/-- An entry of a modulation vector: the conditioning row through `silu`, against a column of weights, and a bias. -/
def entry (c w : Fin 2048 → EReal) (b : EReal) : EReal := ∑ k, c k * Ideal.logistic (c k) * w k + b

/-- The block the body leaves, at a row and a column. -/
theorem block (x0 : Vec Ideal S8x2048 .f32) (x1 : Vec Ideal S1x2048x1024 .f32) (x2 : Vec Ideal S1x1x1024 .f32) (r : Fin 8) (n : Fin 1024) :
    out0_3 x0 x1 x2 (ix3 0 r n) = entry (fun k => x0 (ix2 r k)) (fun k => x1 (ix3 0 k n)) (x2 (ix3 0 0 n)) := by
  unfold out0_3
  rw [View.canon_unit_zero (by decide)]
  pointwise [k0_pay1]
  rfl

variable (m : (ℓ : Loc nD τ sig) → Buf (Elt Ideal) ℓ)

/-- The conditioning rows, the context's row after them, and three rows of zeros. -/
abbrev rows (c : FVec Ideal S4x2048 .f32) (x : FVec Ideal S2048 .f32) : FVec Ideal S8x2048 .f32 :=
  concatenate S8x2048 0 [⟨S4x2048, c⟩, ⟨S1x2048, broadcastInDim S1x2048 ![1] Facts₀.bcast_S2048_S1x2048_1 x⟩,
    ⟨S3x2048, broadcastInDim S3x2048 ![] Facts₀.bcast_S_S3x2048 (constant (F := Ideal) S_ .f32 0x00000000#32)⟩]
    Facts₀.concatenates_S4x2048_S1x2048_S3x2048_S8x2048_d0

theorem rows_at (c : FVec Ideal S4x2048 .f32) (x : FVec Ideal S2048 .f32) (r : Fin 4) (k : Fin 2048) :
    rows c x (ix2 ⟨r.val, by omega⟩ k) = c (ix2 r k) := by
  pointwise

theorem rows_last (c : FVec Ideal S4x2048 .f32) (x : FVec Ideal S2048 .f32) (k : Fin 2048) :
    rows c x (ix2 4 k) = x (ix1 k) := by
  pointwise

/-- The block each window reads or writes at point `t`. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] ∧ t.val < 24 :=
  (by decide +kernel : ∀ t : Fin grid0.N, _)

/-- The layer of point `t`, and the column that is column `n` of its block. -/
abbrev lay (t : Fin cfg0.N) : Fin 2 := ⟨t.val / 12, by have := (idx t).2.2.2.2; omega⟩
abbrev col (t : Fin cfg0.N) (n : Fin 1024) : Fin 12288 := ⟨1024 * (t.val % 12) + n.val, by omega⟩

theorem entry_c (c : Dev nD) : Gen.V m c main_v2 = rows (m ((c : Thread nD τ).loc main_arg0)) (m ((c : Thread nD τ).loc main_arg1)) := by
  unfold V V0 hostOps0
  simp only [List.flatten_cons, List.flatten_nil, List.append_nil]
  after_reads_simp
  refine Cert.MlaAttn.cat3 _ ?_ ?_ ?_
  all_goals (simp only [Matrix.cons_val]; after_reads_simp)

theorem c_blk (c : Dev nD) (t : Fin cfg0.N) (r : Fin 8) (k : Fin 2048) (A : FVec Ideal S8x2048 .f32) (hA : Gen.V m c main_v2 = A) :
    iblk m c 0 t (ix2 r k) = A (ix2 r k) := by
  have h : V m c (Pipeline.arrRef spec0 0) = A := hA
  have e : ((cfg0.win 0).blk t).view.emb (ix2 r k) = ix2 r k := by blk_ext [idx t]
  unfold iblk
  rw [h]
  exact congrArg A e

theorem w_at (c : Dev nD) (t : Fin cfg0.N) (k : Fin 2048) (n : Fin 1024) :
    iblk m c 1 t (ix3 0 k n) = (m ((c : Thread nD τ).loc main_arg2) : Vec Ideal S2x2048x12288 .f32) (ix3 (lay t) k (col t n)) := by
  blk_simp [iblk]
  entry_read
  pointwise
  blk_ext [idx t]

theorem entry_b (c : Dev nD) : Gen.V m c main_v3 = shapeCast S2x1x12288 (m ((c : Thread nD τ).loc main_arg3) : FVec Ideal S2x12288 .f32) Facts₀.shapeCasts_S2x12288_S2x1x12288 := by
  unfold V V0 hostOps0
  simp only [List.flatten_cons, List.flatten_nil, List.append_nil]
  after_reads_simp
  rfl

theorem bias_at (b : FVec Ideal S2x12288 .f32) (l : Fin 2) (n : Fin 12288) :
    shapeCast S2x1x12288 b Facts₀.shapeCasts_S2x12288_S2x1x12288 (ix3 l 0 n) = b (ix2 l n) := by
  pointwise

theorem b_blk (c : Dev nD) (t : Fin cfg0.N) (n : Fin 1024) (A : FVec Ideal S2x1x12288 .f32) (hA : Gen.V m c main_v3 = A) :
    iblk m c 2 t (ix3 0 0 n) = A (ix3 (lay t) 0 (col t n)) := by
  have h : V m c (Pipeline.arrRef spec0 2) = A := hA
  have e : ((cfg0.win 2).blk t).view.emb (ix3 0 0 n) = ix3 (lay t) 0 (col t n) := by blk_ext [idx t]
  unfold iblk
  rw [h]
  exact congrArg A e

theorem b_at (c : Dev nD) (t : Fin cfg0.N) (n : Fin 1024) :
    iblk m c 2 t (ix3 0 0 n) = (m ((c : Thread nD τ).loc main_arg3) : Vec Ideal S2x12288 .f32) (ix2 (lay t) (col t n)) :=
  (b_blk m c t n _ (entry_b m c)).trans (bias_at _ _ _)

/-- The modulation vectors of all eight rows. -/
def vectors (c : FVec Ideal S4x2048 .f32) (x : FVec Ideal S2048 .f32) (w : FVec Ideal S2x2048x12288 .f32) (b : FVec Ideal S2x12288 .f32)
    (l : Fin 2) (r : Fin 8) (n : Fin 12288) : EReal :=
  entry (fun k => rows c x (ix2 r k)) (fun k => w (ix3 l k n)) (b (ix2 l n))

/-- The call's array after the region. -/
theorem array (c : Dev nD) : (dats m 0 c).arrAt 3 cfg0.N = fun i : S2x8x12288.Idx => vectors (m ((c : Thread nD τ).loc main_arg0)) (m ((c : Thread nD τ).loc main_arg1)) (m ((c : Thread nD τ).loc main_arg2)) (m ((c : Thread nD τ).loc main_arg3)) (i 0) (i 1) (i 2) := by
  refine (dats m 0 c).arrAt_eq_of_covers 3 _ (by decide +kernel) fun t _ y => ?_
  blk_simp
  rw [after0_3]
  obtain ⟨r, n, rfl⟩ : ∃ (r : Fin 8) (n : Fin 1024), y = ix3 0 r n := ⟨y 1, y 2, by blk_ext []⟩
  have e0 : (win0_3.blk t).view.emb (ix3 0 r n) = ix3 (lay t) r (col t n) := by
    blk_ext [idx t]
  rw [e0, block]
  show entry _ _ _ = vectors _ _ _ _ (lay t) r (col t n)
  unfold vectors
  simp only [w_at, b_at, c_blk m c t r _ _ (entry_c m c)]

/-- The first result: the batch's rows of the call's array. -/
theorem batch (c : Dev nD) : Pipeline.afterTail₀ cfgs (dats m) 0 (V0 m) [hostOps1] c main_v5
    = extractStridedSlice S2x4x12288 ![0, 0, 0] ((dats m 0 c).arrAt 3 cfg0.N : FVec Ideal S2x8x12288 .f32) slices_S2x8x12288_S2x4x12288_0_0_0 := by
  unfold Pipeline.afterTail₀ hostOps1
  simp only [List.flatten_cons, List.flatten_nil, List.append_nil]
  after_results
  exact congrArg (fun z => extractStridedSlice S2x4x12288 ![0, 0, 0] z slices_S2x8x12288_S2x4x12288_0_0_0)
    (Pipeline.withArrays_arr spec0 launch0.win.arr_inj c (V0 m c) (fun w => (dats m 0 c).arrAt w cfg0.N) 3)

/-- The second result: the context's row of it. -/
theorem context (c : Dev nD) : Pipeline.afterTail₀ cfgs (dats m) 0 (V0 m) [hostOps1] c main_v7
    = shapeCast S2x12288 (extractStridedSlice S2x1x12288 ![0, 4, 0] ((dats m 0 c).arrAt 3 cfg0.N : FVec Ideal S2x8x12288 .f32)
      slices_S2x8x12288_S2x1x12288_0_4_0) shapeCasts_S2x1x12288_S2x12288 := by
  unfold Pipeline.afterTail₀ hostOps1
  simp only [List.flatten_cons, List.flatten_nil, List.append_nil]
  after_results
  exact congrArg (fun z => shapeCast S2x12288 (extractStridedSlice S2x1x12288 ![0, 4, 0] z slices_S2x8x12288_S2x1x12288_0_4_0) shapeCasts_S2x1x12288_S2x12288)
    (Pipeline.withArrays_arr spec0 launch0.win.arr_inj c (V0 m c) (fun w => (dats m 0 c).arrAt w cfg0.N) 3)

/-- The run, its two results named, the arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v5) = extractStridedSlice S2x4x12288 ![0, 0, 0] ((dats m 0 c).arrAt 3 cfg0.N : FVec Ideal S2x8x12288 .f32) slices_S2x8x12288_S2x4x12288_0_0_0
    ∧ r.2.mem ((c.tc : Thread nD τ).loc main_v7) = shapeCast S2x12288 (extractStridedSlice S2x1x12288 ![0, 4, 0] ((dats m 0 c).arrAt 3 cfg0.N : FVec Ideal S2x8x12288 .f32)
      slices_S2x8x12288_S2x1x12288_0_4_0) shapeCasts_S2x1x12288_S2x12288
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).2 main_v5 (Pipeline.mem_restRefs_of main_v5 (by decide) (by decide))).trans (batch m c),
    ((h.1 c).2 main_v7 (Pipeline.mem_restRefs_of main_v7 (by decide) (by decide))).trans (context m c), h.2 c⟩)
    (θ_run_and (run_main m ρ) (unchanged m ρ))

end Cert.AdaRun

end
-- ==== Proof.AdaRef.lean ====
/-
  The modulation vectors' reference at an index.
-/
module

public import proofs.«01_k».proof.Proof.Gen.AdaReferenceIdeal.Read
public import proofs.«01_k».proof.Proof.AdaRun

@[expose] public section

set_option maxRecDepth 16384

noncomputable section

namespace Cert.AdaRef

open Idealize.ShloMosaic Idealize.ShloMosaic.TcCoe Idealize.SL.Sem
open Cert.AdaReferenceIdeal Cert.AdaReferenceIdeal.Gen Cert.AdaReferenceIdeal.Read Cert.AdaRun

variable (c : FVec Ideal S4x2048 .f32) (x : FVec Ideal S2048 .f32) (w : FVec Ideal S2x2048x12288 .f32) (b : FVec Ideal S2x12288 .f32)

/-- The first layer's vectors, and the second's. -/
theorem v8_at (r : Fin 4) (n : Fin 12288) : val_main_v8 (F := Ideal) c w b (ix2 r n)
    = entry (fun k => c (ix2 r k)) (fun k => w (ix3 0 k n)) (b (ix2 0 n)) := by
  pointwise [val_main_v0, val_main_v1, val_main_v2, val_main_v3, val_main_v4, val_main_v5, val_main_v6, val_main_v7, val_main_v8,
    val_main_call0_v5, val_main_call0_v4, val_main_call0_v3, val_main_call0_v2, val_main_call0_v1, val_main_call0_v0, val_main_call0_cst, val_main_call0_cst_0]
  rfl

theorem v17_at (r : Fin 4) (n : Fin 12288) : val_main_v17 (F := Ideal) c w b (ix2 r n)
    = entry (fun k => c (ix2 r k)) (fun k => w (ix3 1 k n)) (b (ix2 1 n)) := by
  pointwise [val_main_v9, val_main_v10, val_main_v11, val_main_v12, val_main_v13, val_main_v14, val_main_v15, val_main_v16, val_main_v17,
    val_main_call1_v5, val_main_call1_v4, val_main_call1_v3, val_main_call1_v2, val_main_call1_v1, val_main_call1_v0, val_main_call1_cst, val_main_call1_cst_0]
  rfl

theorem v27_at (n : Fin 12288) : val_main_v27 (F := Ideal) x w b (ix1 n)
    = entry (fun k => x (ix1 k)) (fun k => w (ix3 0 k n)) (b (ix2 0 n)) := by
  pointwise [val_main_v21, val_main_v22, val_main_v23, val_main_v24, val_main_v25, val_main_v26, val_main_v27,
    val_main_call2_v5, val_main_call2_v4, val_main_call2_v3, val_main_call2_v2, val_main_call2_v1, val_main_call2_v0, val_main_call2_cst, val_main_call2_cst_0]
  rfl

theorem v34_at (n : Fin 12288) : val_main_v34 (F := Ideal) x w b (ix1 n)
    = entry (fun k => x (ix1 k)) (fun k => w (ix3 1 k n)) (b (ix2 1 n)) := by
  pointwise [val_main_v28, val_main_v29, val_main_v30, val_main_v31, val_main_v32, val_main_v33, val_main_v34,
    val_main_call3_v5, val_main_call3_v4, val_main_call3_v3, val_main_call3_v2, val_main_call3_v1, val_main_call3_v0, val_main_call3_cst, val_main_call3_cst_0]
  rfl

/-- The batch's vectors. -/
theorem batch_at (l : Fin 2) (r : Fin 4) (n : Fin 12288) : val_main_v20 (F := Ideal) c w b (ix3 l r n)
    = entry (fun k => c (ix2 r k)) (fun k => w (ix3 l k n)) (b (ix2 l n)) := by
  fin_cases l
  · pointwise [val_main_v20, val_main_v19, val_main_v18]
    exact v8_at c w b r n
  · pointwise [val_main_v20, val_main_v19, val_main_v18]
    exact v17_at c w b r n

/-- The context's vectors. -/
theorem context_at (l : Fin 2) (n : Fin 12288) : val_main_v37 (F := Ideal) x w b (ix2 l n)
    = entry (fun k => x (ix1 k)) (fun k => w (ix3 l k n)) (b (ix2 l n)) := by
  fin_cases l
  · pointwise [val_main_v37, val_main_v36, val_main_v35]
    exact v27_at x w b n
  · pointwise [val_main_v37, val_main_v36, val_main_v35]
    exact v34_at x w b n

end Cert.AdaRef

end
-- ==== Proof.AdaAlgebraic.lean ====
/-
  The claims on the modulation vectors: the reference's frame, and that kernel and reference leave the same two arrays.
-/
module

public import proofs.«01_k».proof.Defs
public import proofs.«01_k».proof.Proof.Gen.AdaReferenceIdeal.Run
public import proofs.«01_k».proof.Proof.AdaRef
public import Idealize.ShloMosaic.Lib.Claim

@[expose] public section

set_option maxRecDepth 16384

noncomputable section

namespace Cert.AdaAlgebraic

open Idealize.ShloMosaic Idealize.ShloMosaic.TcCoe Idealize.SL.Sem

open Cert.AdaReferenceIdeal in
/-- The reference's frame: its run leaves the arguments, and its program has no semaphore. -/
theorem reference (m : (ℓ : Loc nD τ sig) → Buf (Elt Ideal) ℓ) (g : Dev nD → PrngReg) :
    θ_run defs (onTc (τ := τ) (main (F := Ideal))) ⟨m, fun _ => 0, g⟩
      fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3))
        ∧ r.2.sem = fun _ => 0 :=
  (θ_run _ _ _).mono (fun r h => ⟨fun c => (h c).2.2, sem_eq_zero_of_no_sems rfl r.2⟩) (Cert.AdaReferenceIdeal.Value.run m g)

open Cert.AdaReferenceIdeal in
/-- The reference's run, its results named one operation at a time. -/
theorem run_val (m : (ℓ : Loc nD τ sig) → Buf (Elt Ideal) ℓ) (ρ : Dev nD → PrngReg) :
    θ_run defs (onTc (τ := τ) (main (F := Ideal))) ⟨m, fun _ => 0, ρ⟩
      fun r => ∀ c : Dev nD, r.2.mem ((c.tc : Thread nD τ).loc main_v20)
          = Read.val_main_v20 (F := Ideal) (m ((c.tc : Thread nD τ).loc main_arg0)) (m ((c.tc : Thread nD τ).loc main_arg2)) (m ((c.tc : Thread nD τ).loc main_arg3))
        ∧ r.2.mem ((c.tc : Thread nD τ).loc main_v37)
          = Read.val_main_v37 (F := Ideal) (m ((c.tc : Thread nD τ).loc main_arg1)) (m ((c.tc : Thread nD τ).loc main_arg2)) (m ((c.tc : Thread nD τ).loc main_arg3)) :=
  (θ_run _ _ _).mono (fun r h c => ⟨(h c).1.trans (Read.val_main_v20_eq _ _ _), (h c).2.1.trans (Read.val_main_v37_eq _ _ _)⟩) (Value.run m ρ)

section slices

open Cert.AdaIdeal Cert.AdaIdeal.Gen

/-- The batch's rows of an array, at an index. -/
theorem batch_rows (z : FVec Ideal S2x8x12288 .f32) (l : Fin 2) (r : Fin 4) (n : Fin 12288) :
    extractStridedSlice S2x4x12288 ![0, 0, 0] z slices_S2x8x12288_S2x4x12288_0_0_0 (ix3 l r n) = z (ix3 l ⟨r.val, by omega⟩ n) := by
  pointwise

/-- The context's row of an array, at an index. -/
theorem context_row (z : FVec Ideal S2x8x12288 .f32) (l : Fin 2) (n : Fin 12288) :
    shapeCast S2x12288 (extractStridedSlice S2x1x12288 ![0, 4, 0] z slices_S2x8x12288_S2x1x12288_0_4_0) shapeCasts_S2x1x12288_S2x12288 (ix2 l n)
      = z (ix3 l 4 n) := by
  pointwise

end slices

theorem ada : Cert.algebraic_AdaIdeal_AdaReferenceIdeal (hAdaIdeal := Cert.AdaIdeal.Gen.facts)
    (hAdaReferenceIdeal := Cert.AdaReferenceIdeal.Gen.facts) := by
  pair_intro
  · run_from Cert.AdaRun.run m g
  · run_from run_val m' g' & Cert.AdaReferenceIdeal.Value.run m' g'
    · rw [Cert.AdaRun.array]
      funext i
      obtain ⟨l, r, n, rfl⟩ : ∃ (l : Fin 2) (r : Fin 4) (n : Fin 12288), i = ix3 l r n := ⟨i 0, i 1, i 2, by blk_ext []⟩
      refine (Cert.AdaRef.batch_at _ _ _ l r n).trans ((batch_rows _ l r n).trans ?_).symm
      exact congrArg (fun f => Cert.AdaRun.entry f _ _) (funext fun k => Cert.AdaRun.rows_at _ _ r k)
    · rw [Cert.AdaRun.array]
      funext i
      obtain ⟨l, n, rfl⟩ : ∃ (l : Fin 2) (n : Fin 12288), i = ix2 l n := ⟨i 0, i 1, by blk_ext []⟩
      refine (Cert.AdaRef.context_at _ _ _ l n).trans ((context_row _ l n).trans ?_).symm
      exact congrArg (fun f => Cert.AdaRun.entry f _ _) (funext fun k => Cert.AdaRun.rows_last _ _ k)

end Cert.AdaAlgebraic

end
-- ==== Proof.ProjTarget.lean ====
/-
  The input projection's mathematics: a column of the projected row, and the latent attention's values from the
  normed latent columns.
-/
module

public import proofs.«01_k».proof.Proof.FfnMath

@[expose] public section

noncomputable section

namespace Cert.ProjTarget

open Idealize.ShloMosaic Cert.FfnMath

/-- The latent row's width. -/
def latentWidth : EReal := Ideal.ofBits .f32 0x43000000#32

/-- A row over the root of its mean square, scaled. -/
def rms (p g : Fin 128 → EReal) (k : Fin 128) : EReal := p k * Ideal.rsqrt (Ideal.div (∑ i, p i * p i) latentWidth + eps) * g k

/-- Column `n` of the block of columns that starts at column `o`. -/
def off (o : ℕ) {k : ℕ} (h : o + k ≤ 4160) (n : Fin k) : Fin 4160 := ⟨o + n.val, by omega⟩

/-- The modulated row times a column of the weights. -/
def col (x sc sh : Fin 2048 → EReal) (w : Fin 2048 → Fin 4160 → EReal) (n : Fin 4160) : EReal := proj (modulated x sc sh) fun k => w k n

/-- The normed latent row times a column of the up-projection. -/
def up (p g : Fin 128 → EReal) (u : Fin 128 → Fin 1024 → EReal) (n : Fin 1024) : EReal := ∑ k, rms p g k * u k n

/-- Where the up-projection holds feature `n` of the values of all heads: behind the head's 128 key features. -/
def valueCol (n : Fin 512) : Fin 1024 := ⟨256 * (n.val / 128) + 128 + n.val % 128, by omega⟩

end Cert.ProjTarget

end
-- ==== Proof.ProjBody.lean ====
/-
  The input projection's body at an index, for the results that carry no rotary positions.
-/
module

public import proofs.«01_k».proof.Proof.Gen.ProjIdeal.Value
public import Idealize.ShloMosaic.Lib.Pipeline.ValueKit
public import proofs.«01_k».proof.Proof.ProjTarget

@[expose] public section

set_option maxRecDepth 16384

noncomputable section

namespace Cert.ProjRun

open Idealize.ShloMosaic Idealize.ShloMosaic.TcCoe Idealize.SL.Sem
open Cert.ProjIdeal Cert.ProjIdeal.Gen Cert.FfnMath Cert.ProjTarget

variable (h : FVec Ideal S256x2048 .bf16) (x0 : Vec Ideal S1x256x2048 .f32) (x1 x2 : Vec Ideal S1x1x2048 .f32)
  (x3 : Vec Ideal S1x2048x3136 .bf16) (x4 : Vec Ideal S1x2048x1024 .bf16) (x5 : Vec Ideal S6x256x128 .f32) (x6 : Vec Ideal S1x1x384 .f32)
  (x7 x8 x9 : Vec Ideal S1x1x128 .f32) (x10 : Vec Ideal S1x384x1024 .bf16) (x11 : Vec Ideal S1x128x1024 .bf16)

/-- The rows the body multiplies. -/
theorem hid_at (r : Fin 256) (k : Fin 2048) : k0_pay72 x0 x1 x2 x3 x4 x5 x6 x7 x8 x9 x10 x11 (ix2 r k)
    = modulated (fun k => x0 (ix3 0 r k)) (fun k => x2 (ix3 0 0 k)) (fun k => x1 (ix3 0 0 k)) k := by
  pointwise [k0_pay72, k0_pay3]
  rfl

/-- A column of the product over the weights' first block of columns. -/
theorem qa_dot (r : Fin 256) (n : Fin 512) : k0_pay70 h (View.ld x3 r0_39) (ix3 0 n r)
    = proj (fun k => h (ix2 r k)) fun k => x3 (ix3 0 k ⟨n.val, by omega⟩) := by
  pointwise [k0_pay70, k0_pay69]
  rfl

theorem ka_dot (r : Fin 256) (n : Fin 512) : k0_pay2 (k0_pay69 h (View.ld x3 r0_39)) (ix3 0 r n)
    = proj (fun k => h (ix2 r k)) fun k => x3 (ix3 0 k ⟨512 + n.val, by omega⟩) := by
  pointwise [k0_pay2, k0_pay69]
  rfl

theorem va_dot (r : Fin 256) (n : Fin 512) : k0_pay1 (k0_pay71 h (View.ld x3 r0_39)) (ix3 0 n r)
    = proj (fun k => h (ix2 r k)) fun k => x3 (ix3 0 k ⟨1024 + n.val, by omega⟩) := by
  pointwise [k0_pay1, k0_pay71, k0_pay69]
  rfl

theorem vb_dot (r n : Fin 256) : k0_pay68 (k0_pay56 h (View.ld x3 r0_38)) (ix3 0 n r)
    = proj (fun k => h (ix2 r k)) fun k => x3 (ix3 0 k ⟨2304 + n.val, by omega⟩) := by
  pointwise [k0_pay68, k0_pay56]
  exact Finset.sum_congr rfl fun k _ => congrArg (fun z => (h (ix2 r k) * x3 (ix3 0 k z) : EReal)) (Fin.ext (by show 1536 + (768 + n.val) = 2304 + n.val; omega))

theorem vd_dot (r n : Fin 256) : k0_pay23 (k0_pay10 h (View.ld x4 r0_8)) (ix3 0 n r)
    = proj (fun k => h (ix2 r k)) fun k => x4 (ix3 0 k ⟨768 + n.val, by omega⟩) := by
  pointwise [k0_pay23, k0_pay10]
  rfl

/-- The latent columns the values come from. -/
theorem latent_dot (r : Fin 256) (k : Fin 128) : k0_pay26 h (View.ld x3 r0_17) (ix2 r k)
    = proj (fun k => h (ix2 r k)) fun i => x3 (ix3 0 i ⟨2944 + k.val, by omega⟩) := by
  pointwise [k0_pay26, k0_pay24]
  exact Finset.sum_congr rfl fun i _ => congrArg (fun z => (h (ix2 r i) * x3 (ix3 0 i z) : EReal)) (Fin.ext (by show 2560 + (384 + k.val) = 2944 + k.val; omega))

theorem up_dot (p : FVec Ideal S256x128 .f32) (r : Fin 256) (n : Fin 1024) : k0_pay30 p (k0_pay27 (View.ld x7 r0_9)) (View.ld x11 r0_21) (ix2 r n)
    = up (fun k => p (ix2 r k)) (fun k => x7 (ix3 0 0 k)) (fun k n => x11 (ix3 0 k n)) n := by
  pointwise [k0_pay30, k0_pay27]
  rfl

/-- The four heads' values in the block that holds them one head after the other. -/
theorem heads (y : S1x512x256.Idx) : out0_20 x0 x1 x2 x3 x4 x5 x6 x7 x8 x9 x10 x11 y
    = k0_pay83 x0 x1 x2 x3 x4 x5 x6 x7 x8 x9 x10 x11 (ix2 (y 2) (valueCol (y 1))) := by
  unfold out0_20
  generalize k0_pay83 x0 x1 x2 x3 x4 x5 x6 x7 x8 x9 x10 x11 = u
  refine View.canon_apply_of_pieces (Val := Elt Ideal) (fun y : S1x512x256.Idx => u (ix2 (y 2) (valueCol (y 1)))) _ (fun p hp z => ?_) y (cover0_20 _ _ _ _ y)
  simp only [List.mem_cons, List.not_mem_nil, or_false] at hp
  rcases hp with rfl | rfl | rfl | rfl
  · obtain ⟨d, r, rfl⟩ : ∃ (d : Fin 128) (r : Fin 256), z = ix3 0 d r := ⟨z 1, z 2, by blk_ext []⟩
    refine (show k0_pay55 u (ix3 0 d r) = u (ix2 r ⟨896 + d.val, by omega⟩) by pointwise [k0_pay55]).trans ?_
    exact congrArg₂ (fun a b => u (ix2 a b)) (Fin.ext (by show r.val = 0 + 1 * r.val; omega)) (Fin.ext (by show 896 + d.val = 256 * ((384 + 1 * d.val) / 128) + 128 + (384 + 1 * d.val) % 128; omega))
  · obtain ⟨d, r, rfl⟩ : ∃ (d : Fin 128) (r : Fin 256), z = ix3 0 d r := ⟨z 1, z 2, by blk_ext []⟩
    refine (show k0_pay49 u (ix3 0 d r) = u (ix2 r ⟨640 + d.val, by omega⟩) by pointwise [k0_pay49]).trans ?_
    exact congrArg₂ (fun a b => u (ix2 a b)) (Fin.ext (by show r.val = 0 + 1 * r.val; omega)) (Fin.ext (by show 640 + d.val = 256 * ((256 + 1 * d.val) / 128) + 128 + (256 + 1 * d.val) % 128; omega))
  · obtain ⟨d, r, rfl⟩ : ∃ (d : Fin 128) (r : Fin 256), z = ix3 0 d r := ⟨z 1, z 2, by blk_ext []⟩
    refine (show k0_pay43 u (ix3 0 d r) = u (ix2 r ⟨384 + d.val, by omega⟩) by pointwise [k0_pay43]).trans ?_
    exact congrArg₂ (fun a b => u (ix2 a b)) (Fin.ext (by show r.val = 0 + 1 * r.val; omega)) (Fin.ext (by show 384 + d.val = 256 * ((128 + 1 * d.val) / 128) + 128 + (128 + 1 * d.val) % 128; omega))
  · obtain ⟨d, r, rfl⟩ : ∃ (d : Fin 128) (r : Fin 256), z = ix3 0 d r := ⟨z 1, z 2, by blk_ext []⟩
    refine (show k0_pay35 u (ix3 0 d r) = u (ix2 r ⟨128 + d.val, by omega⟩) by pointwise [k0_pay35]).trans ?_
    exact congrArg₂ (fun a b => u (ix2 a b)) (Fin.ext (by show r.val = 0 + 1 * r.val; omega)) (Fin.ext (by show 128 + d.val = 256 * ((0 + 1 * d.val) / 128) + 128 + (0 + 1 * d.val) % 128; omega))

/-- The body's modulated row `r` times a column of weights. -/
def blockCol (r : Fin 256) (w : Fin 2048 → EReal) : EReal :=
  proj (modulated (fun k => x0 (ix3 0 r k)) (fun k => x2 (ix3 0 0 k)) fun k => x1 (ix3 0 0 k)) w

theorem rows (r : Fin 256) (w : Fin 2048 → EReal) :
    proj (fun k => k0_pay72 x0 x1 x2 x3 x4 x5 x6 x7 x8 x9 x10 x11 (ix2 r k)) w = blockCol x0 x1 x2 r w :=
  congrArg (fun f => proj f w) (funext fun k => hid_at x0 x1 x2 x3 x4 x5 x6 x7 x8 x9 x10 x11 r k)

theorem qa_block (r : Fin 256) (n : Fin 512) : out0_12 x0 x1 x2 x3 x4 x5 x6 x7 x8 x9 x10 x11 (ix3 0 n r)
    = blockCol x0 x1 x2 r fun k => x3 (ix3 0 k ⟨n.val, by omega⟩) := by
  unfold out0_12
  rw [View.canon_unit_zero (by decide), qa_dot, rows]

theorem ka_block (r : Fin 256) (n : Fin 512) : out0_13 x0 x1 x2 x3 x4 x5 x6 x7 x8 x9 x10 x11 (ix3 0 r n)
    = blockCol x0 x1 x2 r fun k => x3 (ix3 0 k ⟨512 + n.val, by omega⟩) := by
  unfold out0_13
  rw [View.canon_unit_zero (by decide), ka_dot, rows]

theorem va_block (r : Fin 256) (n : Fin 512) : out0_14 x0 x1 x2 x3 x4 x5 x6 x7 x8 x9 x10 x11 (ix3 0 n r)
    = blockCol x0 x1 x2 r fun k => x3 (ix3 0 k ⟨1024 + n.val, by omega⟩) := by
  unfold out0_14
  rw [View.canon_unit_zero (by decide), va_dot, rows]

theorem vb_block (r n : Fin 256) : out0_17 x0 x1 x2 x3 x4 x5 x6 x7 x8 x9 x10 x11 (ix3 0 n r)
    = blockCol x0 x1 x2 r fun k => x3 (ix3 0 k ⟨2304 + n.val, by omega⟩) := by
  unfold out0_17 k0_pay84
  rw [View.canon_unit_zero (by decide), vb_dot, rows]

theorem vd_block (r n : Fin 256) : out0_23 x0 x1 x2 x3 x4 x5 x6 x7 x8 x9 x10 x11 (ix3 0 n r)
    = blockCol x0 x1 x2 r fun k => x4 (ix3 0 k ⟨768 + n.val, by omega⟩) := by
  unfold out0_23 k0_pay79
  rw [View.canon_unit_zero (by decide), vd_dot, rows]

theorem vc_block (r : Fin 256) (n : Fin 512) : out0_20 x0 x1 x2 x3 x4 x5 x6 x7 x8 x9 x10 x11 (ix3 0 n r)
    = up (fun k => blockCol x0 x1 x2 r fun i => x3 (ix3 0 i ⟨2944 + k.val, by omega⟩)) (fun k => x7 (ix3 0 0 k))
      (fun k n => x11 (ix3 0 k n)) (valueCol n) := by
  refine (heads x0 x1 x2 x3 x4 x5 x6 x7 x8 x9 x10 x11 (ix3 0 n r)).trans ?_
  show k0_pay83 x0 x1 x2 x3 x4 x5 x6 x7 x8 x9 x10 x11 (ix2 r (valueCol n)) = _
  unfold k0_pay83
  rw [up_dot]
  simp only [latent_dot, rows]

end Cert.ProjRun

end
-- ==== Proof.ProjRun.lean ====
/-
  The input projection's windows as parts of the argument arrays, and the results of its run that carry no rotary
  positions.
-/
module

public import proofs.«01_k».proof.Proof.ProjBody
public import Idealize.ShloMosaic.Lib.StableHlo.RunRead

@[expose] public section

set_option maxRecDepth 16384

noncomputable section

namespace Cert.ProjRun

open Idealize.ShloMosaic Idealize.ShloMosaic.TcCoe Idealize.SL.Sem
open Cert.ProjIdeal Cert.ProjIdeal.Gen Cert.FfnMath Cert.ProjTarget

variable (m : (ℓ : Loc nD τ sig) → Buf (Elt Ideal) ℓ)

/-- The block each window reads or writes at point `t`. -/
theorem idx : ∀ t : Fin cfg0.N, win0_0.index t = ![t.val / 16, t.val % 16, 0] ∧ win0_1.index t = ![t.val / 16, 0, 0]
    ∧ win0_2.index t = ![t.val / 16, 0, 0] ∧ win0_3.index t = ![1, 0, 0] ∧ win0_4.index t = ![1, 0, 0]
    ∧ win0_7.index t = ![1, 0, 0] ∧ win0_11.index t = ![1, 0, 0] ∧ win0_12.index t = ![t.val / 16, 0, t.val % 16]
    ∧ win0_13.index t = ![t.val / 16, t.val % 16, 0] ∧ win0_14.index t = ![t.val / 16, 0, t.val % 16]
    ∧ win0_17.index t = ![t.val / 16, 0, t.val % 16] ∧ win0_20.index t = ![t.val / 16, 0, t.val % 16]
    ∧ win0_23.index t = ![t.val / 16, 0, t.val % 16] ∧ t.val < 64 :=
  (by decide +kernel : ∀ t : Fin grid0.N, _)

/-- The batch entry of point `t`, and the row of the sequence that is row `r` of its block. -/
abbrev bat (t : Fin cfg0.N) : Fin 4 := ⟨t.val / 16, by have := (idx t).2.2.2.2.2.2.2.2.2.2.2.2.2; omega⟩
abbrev seq (t : Fin cfg0.N) (r : Fin 256) : Fin 4096 := ⟨256 * (t.val % 16) + r.val, by omega⟩

/-- The arguments, as arrays of their shapes. -/
abbrev X (c : Dev nD) : FVec Ideal S4x4096x2048 .f32 := m ((c : Thread nD τ).loc main_arg0)
abbrev SH (c : Dev nD) : FVec Ideal S4x1x2048 .f32 := m ((c : Thread nD τ).loc main_arg1)
abbrev SC (c : Dev nD) : FVec Ideal S4x1x2048 .f32 := m ((c : Thread nD τ).loc main_arg2)
abbrev W (c : Dev nD) : FVec Ideal S2x2048x4160 .f32 := m ((c : Thread nD τ).loc main_arg3)
abbrev G (c : Dev nD) : FVec Ideal S2x128 .f32 := m ((c : Thread nD τ).loc main_arg5)
abbrev U (c : Dev nD) : FVec Ideal S2x128x1024 .f32 := m ((c : Thread nD τ).loc main_arg7)

theorem x_at (c : Dev nD) (t : Fin cfg0.N) (r : Fin 256) (k : Fin 2048) : iblk m c 0 t (ix3 0 r k) = X m c (ix3 (bat t) (seq t r) k) := by
  blk_simp [iblk]
  entry_read
  pointwise
  blk_ext [idx t]

theorem sh_at (c : Dev nD) (t : Fin cfg0.N) (k : Fin 2048) : iblk m c 1 t (ix3 0 0 k) = SH m c (ix3 (bat t) 0 k) := by
  blk_simp [iblk]
  entry_read
  pointwise
  blk_ext [idx t]

theorem sc_at (c : Dev nD) (t : Fin cfg0.N) (k : Fin 2048) : iblk m c 2 t (ix3 0 0 k) = SC m c (ix3 (bat t) 0 k) := by
  blk_simp [iblk]
  entry_read
  pointwise
  blk_ext [idx t]

/-- The arrays the first host lines leave: no later line writes them. -/
theorem V_of (c : Dev nD) (b : Ref sig .tc) (hb : b = main_v1 ∨ b = main_v2 ∨ b = main_v10) :
    Gen.V m c b = StableHlo.after hostOps0 (fun b => m (c, b)) (Proc.devRef .tc b) := by
  unfold V
  rw [List.flatten_cons, StableHlo.after_append]
  refine StableHlo.after_of_forall_not_mem (b := Proc.devRef .tc b) _ _ (List.forall_iff_forall_mem.mp ?_)
  simp only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by rcases hb with rfl | rfl | rfl <;> decide)

theorem entry_w (c : Dev nD) : Gen.V m c main_v1 = extractStridedSlice S2x2048x3136 ![0, 0, 0] (truncf .bf16 (W m c) Facts₀.bitsLt_bf16_f32) Facts₀.slices_S2x2048x4160_S2x2048x3136_0_0_0 := by
  rw [V_of m c _ (by simp)]
  unfold hostOps0
  after_reads_simp

theorem entry_wd (c : Dev nD) : Gen.V m c main_v2 = extractStridedSlice S2x2048x1024 ![0, 0, 3136] (truncf .bf16 (W m c) Facts₀.bitsLt_bf16_f32) Facts₀.slices_S2x2048x4160_S2x2048x1024_0_0_3136 := by
  rw [V_of m c _ (by simp)]
  unfold hostOps0
  after_reads_simp

theorem entry_g (c : Dev nD) : Gen.V m c main_v10 = broadcastInDim S2x1x128 ![0, 2] Facts₀.bcast_S2x128_S2x1x128_0_2 (G m c) := by
  rw [V_of m c _ (by simp)]
  unfold hostOps0
  after_reads_simp

theorem w_cols (w : FVec Ideal S2x2048x4160 .f32) (k : Fin 2048) (n : Fin 3136) : extractStridedSlice S2x2048x3136 ![0, 0, 0] (truncf .bf16 w Facts₀.bitsLt_bf16_f32)
    Facts₀.slices_S2x2048x4160_S2x2048x3136_0_0_0 (ix3 1 k n) = w (ix3 1 k ⟨n.val, by omega⟩) := by
  pointwise

theorem wd_cols (w : FVec Ideal S2x2048x4160 .f32) (k : Fin 2048) (n : Fin 1024) : extractStridedSlice S2x2048x1024 ![0, 0, 3136] (truncf .bf16 w Facts₀.bitsLt_bf16_f32)
    Facts₀.slices_S2x2048x4160_S2x2048x1024_0_0_3136 (ix3 1 k n) = w (ix3 1 k ⟨3136 + n.val, by omega⟩) := by
  pointwise

theorem g_row (g : FVec Ideal S2x128 .f32) (k : Fin 128) : broadcastInDim S2x1x128 ![0, 2] Facts₀.bcast_S2x128_S2x1x128_0_2 g (ix3 1 0 k) = g (ix2 1 k) := by
  pointwise

theorem w_blk (c : Dev nD) (t : Fin cfg0.N) (k : Fin 2048) (n : Fin 3136) (A : FVec Ideal S2x2048x3136 .bf16) (hA : Gen.V m c main_v1 = A) : iblk m c 3 t (ix3 0 k n) = A (ix3 1 k n) := by
  have h : V m c (Pipeline.arrRef spec0 3) = A := hA
  have e : ((cfg0.win 3).blk t).view.emb (ix3 0 k n) = ix3 1 k n := by blk_ext [idx t]
  unfold iblk
  rw [h]
  exact congrArg A e

theorem wd_blk (c : Dev nD) (t : Fin cfg0.N) (k : Fin 2048) (n : Fin 1024) (A : FVec Ideal S2x2048x1024 .bf16) (hA : Gen.V m c main_v2 = A) : iblk m c 4 t (ix3 0 k n) = A (ix3 1 k n) := by
  have h : V m c (Pipeline.arrRef spec0 4) = A := hA
  have e : ((cfg0.win 4).blk t).view.emb (ix3 0 k n) = ix3 1 k n := by blk_ext [idx t]
  unfold iblk
  rw [h]
  exact congrArg A e

theorem g_blk (c : Dev nD) (t : Fin cfg0.N) (k : Fin 128) (A : FVec Ideal S2x1x128 .f32) (hA : Gen.V m c main_v10 = A) : iblk m c 7 t (ix3 0 0 k) = A (ix3 1 0 k) := by
  have h : V m c (Pipeline.arrRef spec0 7) = A := hA
  have e : ((cfg0.win 7).blk t).view.emb (ix3 0 0 k) = ix3 1 0 k := by blk_ext [idx t]
  unfold iblk
  rw [h]
  exact congrArg A e

theorem w_at (c : Dev nD) (t : Fin cfg0.N) (k : Fin 2048) (n : Fin 3136) : iblk m c 3 t (ix3 0 k n) = W m c (ix3 1 k ⟨n.val, by omega⟩) :=
  (w_blk m c t k n _ (entry_w m c)).trans (w_cols _ k n)

theorem wd_at (c : Dev nD) (t : Fin cfg0.N) (k : Fin 2048) (n : Fin 1024) : iblk m c 4 t (ix3 0 k n) = W m c (ix3 1 k ⟨3136 + n.val, by omega⟩) :=
  (wd_blk m c t k n _ (entry_wd m c)).trans (wd_cols _ k n)

theorem g_at (c : Dev nD) (t : Fin cfg0.N) (k : Fin 128) : iblk m c 7 t (ix3 0 0 k) = G m c (ix2 1 k) :=
  (g_blk m c t k _ (entry_g m c)).trans (g_row _ k)

theorem u_at (c : Dev nD) (t : Fin cfg0.N) (k : Fin 128) (n : Fin 1024) : iblk m c 11 t (ix3 0 k n) = U m c (ix3 1 k n) := by
  blk_simp [iblk]
  entry_read
  pointwise
  blk_ext [idx t]

/-! ## The run's results -/

/-- A column of the last layer's projection, at an index of the argument arrays. -/
def colAt (x : FVec Ideal S4x4096x2048 .f32) (sh sc : FVec Ideal S4x1x2048 .f32) (w : FVec Ideal S2x2048x4160 .f32)
    (b : Fin 4) (j : Fin 4096) (n : Fin 4160) : EReal :=
  col (fun k => x (ix3 b j k)) (fun k => sc (ix3 b 0 k)) (fun k => sh (ix3 b 0 k)) (fun k n => w (ix3 1 k n)) n

/-- A column of the latent attention's up-projection. -/
def upAt (x : FVec Ideal S4x4096x2048 .f32) (sh sc : FVec Ideal S4x1x2048 .f32) (w : FVec Ideal S2x2048x4160 .f32)
    (g : FVec Ideal S2x128 .f32) (u : FVec Ideal S2x128x1024 .f32) (b : Fin 4) (j : Fin 4096) (n : Fin 1024) : EReal :=
  up (fun k => colAt x sh sc w b j (off 2944 (by decide) k)) (fun k => g (ix2 1 k)) (fun k n => u (ix3 1 k n)) n

/-- A row of point `t`'s block times a column of the weights. -/
theorem blockCol_at (c : Dev nD) (t : Fin cfg0.N) (r : Fin 256) (w : Fin 2048 → EReal) (n : Fin 4160) (hw : ∀ k, w k = W m c (ix3 1 k n)) :
    blockCol (iblk m c 0 t) (iblk m c 1 t) (iblk m c 2 t) r w = colAt (X m c) (SH m c) (SC m c) (W m c) (bat t) (seq t r) n := by
  unfold blockCol
  simp only [x_at, sh_at, sc_at]
  rw [funext hw]
  rfl

theorem qa_final (c : Dev nD) : (dats m 0 c).arrAt 12 cfg0.N
    = fun i : S4x512x4096.Idx => colAt (X m c) (SH m c) (SC m c) (W m c) (i 0) (i 2) (off 0 (by decide) (i 1 : Fin 512)) := by
  refine (dats m 0 c).arrAt_eq_of_covers 12 _ (by decide +kernel) fun t _ y => ?_
  blk_simp
  rw [after0_12]
  obtain ⟨n, r, rfl⟩ : ∃ (n : Fin 512) (r : Fin 256), y = ix3 0 n r := ⟨y 1, y 2, by blk_ext []⟩
  have e0 : (win0_12.blk t).view.emb (ix3 0 n r) = ix3 (bat t) n (seq t r) := by
    blk_ext [idx t]
  rw [e0, qa_block]
  refine blockCol_at m c t r _ _ fun k => (w_at m c t k _).trans ?_
  exact congrArg (fun z => W m c (ix3 1 k z)) (Fin.ext (by show n.val = 0 + n.val; omega))

theorem ka_final (c : Dev nD) : (dats m 0 c).arrAt 13 cfg0.N
    = fun i : S4x4096x512.Idx => colAt (X m c) (SH m c) (SC m c) (W m c) (i 0) (i 1) (off 512 (by decide) (i 2 : Fin 512)) := by
  refine (dats m 0 c).arrAt_eq_of_covers 13 _ (by decide +kernel) fun t _ y => ?_
  blk_simp
  rw [after0_13]
  obtain ⟨n, r, rfl⟩ : ∃ (n : Fin 512) (r : Fin 256), y = ix3 0 r n := ⟨y 2, y 1, by blk_ext []⟩
  have e0 : (win0_13.blk t).view.emb (ix3 0 r n) = ix3 (bat t) (seq t r) n := by
    blk_ext [idx t]
  rw [e0, ka_block]
  refine blockCol_at m c t r _ _ fun k => (w_at m c t k _).trans ?_
  exact congrArg (fun z => W m c (ix3 1 k z)) (Fin.ext (by show 512 + n.val = 512 + n.val; omega))

theorem va_final (c : Dev nD) : (dats m 0 c).arrAt 14 cfg0.N
    = fun i : S4x512x4096.Idx => colAt (X m c) (SH m c) (SC m c) (W m c) (i 0) (i 2) (off 1024 (by decide) (i 1 : Fin 512)) := by
  refine (dats m 0 c).arrAt_eq_of_covers 14 _ (by decide +kernel) fun t _ y => ?_
  blk_simp
  rw [after0_14]
  obtain ⟨n, r, rfl⟩ : ∃ (n : Fin 512) (r : Fin 256), y = ix3 0 n r := ⟨y 1, y 2, by blk_ext []⟩
  have e0 : (win0_14.blk t).view.emb (ix3 0 n r) = ix3 (bat t) n (seq t r) := by
    blk_ext [idx t]
  rw [e0, va_block]
  refine blockCol_at m c t r _ _ fun k => (w_at m c t k _).trans ?_
  exact congrArg (fun z => W m c (ix3 1 k z)) (Fin.ext (by show 1024 + n.val = 1024 + n.val; omega))

theorem vb_final (c : Dev nD) : (dats m 0 c).arrAt 17 cfg0.N
    = fun i : S4x256x4096.Idx => colAt (X m c) (SH m c) (SC m c) (W m c) (i 0) (i 2) (off 2304 (by decide) (i 1 : Fin 256)) := by
  refine (dats m 0 c).arrAt_eq_of_covers 17 _ (by decide +kernel) fun t _ y => ?_
  blk_simp
  rw [after0_17]
  obtain ⟨n, r, rfl⟩ : ∃ (n : Fin 256) (r : Fin 256), y = ix3 0 n r := ⟨y 1, y 2, by blk_ext []⟩
  have e0 : (win0_17.blk t).view.emb (ix3 0 n r) = ix3 (bat t) n (seq t r) := by
    blk_ext [idx t]
  rw [e0, vb_block]
  refine blockCol_at m c t r _ _ fun k => (w_at m c t k _).trans ?_
  exact congrArg (fun z => W m c (ix3 1 k z)) (Fin.ext (by show 2304 + n.val = 2304 + n.val; omega))

theorem vd_final (c : Dev nD) : (dats m 0 c).arrAt 23 cfg0.N
    = fun i : S4x256x4096.Idx => colAt (X m c) (SH m c) (SC m c) (W m c) (i 0) (i 2) (off 3904 (by decide) (i 1 : Fin 256)) := by
  refine (dats m 0 c).arrAt_eq_of_covers 23 _ (by decide +kernel) fun t _ y => ?_
  blk_simp
  rw [after0_23]
  obtain ⟨n, r, rfl⟩ : ∃ (n : Fin 256) (r : Fin 256), y = ix3 0 n r := ⟨y 1, y 2, by blk_ext []⟩
  have e0 : (win0_23.blk t).view.emb (ix3 0 n r) = ix3 (bat t) n (seq t r) := by
    blk_ext [idx t]
  rw [e0, vd_block]
  refine blockCol_at m c t r _ _ fun k => (wd_at m c t k _).trans ?_
  exact congrArg (fun z => W m c (ix3 1 k z)) (Fin.ext (by show 3136 + (768 + n.val) = 3904 + n.val; omega))

theorem vc_final (c : Dev nD) : (dats m 0 c).arrAt 20 cfg0.N
    = fun i : S4x512x4096.Idx => upAt (X m c) (SH m c) (SC m c) (W m c) (G m c) (U m c) (i 0) (i 2) (valueCol (i 1)) := by
  refine (dats m 0 c).arrAt_eq_of_covers 20 _ (by decide +kernel) fun t _ y => ?_
  blk_simp
  rw [after0_20]
  obtain ⟨n, r, rfl⟩ : ∃ (n : Fin 512) (r : Fin 256), y = ix3 0 n r := ⟨y 1, y 2, by blk_ext []⟩
  have e0 : (win0_20.blk t).view.emb (ix3 0 n r) = ix3 (bat t) n (seq t r) := by
    blk_ext [idx t]
  rw [e0, vc_block]
  have hp : (fun k : Fin 128 => blockCol (iblk m c 0 t) (iblk m c 1 t) (iblk m c 2 t) r fun i => iblk m c 3 t (ix3 0 i ⟨2944 + k.val, by omega⟩))
      = fun k => colAt (X m c) (SH m c) (SC m c) (W m c) (bat t) (seq t r) (off 2944 (by decide) k) :=
    funext fun k => blockCol_at m c t r _ _ fun i => w_at m c t i _
  refine (congrArg (fun p => up p _ _ (valueCol n)) hp).trans ?_
  simp only [g_at, u_at]
  rfl

/-- The run, of its results those without rotary positions. -/
theorem run (ρ : Dev nD → PrngReg) : θ_run defs (onTc (τ := τ) (main (F := Ideal))) ⟨m, fun _ => 0, ρ⟩ fun r => ∀ c : Dev nD,
      r.2.mem ((c : Thread nD τ).loc main_v83_0) = (fun i : S4x512x4096.Idx => colAt (X m c) (SH m c) (SC m c) (W m c) (i 0) (i 2) (off 0 (by decide) (i 1 : Fin 512)))
      ∧ r.2.mem ((c : Thread nD τ).loc main_v83_1) = (fun i : S4x4096x512.Idx => colAt (X m c) (SH m c) (SC m c) (W m c) (i 0) (i 1) (off 512 (by decide) (i 2 : Fin 512)))
      ∧ r.2.mem ((c : Thread nD τ).loc main_v83_2) = (fun i : S4x512x4096.Idx => colAt (X m c) (SH m c) (SC m c) (W m c) (i 0) (i 2) (off 1024 (by decide) (i 1 : Fin 512)))
      ∧ r.2.mem ((c : Thread nD τ).loc main_v83_5) = (fun i : S4x256x4096.Idx => colAt (X m c) (SH m c) (SC m c) (W m c) (i 0) (i 2) (off 2304 (by decide) (i 1 : Fin 256)))
      ∧ r.2.mem ((c : Thread nD τ).loc main_v83_8) = (fun i : S4x512x4096.Idx => upAt (X m c) (SH m c) (SC m c) (W m c) (G m c) (U m c) (i 0) (i 2) (valueCol (i 1)))
      ∧ r.2.mem ((c : Thread nD τ).loc main_v83_11) = (fun i : S4x256x4096.Idx => colAt (X m c) (SH m c) (SC m c) (W m c) (i 0) (i 2) (off 3904 (by decide) (i 1 : Fin 256)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run _ _ _).mono (fun r h c => by
    obtain ⟨h0, h1, h2, _, _, h5, _, _, h8, _, _, h11, ha⟩ := h c
    exact ⟨h0.trans (qa_final m c), h1.trans (ka_final m c), h2.trans (va_final m c), h5.trans (vb_final m c), h8.trans (vc_final m c), h11.trans (vd_final m c), ha⟩) (Value.run_blocks m ρ)

end Cert.ProjRun

end
-- ==== Proof.ProjRef.lean ====
/-
  The input projection's reference at an index: the same columns.
-/
module

public import proofs.«01_k».proof.Proof.Gen.ProjReferenceIdeal.Read
public import Idealize.ShloMosaic.Lib.Pipeline.ValueKit
public import proofs.«01_k».proof.Proof.ProjRun

@[expose] public section

set_option maxRecDepth 16384

noncomputable section

namespace Cert.ProjRef

open Idealize.ShloMosaic Idealize.ShloMosaic.TcCoe
open Cert.ProjReferenceIdeal Cert.ProjReferenceIdeal.Gen Cert.ProjReferenceIdeal.Read Cert.FfnMath Cert.ProjTarget Cert.ProjRun

variable (x : FVec Ideal S4x4096x2048 .f32) (sh sc : FVec Ideal S4x1x2048 .f32) (w : FVec Ideal S2x2048x4160 .f32)
  (g : FVec Ideal S2x128 .f32) (u : FVec Ideal S2x128x1024 .f32)

theorem v23_at (b : Fin 4) (j : Fin 4096) (n : Fin 2048) :
    val_main_v23 (F := Ideal) x sh sc (ix3 b j n)
      = modulated (fun k => x (ix3 b j k)) (fun k => sc (ix3 b 0 k)) (fun k => sh (ix3 b 0 k)) n := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4]
  rfl

/-- The projection's columns. -/
theorem v26_at (b : Fin 4) (j : Fin 4096) (n : Fin 4160) : val_main_v26 (F := Ideal) x sh sc w (ix3 b j n) = colAt x sh sc w b j n := by
  pointwise [val_main_v26, val_main_v25, val_main_v24]
  simp only [v23_at]
  rfl

theorem qa_at (b : Fin 4) (j : Fin 4096) (n : Fin 512) : val_main_v60 (F := Ideal) x sh sc w (ix3 b n j) = colAt x sh sc w b j (off 0 (by decide) n) := by
  pointwise [val_main_v60, val_main_v59, val_main_v27]
  rw [v26_at]
  exact congrArg _ (Fin.ext (by show n.val = 0 + n.val; omega))

theorem ka_at (b : Fin 4) (j : Fin 4096) (n : Fin 512) : val_main_v61 (F := Ideal) x sh sc w (ix3 b j n) = colAt x sh sc w b j (off 512 (by decide) n) := by
  pointwise [val_main_v61, val_main_v28]
  rw [v26_at]
  rfl

theorem va_at (b : Fin 4) (j : Fin 4096) (n : Fin 512) : val_main_v63 (F := Ideal) x sh sc w (ix3 b n j) = colAt x sh sc w b j (off 1024 (by decide) n) := by
  pointwise [val_main_v63, val_main_v62, val_main_v29]
  rw [v26_at]
  rfl

theorem vb_at (b : Fin 4) (j : Fin 4096) (n : Fin 256) : val_main_v65 (F := Ideal) x sh sc w (ix3 b n j) = colAt x sh sc w b j (off 2304 (by decide) n) := by
  pointwise [val_main_v65, val_main_v64, val_main_v32]
  rw [v26_at]
  rfl

theorem vd_at (b : Fin 4) (j : Fin 4096) (n : Fin 256) : val_main_v72 (F := Ideal) x sh sc w (ix3 b n j) = colAt x sh sc w b j (off 3904 (by decide) n) := by
  pointwise [val_main_v72, val_main_v71, val_main_v38]
  rw [v26_at]
  rfl

/-- The latent columns. -/
theorem v34_at (b : Fin 4) (j : Fin 4096) (k : Fin 128) : val_main_v34 (F := Ideal) x sh sc w (ix3 b j k) = colAt x sh sc w b j (off 2944 (by decide) k) := by
  pointwise [val_main_v34]
  rw [v26_at]
  rfl

theorem v53_at (b : Fin 4) (j : Fin 4096) (k : Fin 128) : val_main_v53 (F := Ideal) x sh sc w g (ix3 b j k)
    = rms (fun k => colAt x sh sc w b j (off 2944 (by decide) k)) (fun k => g (ix2 1 k)) k := by
  pointwise [val_main_v39, val_main_v40, val_main_v41, val_main_v42, val_main_v43, val_main_v44, val_main_v45, val_main_v46, val_main_v47, val_main_v48, val_main_v49, val_main_v50, val_main_v51, val_main_v52, val_main_v53, val_main_cst_5, val_main_cst_6, val_main_cst_7]
  simp only [v34_at]
  rfl

theorem v56_at (b : Fin 4) (j : Fin 4096) (n : Fin 1024) : val_main_v56 (F := Ideal) x sh sc w g u (ix3 b j n) = upAt x sh sc w g u b j n := by
  pointwise [val_main_v56, val_main_v55, val_main_v54]
  simp only [v53_at]
  rfl

theorem vc_at (b : Fin 4) (j : Fin 4096) (n : Fin 512) : val_main_v70 (F := Ideal) x sh sc w g u (ix3 b n j) = upAt x sh sc w g u b j (valueCol n) := by
  pointwise [val_main_v70, val_main_v69, val_main_v68, val_main_v67, val_main_v66, val_main_v58, val_main_v57]
  rw [v56_at]
  exact congrArg _ (Fin.ext (by show n.val / 128 * 256 + (128 + n.val % 128) = 256 * (n.val / 128) + 128 + n.val % 128; omega))

end Cert.ProjRef

end
-- ==== Proof.ProjAlgebraic.lean ====
/-
  The claims on the input projection: the reference's frame, and that kernel and reference leave the same arrays.
-/
module

public import proofs.«01_k».proof.Defs
public import proofs.«01_k».proof.Proof.Gen.ProjReferenceIdeal.Run
public import proofs.«01_k».proof.Proof.ProjRef
public import Idealize.ShloMosaic.Lib.Claim

@[expose] public section

set_option maxRecDepth 16384

noncomputable section

namespace Cert.ProjAlgebraic

open Idealize.ShloMosaic Idealize.ShloMosaic.TcCoe Idealize.SL.Sem

open Cert.ProjReferenceIdeal in
/-- The reference's frame: its run leaves the arguments, and its program has no semaphore. -/
theorem reference (m : (ℓ : Loc nD τ sig) → Buf (Elt Ideal) ℓ) (g : Dev nD → PrngReg) :
    θ_run defs (onTc (τ := τ) (main (F := Ideal))) ⟨m, fun _ => 0, g⟩
      fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) ∧
        r.2.mem ((c.tc : Thread nD τ).loc main_arg9) = m ((c.tc : Thread nD τ).loc main_arg9))
        ∧ r.2.sem = fun _ => 0 :=
  (θ_run _ _ _).mono (fun r h => ⟨fun c => (h c).2.2.2.2.2.2, sem_eq_zero_of_no_sems rfl r.2⟩) (Cert.ProjReferenceIdeal.Value.run m g)

open Cert.ProjReferenceIdeal in
/-- The reference's run, its results named one operation at a time. -/
theorem run_val (m : (ℓ : Loc nD τ sig) → Buf (Elt Ideal) ℓ) (ρ : Dev nD → PrngReg) :
    θ_run defs (onTc (τ := τ) (main (F := Ideal))) ⟨m, fun _ => 0, ρ⟩
      fun r => ∀ c : Dev nD, r.2.mem ((c.tc : Thread nD τ).loc main_v60) = Read.val_main_v60 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v61) = Read.val_main_v61 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v63) = Read.val_main_v63 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v65) = Read.val_main_v65 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v70) = Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7))
        ∧ r.2.mem ((c.tc : Thread nD τ).loc main_v72) = Read.val_main_v72 (F := Ideal) (m ((c.tc : Thread nD τ).loc main_arg0)) (m ((c.tc : Thread nD τ).loc main_arg1)) (m ((c.tc : Thread nD τ).loc main_arg2)) (m ((c.tc : Thread nD τ).loc main_arg3)) :=
  (θ_run _ _ _).mono (fun r h c => ⟨(h c).1.trans (Read.val_main_v60_eq _ _ _ _),
    (h c).2.1.trans (Read.val_main_v61_eq _ _ _ _),
    (h c).2.2.1.trans (Read.val_main_v63_eq _ _ _ _),
    (h c).2.2.2.1.trans (Read.val_main_v65_eq _ _ _ _),
    (h c).2.2.2.2.1.trans (Read.val_main_v70_eq _ _),
    (h c).2.2.2.2.2.1.trans (Read.val_main_v72_eq _ _ _ _)⟩) (Value.run m ρ)

section arrays

open Cert.ProjReferenceIdeal Cert.ProjReferenceIdeal.Read Cert.ProjTarget Cert.ProjRun

variable (x : FVec Ideal S4x4096x2048 .f32) (sh sc : FVec Ideal S4x1x2048 .f32) (w : FVec Ideal S2x2048x4160 .f32)
  (g : FVec Ideal S2x128 .f32) (u : FVec Ideal S2x128x1024 .f32)

/-- The neighbourhood attention's queries, whole. -/
theorem qa_whole : val_main_v60 (F := Ideal) x sh sc w = fun i : S4x512x4096.Idx => colAt x sh sc w (i 0) (i 2) (off 0 (by decide) (i 1 : Fin 512)) := by
  funext i
  obtain ⟨b, n, j, rfl⟩ : ∃ (b : Fin 4) (n : Fin 512) (j : Fin 4096), i = ix3 b n j := ⟨i 0, i 1, i 2, by blk_ext []⟩
  exact Cert.ProjRef.qa_at x sh sc w b j n

/-- Its keys, whole. -/
theorem ka_whole : val_main_v61 (F := Ideal) x sh sc w = fun i : S4x4096x512.Idx => colAt x sh sc w (i 0) (i 1) (off 512 (by decide) (i 2 : Fin 512)) := by
  funext i
  obtain ⟨b, j, n, rfl⟩ : ∃ (b : Fin 4) (j : Fin 4096) (n : Fin 512), i = ix3 b j n := ⟨i 0, i 1, i 2, by blk_ext []⟩
  exact Cert.ProjRef.ka_at x sh sc w b j n

/-- Its values, whole. -/
theorem va_whole : val_main_v63 (F := Ideal) x sh sc w = fun i : S4x512x4096.Idx => colAt x sh sc w (i 0) (i 2) (off 1024 (by decide) (i 1 : Fin 512)) := by
  funext i
  obtain ⟨b, n, j, rfl⟩ : ∃ (b : Fin 4) (n : Fin 512) (j : Fin 4096), i = ix3 b n j := ⟨i 0, i 1, i 2, by blk_ext []⟩
  exact Cert.ProjRef.va_at x sh sc w b j n

/-- The window attention's values, whole. -/
theorem vb_whole : val_main_v65 (F := Ideal) x sh sc w = fun i : S4x256x4096.Idx => colAt x sh sc w (i 0) (i 2) (off 2304 (by decide) (i 1 : Fin 256)) := by
  funext i
  obtain ⟨b, n, j, rfl⟩ : ∃ (b : Fin 4) (n : Fin 256) (j : Fin 4096), i = ix3 b n j := ⟨i 0, i 1, i 2, by blk_ext []⟩
  exact Cert.ProjRef.vb_at x sh sc w b j n

/-- The latent attention's values, whole. -/
theorem vc_whole : val_main_v70 (F := Ideal) x sh sc w g u = fun i : S4x512x4096.Idx => upAt x sh sc w g u (i 0) (i 2) (valueCol (i 1)) := by
  funext i
  obtain ⟨b, n, j, rfl⟩ : ∃ (b : Fin 4) (n : Fin 512) (j : Fin 4096), i = ix3 b n j := ⟨i 0, i 1, i 2, by blk_ext []⟩
  exact Cert.ProjRef.vc_at x sh sc w g u b j n

/-- The dense attention's values, whole. -/
theorem vd_whole : val_main_v72 (F := Ideal) x sh sc w = fun i : S4x256x4096.Idx => colAt x sh sc w (i 0) (i 2) (off 3904 (by decide) (i 1 : Fin 256)) := by
  funext i
  obtain ⟨b, n, j, rfl⟩ : ∃ (b : Fin 4) (n : Fin 256) (j : Fin 4096), i = ix3 b n j := ⟨i 0, i 1, i 2, by blk_ext []⟩
  exact Cert.ProjRef.vd_at x sh sc w b j n

end arrays

/-- Kernel and reference leave the same six arrays. -/
theorem proj : Cert.algebraic_ProjIdeal_ProjReferenceIdeal (hProjIdeal := Cert.ProjIdeal.Gen.facts)
    (hProjReferenceIdeal := Cert.ProjReferenceIdeal.Gen.facts) := by
  pair_intro
  · run_from Cert.ProjRun.run m g
  · run_from run_val m' g' & Cert.ProjReferenceIdeal.Value.run m' g'
    · exact qa_whole _ _ _ _
    · exact ka_whole _ _ _ _
    · exact va_whole _ _ _ _
    · exact vb_whole _ _ _ _
    · exact vc_whole _ _ _ _ _ _
    · exact vd_whole _ _ _ _

end Cert.ProjAlgebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.OutIdeal.Value
public import proofs.«01_k».proof.Proof.Gen.MlaIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.Pre_finite_mla
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Algebraic
public import proofs.«01_k».proof.Proof.FfnAlgebraic
public import proofs.«01_k».proof.Proof.FfnFrame
public import proofs.«01_k».proof.Proof.OutAlgebraic
public import proofs.«01_k».proof.Proof.MlaAlgebraic
public import proofs.«01_k».proof.Proof.AdaAlgebraic
public import proofs.«01_k».proof.Proof.ProjAlgebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run leaves the arguments, and its program has no semaphore. -/
theorem reference (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0 :=
  (θ_run _ _ _).mono (fun r h => ⟨fun c => (h c).2, sem_eq_zero_of_no_sems rfl r.2⟩) (Cert.ReferenceIdeal.Value.run m g)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Out.Gen.facts, Cert.OutIdeal.Gen.facts, Cert.OutReferenceIdeal.Gen.facts,
  Cert.Mla.Gen.facts, Cert.MlaIdeal.Gen.facts, Cert.MlaReferenceIdeal.Gen.facts,
  Cert.Ada.Gen.facts, Cert.AdaIdeal.Gen.facts, Cert.AdaReferenceIdeal.Gen.facts,
  Cert.Proj.Gen.facts, Cert.ProjIdeal.Gen.facts, Cert.ProjReferenceIdeal.Gen.facts,
  Cert.Pre_finite.Gen.facts, Cert.Pre_finite_ffn.Gen.facts, Cert.Pre_finite_mla.Gen.facts,
  fun m g _ => Cert.Kernel.Gen.frame m g, fun m g _ => Cert.KernelIdeal.Gen.frame m g,
  fun m g _ => Cert.KernelIdeal.Gen.frame m g, fun m g _ => reference m g, fun m g _ => reference m g,
  Cert.FfnFrame.kernel, fun m g _ => Cert.FfnIdeal.Hand.frame m g, fun m g _ => Cert.FfnIdeal.Hand.frame m g,
  fun m g _ => Cert.FfnFrame.reference m g, fun m g _ => Cert.FfnFrame.reference m g,
  fun m g _ => Cert.Out.Gen.frame m g, fun m g _ => Cert.OutIdeal.Gen.frame m g, fun m g _ => Cert.OutAlgebraic.reference m g,
  fun m g _ => Cert.Mla.Gen.frame m g, fun m g _ => Cert.MlaIdeal.Gen.frame m g, fun m g _ => Cert.MlaIdeal.Gen.frame m g,
  fun m g _ => Cert.MlaAlgebraic.reference m g, fun m g _ => Cert.MlaAlgebraic.reference m g,
  fun m g _ => Cert.Ada.Gen.frame m g, fun m g _ => Cert.AdaIdeal.Gen.frame m g, fun m g _ => Cert.AdaAlgebraic.reference m g,
  fun m g _ => Cert.Proj.Gen.frame m g, fun m g _ => Cert.ProjIdeal.Gen.frame m g, fun m g _ => Cert.ProjAlgebraic.reference m g,
  IdealRules.named_const.statement Cert.KernelIdeal.κ "scale_log2e" .f32 0x3E0293EE#32 _ rfl, Cert.Algebraic.dense,
  trivial, Cert.FfnAlgebraic.ffn,
  trivial, Cert.OutAlgebraic.out,
  IdealRules.named_const.statement Cert.MlaIdeal.κ "scale_mla_log2e" .f32 0x3DD53B95#32 _ rfl, Cert.MlaAlgebraic.mla,
  trivial, Cert.AdaAlgebraic.ada,
  trivial, Cert.ProjAlgebraic.proj⟩

end Cert.Proof

end
